-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "tree_sum" .f32 0x3FA66666#32 ((21810381 / 16777216 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x768 : Shape := ⟨3, ![1, 2048, 768]⟩
abbrev S_ : Shape := ⟨0, ![]⟩
abbrev S768x3072 : Shape := ⟨2, ![768, 3072]⟩
abbrev S1536x4 : Shape := ⟨2, ![1536, 4]⟩
abbrev S1536 : Shape := ⟨1, ![1536]⟩
abbrev S1536x80 : Shape := ⟨2, ![1536, 80]⟩
abbrev S48x1536 : Shape := ⟨2, ![48, 1536]⟩
abbrev S1536x16 : Shape := ⟨2, ![1536, 16]⟩
abbrev S1536x768 : Shape := ⟨2, ![1536, 768]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x3072 : S_.BroadcastsInDim S768x3072 (![] : Fin 0 → Fin S768x3072.rank)
  reducesTo_S768x3072_S_d0_1 : S768x3072.ReducesTo [0, 1] S_
  bcast_S_S1536x4 : S_.BroadcastsInDim S1536x4 (![] : Fin 0 → Fin S1536x4.rank)
  reducesTo_S1536x4_S_d0_1 : S1536x4.ReducesTo [0, 1] S_
  bcast_S_S1536 : S_.BroadcastsInDim S1536 (![] : Fin 0 → Fin S1536.rank)
  reducesTo_S1536_S_d0 : S1536.ReducesTo [0] S_
  bcast_S_S1536x80 : S_.BroadcastsInDim S1536x80 (![] : Fin 0 → Fin S1536x80.rank)
  reducesTo_S1536x80_S_d0_1 : S1536x80.ReducesTo [0, 1] S_
  bcast_S_S48x1536 : S_.BroadcastsInDim S48x1536 (![] : Fin 0 → Fin S48x1536.rank)
  reducesTo_S48x1536_S_d0_1 : S48x1536.ReducesTo [0, 1] S_

variable [Facts]

def fn_part1 {F : FTy → Type} [FloatOps F] (main_arg5 : FVec F S1536x80 .f32) (main_arg6 : FVec F S48x1536 .f32) (main_arg7 : FVec F S1536 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S1536x80 .f32 := Host.absf main_arg5
  let main_cst_6 : FVec F S_ .f32 := constant S_ .f32 0x7F800000#32
  let main_v20 : FVec F S1536x80 .f32 := broadcastInDim S1536x80 ![] bcast_S_S1536x80 main_cst_6
  let main_v21 : IVec S1536x80 1 := cmpf .olt main_v19 main_v20
  let main_c_7 : IVec S_ 1 := constantI S_ 1 1#1
  let main_v22 : IVec S_ 1 := (fun x v => Host.reduce IntOp.andi x v reducesTo_S1536x80_S_d0_1 h_S_) main_v21 main_c_7
  let main_v23 : IVec S_ 1 := andi main_v18 main_v22
  let main_v24 : FVec F S48x1536 .f32 := Host.absf main_arg6
  let main_cst_8 : FVec F S_ .f32 := constant S_ .f32 0x7F800000#32
  let main_v25 : FVec F S48x1536 .f32 := broadcastInDim S48x1536 ![] bcast_S_S48x1536 main_cst_8
  let main_v26 : IVec S48x1536 1 := cmpf .olt main_v24 main_v25
  let main_c_9 : IVec S_ 1 := constantI S_ 1 1#1
  let main_v27 : IVec S_ 1 := (fun x v => Host.reduce IntOp.andi x v reducesTo_S48x1536_S_d0_1 h_S_) main_v26 main_c_9
  let main_v28 : IVec S_ 1 := andi main_v23 main_v27
  let main_v29 : FVec F S1536 .f32 := Host.absf main_arg7
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  main_v33

def fn {F : FTy → Type} [FloatOps F] (main_arg0 : FVec F S1x2048x768 .f32) (main_arg1 : IVec S_ 32) (main_arg2 : FVec F S768x3072 .f32) (main_arg3 : FVec F S1536x4 .f32) (main_arg4 : FVec F S1536 .f32) (main_arg5 : FVec F S1536x80 .f32) (main_arg6 : FVec F S48x1536 .f32) (main_arg7 : FVec F S1536 .f32) (main_arg8 : FVec F S1536x16 .f32) (main_arg9 : FVec F S1536 .f32) (main_arg10 : FVec F S1536x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x3072 .f32 := Host.absf main_arg2
  let main_cst_0 : FVec F S_ .f32 := constant S_ .f32 0x7F800000#32
  let main_v5 : FVec F S768x3072 .f32 := broadcastInDim S768x3072 ![] bcast_S_S768x3072 main_cst_0
  let main_v6 : IVec S768x3072 1 := cmpf .olt main_v4 main_v5
  let main_c_1 : IVec S_ 1 := constantI S_ 1 1#1
  let main_v7 : IVec S_ 1 := (fun x v => Host.reduce IntOp.andi x v reducesTo_S768x3072_S_d0_1 h_S_) main_v6 main_c_1
  let main_v8 : IVec S_ 1 := andi main_v3 main_v7
  let main_v9 : FVec F S1536x4 .f32 := Host.absf main_arg3
  let main_cst_2 : FVec F S_ .f32 := constant S_ .f32 0x7F800000#32
  let main_v10 : FVec F S1536x4 .f32 := broadcastInDim S1536x4 ![] bcast_S_S1536x4 main_cst_2
  let main_v11 : IVec S1536x4 1 := cmpf .olt main_v9 main_v10
  let main_c_3 : IVec S_ 1 := constantI S_ 1 1#1
  let main_v12 : IVec S_ 1 := (fun x v => Host.reduce IntOp.andi x v reducesTo_S1536x4_S_d0_1 h_S_) main_v11 main_c_3
  let main_v13 : IVec S_ 1 := andi main_v8 main_v12
  let main_v14 : FVec F S1536 .f32 := Host.absf main_arg4
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg5 main_arg6 main_arg7 main_v13 main_v16
-- ==== Kernel.lean ====
abbrev S1x2048x768 : Shape := ⟨3, ![1, 2048, 768]⟩
abbrev S_ : Shape := ⟨0, ![]⟩
abbrev S768x3072 : Shape := ⟨2, ![768, 3072]⟩
abbrev S1536x4 : Shape := ⟨2, ![1536, 4]⟩
abbrev S1536 : Shape := ⟨1, ![1536]⟩
abbrev S1536x80 : Shape := ⟨2, ![1536, 80]⟩
abbrev S48x1536 : Shape := ⟨2, ![48, 1536]⟩
abbrev S1536x16 : Shape := ⟨2, ![1536, 16]⟩
abbrev S1536x768 : Shape := ⟨2, ![1536, 768]⟩
abbrev S2048x768 : Shape := ⟨2, ![2048, 768]⟩
abbrev S4x1536 : Shape := ⟨2, ![4, 1536]⟩
abbrev S16x1536 : Shape := ⟨2, ![16, 1536]⟩
abbrev S1x1536 : Shape := ⟨2, ![1, 1536]⟩
abbrev S2048x1536 : Shape := ⟨2, ![2048, 1536]⟩
abbrev S2048x32 : Shape := ⟨2, ![2048, 32]⟩
abbrev S256x768 : Shape := ⟨2, ![256, 768]⟩
abbrev S256x1536 : Shape := ⟨2, ![256, 1536]⟩
abbrev S256x32 : Shape := ⟨2, ![256, 32]⟩
abbrev S3x1536 : Shape := ⟨2, ![3, 1536]⟩
abbrev S256x3072 : Shape := ⟨2, ![256, 3072]⟩
abbrev S259x1536 : Shape := ⟨2, ![259, 1536]⟩
abbrev S256x80 : Shape := ⟨2, ![256, 80]⟩
abbrev S256x48 : Shape := ⟨2, ![256, 48]⟩
abbrev S1x32 : Shape := ⟨2, ![1, 32]⟩
abbrev S32x1 : Shape := ⟨2, ![32, 1]⟩
abbrev S16x1 : Shape := ⟨2, ![16, 1]⟩
abbrev S256x16 : Shape := ⟨2, ![256, 16]⟩
abbrev S256 : Shape := ⟨1, ![256]⟩
abbrev S256x1 : Shape := ⟨2, ![256, 1]⟩

abbrev nBuf : Space → Nat
  | .hbm => 26
  | .vmem => 40
  | .smem => 0
  | _ => 0

abbrev bufTy : (tb : Table) → Fin (tcTables nBuf tb) → BufTy
  | .hbm, ⟨0, _⟩ => ⟨S1x2048x768, .f32⟩
  | .hbm, ⟨1, _⟩ => ⟨S_, .i32⟩
  | .hbm, ⟨2, _⟩ => ⟨S768x3072, .f32⟩
  | .hbm, ⟨3, _⟩ => ⟨S1536x4, .f32⟩
  | .hbm, ⟨4, _⟩ => ⟨S1536, .f32⟩
  | .hbm, ⟨5, _⟩ => ⟨S1536x80, .f32⟩
  | .hbm, ⟨6, _⟩ => ⟨S48x1536, .f32⟩
  | .hbm, ⟨7, _⟩ => ⟨S1536, .f32⟩
  | .hbm, ⟨8, _⟩ => ⟨S1536x16, .f32⟩
  | .hbm, ⟨9, _⟩ => ⟨S1536, .f32⟩
  | .hbm, ⟨10, _⟩ => ⟨S1536x768, .f32⟩
  | .hbm, ⟨11, _⟩ => ⟨S2048x768, .f32⟩
  | .hbm, ⟨12, _⟩ => ⟨S4x1536, .f32⟩
  | .hbm, ⟨13, _⟩ => ⟨S1536x16, .f32⟩
  | .hbm, ⟨14, _⟩ => ⟨S16x1536, .f32⟩
  | .hbm, ⟨15, _⟩ => ⟨S16x1536, .f32⟩
  | .hbm, ⟨16, _⟩ => ⟨S1x1536, .f32⟩
  | .hbm, ⟨17, _⟩ => ⟨S1x1536, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S2048x32, .f32⟩
  | .hbm, ⟨22, _⟩ => ⟨S2048x1536, .f32⟩
  | .hbm, ⟨23, _⟩ => ⟨S1x1536, .f32⟩
  | .hbm, ⟨24, _⟩ => ⟨S2048x768, .f32⟩
  | .hbm, ⟨25, _⟩ => ⟨S1x2048x768, .f32⟩
  | .local _ .vmem, ⟨0, _⟩ => ⟨S256x768, .f32⟩
  | .local _ .vmem, ⟨1, _⟩ => ⟨S256x768, .f32⟩
  | .local _ .vmem, ⟨2, _⟩ => ⟨S768x3072, .f32⟩
  | .local _ .vmem, ⟨3, _⟩ => ⟨S4x1536, .f32⟩
  | .local _ .vmem, ⟨4, _⟩ => ⟨S1x1536, .f32⟩
  | .local _ .vmem, ⟨5, _⟩ => ⟨S1536x80, .f32⟩
  | .local _ .vmem, ⟨6, _⟩ => ⟨S48x1536, .f32⟩
  | .local _ .vmem, ⟨7, _⟩ => ⟨S1x1536, .f32⟩
  | .local _ .vmem, ⟨8, _⟩ => ⟨S16x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x32, .f32⟩
  | .local _ .vmem, ⟨16, _⟩ => ⟨S256x32, .f32⟩
  | .local _ .vmem, ⟨17, _⟩ => ⟨S256x1536, .f32⟩
  | .local _ .vmem, ⟨18, _⟩ => ⟨S256x1536, .f32⟩
  | .local _ .vmem, ⟨19, _⟩ => ⟨S3x1536, .f32⟩
  | .local _ .vmem, ⟨20, _⟩ => ⟨S16x1536, .f32⟩
  | .local _ .vmem, ⟨21, _⟩ => ⟨S256x1536, .f32⟩
  | .local _ .vmem, ⟨22, _⟩ => ⟨S256x1536, .f32⟩
  | .local _ .vmem, ⟨23, _⟩ => ⟨S256x1536, .f32⟩
  | .local _ .vmem, ⟨24, _⟩ => ⟨S256x32, .f32⟩
  | .local _ .vmem, ⟨25, _⟩ => ⟨S256x32, .f32⟩
  | .local _ .vmem, ⟨26, _⟩ => ⟨S256x1536, .f32⟩
  | .local _ .vmem, ⟨27, _⟩ => ⟨S256x1536, .f32⟩
  | .local _ .vmem, ⟨28, _⟩ => ⟨S256x1536, .f32⟩
  | .local _ .vmem, ⟨29, _⟩ => ⟨S256x1536, .f32⟩
  | .local _ .vmem, ⟨30, _⟩ => ⟨S256x1536, .f32⟩
  | .local _ .vmem, ⟨31, _⟩ => ⟨S256x1536, .f32⟩
  | .local _ .vmem, ⟨32, _⟩ => ⟨S16x1536, .f32⟩
  | .local _ .vmem, ⟨33, _⟩ => ⟨S1x1536, .f32⟩
  | .local _ .vmem, ⟨34, _⟩ => ⟨S1536x768, .f32⟩
  | .local _ .vmem, ⟨35, _⟩ => ⟨S256x768, .f32⟩
  | .local _ .vmem, ⟨36, _⟩ => ⟨S256x768, .f32⟩
  | .local _ .vmem, ⟨37, _⟩ => ⟨S16x1536, .f32⟩
  | .local _ .vmem, ⟨38, _⟩ => ⟨S256x1536, .f32⟩
  | .local _ .vmem, ⟨39, _⟩ => ⟨S256x1536, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg8_1 : Ref sig .tc := ⟨.vmem, 36, rfl⟩
abbrev cc1_scratch0 : Ref sig .tc := ⟨.vmem, 37, rfl⟩
abbrev cc1_scratch1 : Ref sig .tc := ⟨.vmem, 38, rfl⟩
abbrev cc1_scratch2 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_39 : BitVec 32 := 0#32
  let c256_i32 : BitVec 32 := 256#32
  let v82 : BitVec 32 := Scalar.addi c0_i32_39 c256_i32
  let c1_i32 : BitVec 32 := 1#32
  ⟨c0_i32_39, v82, c1_i32⟩
def k0_off1 (k0_t1 : Fin k0_t1_loop.trips) : Fin 2 → Nat :=
  let c0_i32_39 : BitVec 32 := 0#32
  let c1_i32 : BitVec 32 := 1#32
  let arg17 : BitVec 32 := Scf.iv c0_i32_39 c1_i32 k0_t1
  let v87 : Index := Scalar.indexCast arg17
  let c0_43 : Index := 0#32
  ![v87.toNat, 0]
def k0_off2 (k0_t1 : Fin k0_t1_loop.trips) : Fin 2 → Nat :=
  let c0_i32_39 : BitVec 32 := 0#32
  let c1_i32 : BitVec 32 := 1#32
  let arg17 : BitVec 32 := Scf.iv c0_i32_39 c1_i32 k0_t1
  let v92 : Index := Scalar.indexCast arg17
  let c0_45 : Index := 0#32
  ![v92.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

@[reducible] def k1_t1_loop : Scf.Loop 32 :=
  let c0_i32_10 : BitVec 32 := 0#32
  let c256_i32 : BitVec 32 := 256#32
  let v14 : BitVec 32 := Scalar.addi c0_i32_10 c256_i32
  let c1_i32 : BitVec 32 := 1#32
  ⟨c0_i32_10, v14, c1_i32⟩
def k1_off1 (k1_t1 : Fin k1_t1_loop.trips) : Fin 2 → Nat :=
  let c255_i32 : BitVec 32 := 255#32
  let c0_i32_10 : BitVec 32 := 0#32
  let c1_i32 : BitVec 32 := 1#32
  let arg13 : BitVec 32 := Scf.iv c0_i32_10 c1_i32 k1_t1
  let v49 : BitVec 32 := Scalar.subi c255_i32 arg13
  let v50 : Index := Scalar.indexCast v49
  let c0_34 : Index := 0#32
  ![v50.toNat, 0]
def k1_off2 (k1_t1 : Fin k1_t1_loop.trips) : Fin 2 → Nat :=
  let c255_i32 : BitVec 32 := 255#32
  let c0_i32_10 : BitVec 32 := 0#32
  let c1_i32 : BitVec 32 := 1#32
  let arg13 : BitVec 32 := Scf.iv c0_i32_10 c1_i32 k1_t1
  let v49 : BitVec 32 := Scalar.subi c255_i32 arg13
  let v55 : Index := Scalar.indexCast v49
  let c0_36 : Index := 0#32
  ![v55.toNat, 0]
def cc1_transform_0 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage1_0 : Fin 2 → Memref sig .tc .vmem S256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S16x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1536 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1536x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "tree_sum" => some ((21810381 / 16777216 : ℝ) : EReal)
  | _ => none
-- ==== ReferenceIdeal.lean ====
abbrev S1x2048x768 : Shape := ⟨3, ![1, 2048, 768]⟩
abbrev S_ : Shape := ⟨0, ![]⟩
abbrev S768x3072 : Shape := ⟨2, ![768, 3072]⟩
abbrev S1536x4 : Shape := ⟨2, ![1536, 4]⟩
abbrev S1536 : Shape := ⟨1, ![1536]⟩
abbrev S1536x80 : Shape := ⟨2, ![1536, 80]⟩
abbrev S48x1536 : Shape := ⟨2, ![48, 1536]⟩
abbrev S1536x16 : Shape := ⟨2, ![1536, 16]⟩
abbrev S1536x768 : Shape := ⟨2, ![1536, 768]⟩
abbrev S1x2048x3072 : Shape := ⟨3, ![1, 2048, 3072]⟩
abbrev S1x3072x2048 : Shape := ⟨3, ![1, 3072, 2048]⟩
abbrev S1x1536x2048 : Shape := ⟨3, ![1, 1536, 2048]⟩
abbrev S1x1536x2051 : Shape := ⟨3, ![1, 1536, 2051]⟩
abbrev S1x1536x1 : Shape := ⟨3, ![1, 1536, 1]⟩
abbrev S1536x1 : Shape := ⟨2, ![1536, 1]⟩
abbrev S1x2048x80 : Shape := ⟨3, ![1, 2048, 80]⟩
abbrev S1x2048x48 : Shape := ⟨3, ![1, 2048, 48]⟩
abbrev S1x2048x16 : Shape := ⟨3, ![1, 2048, 16]⟩
abbrev S1x2048x1536 : Shape := ⟨3, ![1, 2048, 1536]⟩
abbrev S1x1x1536 : Shape := ⟨3, ![1, 1, 1536]⟩
abbrev S1x1536x1x16 : Shape := ⟨4, ![1, 1536, 1, 16]⟩
abbrev S1x1536x2048x1 : Shape := ⟨4, ![1, 1536, 2048, 1]⟩
abbrev S1x1536x2048x16 : Shape := ⟨4, ![1, 1536, 2048, 16]⟩
abbrev S1x1x2048x16 : Shape := ⟨4, ![1, 1, 2048, 16]⟩
abbrev S1x1536x16x2048 : Shape := ⟨4, ![1, 1536, 16, 2048]⟩
abbrev S1x24576x2048 : Shape := ⟨3, ![1, 24576, 2048]⟩
abbrev S1x24576x1 : Shape := ⟨3, ![1, 24576, 1]⟩
abbrev S1x24576x2047 : Shape := ⟨3, ![1, 24576, 2047]⟩
abbrev S2048x1x24576 : Shape := ⟨3, ![2048, 1, 24576]⟩
abbrev S1x24576 : Shape := ⟨2, ![1, 24576]⟩
abbrev S1x1x24576 : Shape := ⟨3, ![1, 1, 24576]⟩
abbrev S2047x1x24576 : Shape := ⟨3, ![2047, 1, 24576]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x2048x1536x16 : Shape := ⟨4, ![1, 2048, 1536, 16]⟩

abbrev nBuf : Space → Nat
  | .hbm => 290
  | .vmem => 0
  | .smem => 0
  | _ => 0

abbrev hbmTy0_0 (i : Nat) : BufTy := match i % 128 with
  | 0 => ⟨S1x2048x768, .f32⟩
  | 1 => ⟨S_, .i32⟩
  | 2 => ⟨S768x3072, .f32⟩
  | 3 => ⟨S1536x4, .f32⟩
  | 4 => ⟨S1536, .f32⟩
  | 5 => ⟨S1536x80, .f32⟩
  | 6 => ⟨S48x1536, .f32⟩
  | 7 => ⟨S1536, .f32⟩
  | 8 => ⟨S1536x16, .f32⟩
  | 9 => ⟨S1536, .f32⟩
  | 10 => ⟨S1536x768, .f32⟩
  | 11 => ⟨S1x2048x3072, .f32⟩
  | 12 => ⟨S1x3072x2048, .f32⟩
  | 13 => ⟨S1x1536x2048, .f32⟩
  | 14 => ⟨S1x1536x2048, .f32⟩
  | 15 => ⟨S_, .i32⟩
  | 16 => ⟨S_, .f32⟩
  | 17 => ⟨S1x1536x2051, .f32⟩
  | 18 => ⟨S1x1536x1, .f32⟩
  | 19 => ⟨S1536x1, .f32⟩
  | 20 => ⟨S1536, .f32⟩
  | 21 => ⟨S1x1536x1, .f32⟩
  | 22 => ⟨S1x1536x2048, .f32⟩
  | 23 => ⟨S1x1536x2048, .f32⟩
  | 24 => ⟨S1x1536x2048, .f32⟩
  | 25 => ⟨S1x1536x2048, .f32⟩
  | 26 => ⟨S1x1536x2048, .f32⟩
  | 27 => ⟨S1536x1, .f32⟩
  | 28 => ⟨S1536, .f32⟩
  | 29 => ⟨S1x1536x1, .f32⟩
  | 30 => ⟨S1x1536x2048, .f32⟩
  | 31 => ⟨S1x1536x2048, .f32⟩
  | 32 => ⟨S1x1536x2048, .f32⟩
  | 33 => ⟨S1x1536x2048, .f32⟩
  | 34 => ⟨S1536x1, .f32⟩
  | 35 => ⟨S1536, .f32⟩
  | 36 => ⟨S1x1536x1, .f32⟩
  | 37 => ⟨S1x1536x2048, .f32⟩
  | 38 => ⟨S1x1536x2048, .f32⟩
  | 39 => ⟨S1x1536x2048, .f32⟩
  | 40 => ⟨S1x1536x2048, .f32⟩
  | 41 => ⟨S1536x1, .f32⟩
  | 42 => ⟨S1536, .f32⟩
  | 43 => ⟨S1x1536x1, .f32⟩
  | 44 => ⟨S1x1536x2048, .f32⟩
  | 45 => ⟨S1x1536x2048, .f32⟩
  | 46 => ⟨S1x1536x2048, .f32⟩
  | 47 => ⟨S1x1536x2048, .f32⟩
  | 48 => ⟨S1x1536x2048, .f32⟩
  | 49 => ⟨S1x1536x2048, .f32⟩
  | 50 => ⟨S_, .f32⟩
  | 51 => ⟨S1x1536x2048, .f32⟩
  | 52 => ⟨S1x1536x2048, .f32⟩
  | 53 => ⟨S_, .f32⟩
  | 54 => ⟨S1x1536x2048, .f32⟩
  | 55 => ⟨S1x1536x2048, .f32⟩
  | 56 => ⟨S1x1536x2048, .f32⟩
  | 57 => ⟨S1x2048x80, .f32⟩
  | 58 => ⟨S1x2048x48, .f32⟩
  | 59 => ⟨S1x2048x16, .f32⟩
  | 60 => ⟨S1x2048x16, .f32⟩
  | 61 => ⟨S1x2048x1536, .f32⟩
  | 62 => ⟨S1x1x1536, .f32⟩
  | 63 => ⟨S1x2048x1536, .f32⟩
  | 64 => ⟨S1x2048x1536, .f32⟩
  | 65 => ⟨S_, .f32⟩
  | 66 => ⟨S1x2048x1536, .f32⟩
  | 67 => ⟨S1x2048x1536, .f32⟩
  | 68 => ⟨S1x2048x1536, .f32⟩
  | 69 => ⟨S1x2048x1536, .f32⟩
  | 70 => ⟨S1x2048x1536, .i1⟩
  | 71 => ⟨S1x2048x1536, .f32⟩
  | 72 => ⟨S1x2048x1536, .f32⟩
  | 73 => ⟨S1x2048x1536, .f32⟩
  | 74 => ⟨S1x2048x1536, .f32⟩
  | 75 => ⟨S1x2048x1536, .f32⟩
  | 76 => ⟨S1x2048x1536, .f32⟩
  | 77 => ⟨S1x2048x1536, .f32⟩
  | 78 => ⟨S1x2048x1536, .f32⟩
  | 79 => ⟨S1x1536x2048, .f32⟩
  | 80 => ⟨S1536x16, .f32⟩
  | 81 => ⟨S1536x16, .f32⟩
  | 82 => ⟨S1x1536x1x16, .f32⟩
  | 83 => ⟨S1x1536x2048x1, .f32⟩
  | 84 => ⟨S1x1536x2048x16, .f32⟩
  | 85 => ⟨S1x1536x2048x16, .f32⟩
  | 86 => ⟨S1x1536x2048x16, .f32⟩
  | 87 => ⟨S1x1536x2048x16, .f32⟩
  | 88 => ⟨S1x1536x2048x1, .f32⟩
  | 89 => ⟨S1x1x2048x16, .f32⟩
  | 90 => ⟨S1x1536x2048x16, .f32⟩
  | 91 => ⟨S1x1536x2048x16, .f32⟩
  | 92 => ⟨S1x1536x2048x16, .f32⟩
  | 93 => ⟨S1x1536x2048x1, .f32⟩
  | 94 => ⟨S1x1536x2048x16, .f32⟩
  | 95 => ⟨S1x1536x2048x16, .f32⟩
  | 96 => ⟨S1x1536x16x2048, .f32⟩
  | 97 => ⟨S1x24576x2048, .f32⟩
  | 98 => ⟨S1x1536x16x2048, .f32⟩
  | 99 => ⟨S1x24576x2048, .f32⟩
  | 100 => ⟨S1x24576x2048, .f32⟩
  | 101 => ⟨S1x24576x2048, .f32⟩
  | 102 => ⟨S1x24576x1, .f32⟩
  | 103 => ⟨S1x24576x2047, .f32⟩
  | 104 => ⟨S1x24576x2048, .f32⟩
  | 105 => ⟨S2048x1x24576, .f32⟩
  | 106 => ⟨S2048x1x24576, .f32⟩
  | 107 => ⟨S_, .f32⟩
  | 108 => ⟨S1x24576, .f32⟩
  | 109 => ⟨S_, .f32⟩
  | 110 => ⟨S2048x1x24576, .f32⟩
  | 111 => ⟨S_, .i32⟩
  | 112 => ⟨S2048x1x24576, .f32⟩
  | 113 => ⟨S2048x1x24576, .f32⟩
  | 114 => ⟨S_, .i32⟩
  | 115 => ⟨S1x24576, .f32⟩
  | 116 => ⟨S2048x1x24576, .f32⟩
  | 117 => ⟨S_, .i32⟩
  | 118 => ⟨S_, .i1⟩
  | 119 => ⟨S_, .i32⟩
  | 120 => ⟨S_, .i32⟩
  | 121 => ⟨S1x1x24576, .f32⟩
  | 122 => ⟨S1x24576, .f32⟩
  | 123 => ⟨S_, .i32⟩
  | 124 => ⟨S_, .i32⟩
  | 125 => ⟨S1x1x24576, .f32⟩
  | 126 => ⟨S1x24576, .f32⟩
  | 127 => ⟨S1x24576, .f32⟩
  | _ => ⟨S1x2048x768, .f32⟩

abbrev hbmTy0_1 (i : Nat) : BufTy := match i % 128 with
  | 0 => ⟨S1x24576, .f32⟩
  | 1 => ⟨S1x1x24576, .f32⟩
  | 2 => ⟨S_, .i32⟩
  | 3 => ⟨S_, .i32⟩
  | 4 => ⟨S2048x1x24576, .f32⟩
  | 5 => ⟨S_, .i32⟩
  | 6 => ⟨S_, .i32⟩
  | 7 => ⟨S_, .f32⟩
  | 8 => ⟨S1x24576, .f32⟩
  | 9 => ⟨S2047x1x24576, .f32⟩
  | 10 => ⟨S2047x1x24576, .f32⟩
  | 11 => ⟨S2047x1x24576, .f32⟩
  | 12 => ⟨S2047x1x24576, .f32⟩
  | 13 => ⟨S_, .f32⟩
  | 14 => ⟨S2047x1x24576, .f32⟩
  | 15 => ⟨S_, .i32⟩
  | 16 => ⟨S2047x1x24576, .f32⟩
  | 17 => ⟨S2047x1x24576, .f32⟩
  | 18 => ⟨S_, .i32⟩
  | 19 => ⟨S1x24576, .f32⟩
  | 20 => ⟨S2047x1x24576, .f32⟩
  | 21 => ⟨S_, .i32⟩
  | 22 => ⟨S_, .i1⟩
  | 23 => ⟨S_, .i32⟩
  | 24 => ⟨S_, .i32⟩
  | 25 => ⟨S1x1x24576, .f32⟩
  | 26 => ⟨S1x24576, .f32⟩
  | 27 => ⟨S_, .i32⟩
  | 28 => ⟨S_, .i32⟩
  | 29 => ⟨S1x1x24576, .f32⟩
  | 30 => ⟨S1x24576, .f32⟩
  | 31 => ⟨S1x24576, .f32⟩
  | 32 => ⟨S1x24576, .f32⟩
  | 33 => ⟨S1x1x24576, .f32⟩
  | 34 => ⟨S_, .i32⟩
  | 35 => ⟨S_, .i32⟩
  | 36 => ⟨S2047x1x24576, .f32⟩
  | 37 => ⟨S_, .i32⟩
  | 38 => ⟨S_, .i32⟩
  | 39 => ⟨S2047x1x24576, .f32⟩
  | 40 => ⟨S_, .f32⟩
  | 41 => ⟨S1x1x24576, .f32⟩
  | 42 => ⟨S2048x1x24576, .f32⟩
  | 43 => ⟨S2048x1x24576, .f32⟩
  | 44 => ⟨S1x24576x2048, .f32⟩
  | 45 => ⟨S2048, .i32⟩
  | 46 => ⟨S_, .i32⟩
  | 47 => ⟨S2048, .i32⟩
  | 48 => ⟨S2048, .i1⟩
  | 49 => ⟨S_, .i32⟩
  | 50 => ⟨S2048, .i32⟩
  | 51 => ⟨S2048, .i32⟩
  | 52 => ⟨S2048, .i32⟩
  | 53 => ⟨S2048x1, .i32⟩
  | 54 => ⟨S1, .i32⟩
  | 55 => ⟨S_, .i32⟩
  | 56 => ⟨S2048x1, .i32⟩
  | 57 => ⟨S2048x1, .i1⟩
  | 58 => ⟨S1x1, .i32⟩
  | 59 => ⟨S2048x1, .i32⟩
  | 60 => ⟨S2048x1, .i1⟩
  | 61 => ⟨S2048x1, .i1⟩
  | 62 => ⟨S_, .i1⟩
  | 63 => ⟨S2048, .i1⟩
  | 64 => ⟨S1x24576x2048, .f32⟩
  | 65 => ⟨S1x24576x2048, .i1⟩
  | 66 => ⟨S_, .f32⟩
  | 67 => ⟨S1x24576x2048, .f32⟩
  | 68 => ⟨S1x24576x2048, .f32⟩
  | 69 => ⟨S2048x1x24576, .f32⟩
  | 70 => ⟨S2048x1x24576, .f32⟩
  | 71 => ⟨S_, .f32⟩
  | 72 => ⟨S1x24576, .f32⟩
  | 73 => ⟨S_, .f32⟩
  | 74 => ⟨S2048x1x24576, .f32⟩
  | 75 => ⟨S_, .i32⟩
  | 76 => ⟨S2048x1x24576, .f32⟩
  | 77 => ⟨S2048x1x24576, .f32⟩
  | 78 => ⟨S_, .i32⟩
  | 79 => ⟨S1x24576, .f32⟩
  | 80 => ⟨S2048x1x24576, .f32⟩
  | 81 => ⟨S_, .i32⟩
  | 82 => ⟨S_, .i1⟩
  | 83 => ⟨S_, .i32⟩
  | 84 => ⟨S_, .i32⟩
  | 85 => ⟨S1x1x24576, .f32⟩
  | 86 => ⟨S1x24576, .f32⟩
  | 87 => ⟨S_, .i32⟩
  | 88 => ⟨S_, .i32⟩
  | 89 => ⟨S1x1x24576, .f32⟩
  | 90 => ⟨S1x24576, .f32⟩
  | 91 => ⟨S1x24576, .f32⟩
  | 92 => ⟨S1x24576, .f32⟩
  | 93 => ⟨S1x1x24576, .f32⟩
  | 94 => ⟨S_, .i32⟩
  | 95 => ⟨S_, .i32⟩
  | 96 => ⟨S2048x1x24576, .f32⟩
  | 97 => ⟨S_, .i32⟩
  | 98 => ⟨S_, .i32⟩
  | 99 => ⟨S_, .f32⟩
  | 100 => ⟨S1x24576, .f32⟩
  | 101 => ⟨S2047x1x24576, .f32⟩
  | 102 => ⟨S2047x1x24576, .f32⟩
  | 103 => ⟨S2047x1x24576, .f32⟩
  | 104 => ⟨S2047x1x24576, .f32⟩
  | 105 => ⟨S_, .f32⟩
  | 106 => ⟨S2047x1x24576, .f32⟩
  | 107 => ⟨S_, .i32⟩
  | 108 => ⟨S2047x1x24576, .f32⟩
  | 109 => ⟨S2047x1x24576, .f32⟩
  | 110 => ⟨S_, .i32⟩
  | 111 => ⟨S1x24576, .f32⟩
  | 112 => ⟨S2047x1x24576, .f32⟩
  | 113 => ⟨S_, .i32⟩
  | 114 => ⟨S_, .i1⟩
  | 115 => ⟨S_, .i32⟩
  | 116 => ⟨S_, .i32⟩
  | 117 => ⟨S1x1x24576, .f32⟩
  | 118 => ⟨S1x24576, .f32⟩
  | 119 => ⟨S_, .i32⟩
  | 120 => ⟨S_, .i32⟩
  | 121 => ⟨S1x1x24576, .f32⟩
  | 122 => ⟨S1x24576, .f32⟩
  | 123 => ⟨S1x24576, .f32⟩
  | 124 => ⟨S1x24576, .f32⟩
  | 125 => ⟨S1x1x24576, .f32⟩
  | 126 => ⟨S_, .i32⟩
  | 127 => ⟨S_, .i32⟩
  | _ => ⟨S1x2048x768, .f32⟩

abbrev hbmTy0_2 (i : Nat) : BufTy := match i % 128 with
  | 0 => ⟨S2047x1x24576, .f32⟩
  | 1 => ⟨S_, .i32⟩
  | 2 => ⟨S_, .i32⟩
  | 3 => ⟨S2047x1x24576, .f32⟩
  | 4 => ⟨S_, .f32⟩
  | 5 => ⟨S1x1x24576, .f32⟩
  | 6 => ⟨S2048x1x24576, .f32⟩
  | 7 => ⟨S2048x1x24576, .f32⟩
  | 8 => ⟨S1x24576x2048, .f32⟩
  | 9 => ⟨S_, .f32⟩
  | 10 => ⟨S1x24576x2048, .f32⟩
  | 11 => ⟨S1x24576x2048, .f32⟩
  | 12 => ⟨S1x24576x2048, .f32⟩
  | 13 => ⟨S1x24576x2048, .f32⟩
  | 14 => ⟨S1x1536x16x2048, .f32⟩
  | 15 => ⟨S1x2048x1536x16, .f32⟩
  | 16 => ⟨S1x2048x1536, .f32⟩
  | 17 => ⟨S1x1536x2048, .f32⟩
  | 18 => ⟨S1x1536x1, .f32⟩
  | 19 => ⟨S1x1536x2048, .f32⟩
  | 20 => ⟨S1x1536x2048, .f32⟩
  | 21 => ⟨S1x1536x2048, .f32⟩
  | 22 => ⟨S1x1536x2048, .f32⟩
  | 23 => ⟨S1x1536x2048, .f32⟩
  | 24 => ⟨S_, .f32⟩
  | 25 => ⟨S1x1536x2048, .f32⟩
  | 26 => ⟨S1x1536x2048, .f32⟩
  | 27 => ⟨S_, .f32⟩
  | 28 => ⟨S1x1536x2048, .f32⟩
  | 29 => ⟨S1x1536x2048, .f32⟩
  | 30 => ⟨S1x1536x2048, .f32⟩
  | 31 => ⟨S1x1536x2048, .f32⟩
  | 32 => ⟨S1x2048x1536, .f32⟩
  | 33 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_cst_0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call4_v0 : Ref sig .tc := ⟨.hbm, 102, rfl⟩
abbrev main_call4_v1 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_1 : Ref sig .tc := ⟨.hbm, 107, rfl⟩
abbrev main_v77 : Ref sig .tc := ⟨.hbm, 108, rfl⟩
abbrev main_cst_2 : Ref sig .tc := ⟨.hbm, 109, rfl⟩
abbrev main_v78 : Ref sig .tc := ⟨.hbm, 110, rfl⟩
abbrev main_c_3 : Ref sig .tc := ⟨.hbm, 111, rfl⟩
abbrev main_v79_0 : Ref sig .tc := ⟨.hbm, 112, rfl⟩
abbrev main_v79_1 : Ref sig .tc := ⟨.hbm, 113, rfl⟩
abbrev main_v79_2 : Ref sig .tc := ⟨.hbm, 114, rfl⟩
abbrev main_v79_3 : Ref sig .tc := ⟨.hbm, 115, rfl⟩
abbrev main_v79_4 : Ref sig .tc := ⟨.hbm, 116, rfl⟩
abbrev main_while0c_c_22 : Ref sig .tc := ⟨.hbm, 117, rfl⟩
abbrev main_while0c_v133 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_v0 : Ref sig .tc := ⟨.hbm, 121, rfl⟩
abbrev main_while0b_v133 : Ref sig .tc := ⟨.hbm, 122, rfl⟩
abbrev main_while0b_call6_c : Ref sig .tc := ⟨.hbm, 123, rfl⟩
abbrev main_while0b_call6_c_0 : Ref sig .tc := ⟨.hbm, 124, rfl⟩
abbrev main_while0b_call6_v0 : Ref sig .tc := ⟨.hbm, 125, rfl⟩
abbrev main_while0b_v134 : Ref sig .tc := ⟨.hbm, 126, rfl⟩
abbrev main_while0b_v135 : Ref sig .tc := ⟨.hbm, 127, rfl⟩
abbrev main_while0b_v136 : Ref sig .tc := ⟨.hbm, 128, rfl⟩
abbrev main_while0b_call7_v0 : Ref sig .tc := ⟨.hbm, 129, rfl⟩
abbrev main_while0b_call7_c : Ref sig .tc := ⟨.hbm, 130, rfl⟩
abbrev main_while0b_call7_c_0 : Ref sig .tc := ⟨.hbm, 131, rfl⟩
abbrev main_while0b_v137 : Ref sig .tc := ⟨.hbm, 132, rfl⟩
abbrev main_while0b_c_22 : Ref sig .tc := ⟨.hbm, 133, rfl⟩
abbrev main_while0b_v138 : Ref sig .tc := ⟨.hbm, 134, rfl⟩
abbrev main_cst_4 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_5 : Ref sig .tc := ⟨.hbm, 141, rfl⟩
abbrev main_v85 : Ref sig .tc := ⟨.hbm, 142, rfl⟩
abbrev main_c_6 : Ref sig .tc := ⟨.hbm, 143, rfl⟩
abbrev main_v86_0 : Ref sig .tc := ⟨.hbm, 144, rfl⟩
abbrev main_v86_1 : Ref sig .tc := ⟨.hbm, 145, rfl⟩
abbrev main_v86_2 : Ref sig .tc := ⟨.hbm, 146, rfl⟩
abbrev main_v86_3 : Ref sig .tc := ⟨.hbm, 147, rfl⟩
abbrev main_v86_4 : Ref sig .tc := ⟨.hbm, 148, rfl⟩
abbrev main_while1c_c_22 : Ref sig .tc := ⟨.hbm, 149, rfl⟩
abbrev main_while1c_v133 : Ref sig .tc := ⟨.hbm, 150, rfl⟩
abbrev main_while1b_call10_c : Ref sig .tc := ⟨.hbm, 151, rfl⟩
abbrev main_while1b_call10_c_0 : Ref sig .tc := ⟨.hbm, 152, rfl⟩
abbrev main_while1b_call10_v0 : Ref sig .tc := ⟨.hbm, 153, rfl⟩
abbrev main_while1b_v133 : Ref sig .tc := ⟨.hbm, 154, rfl⟩
abbrev main_while1b_call11_c : Ref sig .tc := ⟨.hbm, 155, rfl⟩
abbrev main_while1b_call11_c_0 : Ref sig .tc := ⟨.hbm, 156, rfl⟩
abbrev main_while1b_call11_v0 : Ref sig .tc := ⟨.hbm, 157, rfl⟩
abbrev main_while1b_v134 : Ref sig .tc := ⟨.hbm, 158, rfl⟩
abbrev main_while1b_v135 : Ref sig .tc := ⟨.hbm, 159, rfl⟩
abbrev main_while1b_v136 : Ref sig .tc := ⟨.hbm, 160, rfl⟩
abbrev main_while1b_call12_v0 : Ref sig .tc := ⟨.hbm, 161, rfl⟩
abbrev main_while1b_call12_c : Ref sig .tc := ⟨.hbm, 162, rfl⟩
abbrev main_while1b_call12_c_0 : Ref sig .tc := ⟨.hbm, 163, rfl⟩
abbrev main_while1b_v137 : Ref sig .tc := ⟨.hbm, 164, rfl⟩
abbrev main_while1b_c_22 : Ref sig .tc := ⟨.hbm, 165, rfl⟩
abbrev main_while1b_v138 : Ref sig .tc := ⟨.hbm, 166, rfl⟩
abbrev main_v87 : Ref sig .tc := ⟨.hbm, 167, rfl⟩
abbrev main_cst_7 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_call14_c : Ref sig .tc := ⟨.hbm, 174, rfl⟩
abbrev main_call14_v0 : Ref sig .tc := ⟨.hbm, 175, rfl⟩
abbrev main_call14_v1 : Ref sig .tc := ⟨.hbm, 176, rfl⟩
abbrev main_call14_c_0 : Ref sig .tc := ⟨.hbm, 177, rfl⟩
abbrev main_call14_v2 : Ref sig .tc := ⟨.hbm, 178, rfl⟩
abbrev main_call14_v3 : Ref sig .tc := ⟨.hbm, 179, rfl⟩
abbrev main_call14_v4 : Ref sig .tc := ⟨.hbm, 180, rfl⟩
abbrev main_call14_v5 : Ref sig .tc := ⟨.hbm, 181, rfl⟩
abbrev main_call14_c_1 : Ref sig .tc := ⟨.hbm, 182, rfl⟩
abbrev main_call14_c_2 : Ref sig .tc := ⟨.hbm, 183, rfl⟩
abbrev main_call14_v6 : Ref sig .tc := ⟨.hbm, 184, rfl⟩
abbrev main_call14_v7 : Ref sig .tc := ⟨.hbm, 185, rfl⟩
abbrev main_call14_v8 : Ref sig .tc := ⟨.hbm, 186, rfl⟩
abbrev main_call14_v9 : Ref sig .tc := ⟨.hbm, 187, rfl⟩
abbrev main_call14_v10 : Ref sig .tc := ⟨.hbm, 188, rfl⟩
abbrev main_call14_v11 : Ref sig .tc := ⟨.hbm, 189, rfl⟩
abbrev main_call14_c_3 : Ref sig .tc := ⟨.hbm, 190, rfl⟩
abbrev main_call14_v12 : Ref sig .tc := ⟨.hbm, 191, rfl⟩
abbrev main_call14_v13 : Ref sig .tc := ⟨.hbm, 192, rfl⟩
abbrev main_call14_v14 : Ref sig .tc := ⟨.hbm, 193, rfl⟩
abbrev main_call14_cst : Ref sig .tc := ⟨.hbm, 194, rfl⟩
abbrev main_call14_v15 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_cst_8 : Ref sig .tc := ⟨.hbm, 199, rfl⟩
abbrev main_v96 : Ref sig .tc := ⟨.hbm, 200, rfl⟩
abbrev main_cst_9 : Ref sig .tc := ⟨.hbm, 201, rfl⟩
abbrev main_v97 : Ref sig .tc := ⟨.hbm, 202, rfl⟩
abbrev main_c_10 : Ref sig .tc := ⟨.hbm, 203, rfl⟩
abbrev main_v98_0 : Ref sig .tc := ⟨.hbm, 204, rfl⟩
abbrev main_v98_1 : Ref sig .tc := ⟨.hbm, 205, rfl⟩
abbrev main_v98_2 : Ref sig .tc := ⟨.hbm, 206, rfl⟩
abbrev main_v98_3 : Ref sig .tc := ⟨.hbm, 207, rfl⟩
abbrev main_v98_4 : Ref sig .tc := ⟨.hbm, 208, rfl⟩
abbrev main_while2c_c_22 : Ref sig .tc := ⟨.hbm, 209, rfl⟩
abbrev main_while2c_v133 : Ref sig .tc := ⟨.hbm, 210, rfl⟩
abbrev main_while2b_call15_c : Ref sig .tc := ⟨.hbm, 211, rfl⟩
abbrev main_while2b_call15_c_0 : Ref sig .tc := ⟨.hbm, 212, rfl⟩
abbrev main_while2b_call15_v0 : Ref sig .tc := ⟨.hbm, 213, rfl⟩
abbrev main_while2b_v133 : Ref sig .tc := ⟨.hbm, 214, rfl⟩
abbrev main_while2b_call16_c : Ref sig .tc := ⟨.hbm, 215, rfl⟩
abbrev main_while2b_call16_c_0 : Ref sig .tc := ⟨.hbm, 216, rfl⟩
abbrev main_while2b_call16_v0 : Ref sig .tc := ⟨.hbm, 217, rfl⟩
abbrev main_while2b_v134 : Ref sig .tc := ⟨.hbm, 218, rfl⟩
abbrev main_while2b_v135 : Ref sig .tc := ⟨.hbm, 219, rfl⟩
abbrev main_while2b_v136 : Ref sig .tc := ⟨.hbm, 220, rfl⟩
abbrev main_while2b_call17_v0 : Ref sig .tc := ⟨.hbm, 221, rfl⟩
abbrev main_while2b_call17_c : Ref sig .tc := ⟨.hbm, 222, rfl⟩
abbrev main_while2b_call17_c_0 : Ref sig .tc := ⟨.hbm, 223, rfl⟩
abbrev main_while2b_v137 : Ref sig .tc := ⟨.hbm, 224, rfl⟩
abbrev main_while2b_c_22 : Ref sig .tc := ⟨.hbm, 225, rfl⟩
abbrev main_while2b_v138 : Ref sig .tc := ⟨.hbm, 226, rfl⟩
abbrev main_cst_11 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_v102 : Ref sig .tc := ⟨.hbm, 231, rfl⟩
abbrev main_v103 : Ref sig .tc := ⟨.hbm, 232, rfl⟩
abbrev main_cst_12 : Ref sig .tc := ⟨.hbm, 233, rfl⟩
abbrev main_v104 : Ref sig .tc := ⟨.hbm, 234, rfl⟩
abbrev main_c_13 : Ref sig .tc := ⟨.hbm, 235, rfl⟩
abbrev main_v105_0 : Ref sig .tc := ⟨.hbm, 236, rfl⟩
abbrev main_v105_1 : Ref sig .tc := ⟨.hbm, 237, rfl⟩
abbrev main_v105_2 : Ref sig .tc := ⟨.hbm, 238, rfl⟩
abbrev main_v105_3 : Ref sig .tc := ⟨.hbm, 239, rfl⟩
abbrev main_v105_4 : Ref sig .tc := ⟨.hbm, 240, rfl⟩
abbrev main_while3c_c_22 : Ref sig .tc := ⟨.hbm, 241, rfl⟩
abbrev main_while3c_v133 : Ref sig .tc := ⟨.hbm, 242, rfl⟩
abbrev main_while3b_call20_c : Ref sig .tc := ⟨.hbm, 243, rfl⟩
abbrev main_while3b_call20_c_0 : Ref sig .tc := ⟨.hbm, 244, rfl⟩
abbrev main_while3b_call20_v0 : Ref sig .tc := ⟨.hbm, 245, rfl⟩
abbrev main_while3b_v133 : Ref sig .tc := ⟨.hbm, 246, rfl⟩
abbrev main_while3b_call21_c : Ref sig .tc := ⟨.hbm, 247, rfl⟩
abbrev main_while3b_call21_c_0 : Ref sig .tc := ⟨.hbm, 248, rfl⟩
abbrev main_while3b_call21_v0 : Ref sig .tc := ⟨.hbm, 249, rfl⟩
abbrev main_while3b_v134 : Ref sig .tc := ⟨.hbm, 250, rfl⟩
abbrev main_while3b_v135 : Ref sig .tc := ⟨.hbm, 251, rfl⟩
abbrev main_while3b_v136 : Ref sig .tc := ⟨.hbm, 252, rfl⟩
abbrev main_while3b_call22_v0 : Ref sig .tc := ⟨.hbm, 253, rfl⟩
abbrev main_while3b_call22_c : Ref sig .tc := ⟨.hbm, 254, rfl⟩
abbrev main_while3b_call22_c_0 : Ref sig .tc := ⟨.hbm, 255, rfl⟩
abbrev main_while3b_v137 : Ref sig .tc := ⟨.hbm, 256, rfl⟩
abbrev main_while3b_c_22 : Ref sig .tc := ⟨.hbm, 257, rfl⟩
abbrev main_while3b_v138 : Ref sig .tc := ⟨.hbm, 258, rfl⟩
abbrev main_v106 : Ref sig .tc := ⟨.hbm, 259, rfl⟩
abbrev main_cst_14 : Ref sig .tc := ⟨.hbm, 260, rfl⟩
abbrev main_v107 : Ref sig .tc := ⟨.hbm, 261, rfl⟩
abbrev main_v108 : Ref sig .tc := ⟨.hbm, 262, rfl⟩
abbrev main_v109 : Ref sig .tc := ⟨.hbm, 263, rfl⟩
abbrev main_v110 : Ref sig .tc := ⟨.hbm, 264, rfl⟩
abbrev main_cst_15 : Ref sig .tc := ⟨.hbm, 265, rfl⟩
abbrev main_v111 : Ref sig .tc := ⟨.hbm, 266, rfl⟩
abbrev main_v112 : Ref sig .tc := ⟨.hbm, 267, rfl⟩
abbrev main_v113 : Ref sig .tc := ⟨.hbm, 268, rfl⟩
abbrev main_v114 : Ref sig .tc := ⟨.hbm, 269, rfl⟩
abbrev main_v115 : Ref sig .tc := ⟨.hbm, 270, rfl⟩
abbrev main_v116 : Ref sig .tc := ⟨.hbm, 271, rfl⟩
abbrev main_v117 : Ref sig .tc := ⟨.hbm, 272, rfl⟩
abbrev main_v118 : Ref sig .tc := ⟨.hbm, 273, rfl⟩
abbrev main_v119 : Ref sig .tc := ⟨.hbm, 274, rfl⟩
abbrev main_v120 : Ref sig .tc := ⟨.hbm, 275, rfl⟩
abbrev main_v121 : Ref sig .tc := ⟨.hbm, 276, rfl⟩
abbrev main_v122 : Ref sig .tc := ⟨.hbm, 277, rfl⟩
abbrev main_v123 : Ref sig .tc := ⟨.hbm, 278, rfl⟩
abbrev main_v124 : Ref sig .tc := ⟨.hbm, 279, rfl⟩
abbrev main_cst_16 : Ref sig .tc := ⟨.hbm, 280, rfl⟩
abbrev main_v125 : Ref sig .tc := ⟨.hbm, 281, rfl⟩
abbrev main_v126 : Ref sig .tc := ⟨.hbm, 282, rfl⟩
abbrev main_cst_17 : Ref sig .tc := ⟨.hbm, 283, rfl⟩
abbrev main_v127 : Ref sig .tc := ⟨.hbm, 284, rfl⟩
abbrev main_v128 : Ref sig .tc := ⟨.hbm, 285, rfl⟩
abbrev main_v129 : Ref sig .tc := ⟨.hbm, 286, rfl⟩
abbrev main_v130 : Ref sig .tc := ⟨.hbm, 287, rfl⟩
abbrev main_v131 : Ref sig .tc := ⟨.hbm, 288, rfl⟩
abbrev main_v132 : Ref sig .tc := ⟨.hbm, 289, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2047#32, 1#32⟩

abbrev main_while2_count : Scf.Loop 32 := ⟨0#32, 2048#32, 1#32⟩

abbrev main_while3_count : Scf.Loop 32 := ⟨0#32, 2047#32, 1#32⟩
-- ==== Proof.KernelIdealFwdFn.lean ====
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Pipeline.ReadBack
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! # One grid point of the forward pass, in closed form -/

/-! Whole stores and whole loads of the arrays' own shapes. -/

theorem rdw_S256x768 {κ : Kind} {sp : Space} (v : View sig κ sp S256x768 .f32) (f : v.ty.Contents (Elt F)) (inb) (w : S256x768.Idx → Elt F .f32) (L : List (View.Piece (Elt F) S256x768 .f32)) :
    v.read (Elt F) (v.writes (Elt F) f (⟨Rect.unit (s := S256x768) ![0, 0] ![256, 768] inb, w⟩ :: L)) = w := View.read_writes_full v f inb w L
theorem rda_S256x768 {κ : Kind} {sp : Space} (v : View sig κ sp S256x768 .f32) (f : v.ty.Contents (Elt F)) (inb) :
    v.readAt (Elt F) (Rect.unit (s := S256x768) ![0, 0] ![256, 768] inb).toLoadRect f = v.read (Elt F) f := View.readAt_full v f inb
theorem rdc_S256x768 {κ : Kind} {sp : Space} (v : View sig κ sp S256x768 .f32) (inb inb') (w : S256x768.Idx → Elt F .f32) (L : List (View.Piece (Elt F) S256x768 .f32)) :
    v.readCov (⟨Rect.unit (s := S256x768) ![0, 0] ![256, 768] inb', w⟩ :: L) (Rect.unit (s := S256x768) ![0, 0] ![256, 768] inb).toLoadRect = w := View.readCov_full v inb inb' w L

theorem rdw_S768x3072 {κ : Kind} {sp : Space} (v : View sig κ sp S768x3072 .f32) (f : v.ty.Contents (Elt F)) (inb) (w : S768x3072.Idx → Elt F .f32) (L : List (View.Piece (Elt F) S768x3072 .f32)) :
    v.read (Elt F) (v.writes (Elt F) f (⟨Rect.unit (s := S768x3072) ![0, 0] ![768, 3072] inb, w⟩ :: L)) = w := View.read_writes_full v f inb w L
theorem rda_S768x3072 {κ : Kind} {sp : Space} (v : View sig κ sp S768x3072 .f32) (f : v.ty.Contents (Elt F)) (inb) :
    v.readAt (Elt F) (Rect.unit (s := S768x3072) ![0, 0] ![768, 3072] inb).toLoadRect f = v.read (Elt F) f := View.readAt_full v f inb
theorem rdc_S768x3072 {κ : Kind} {sp : Space} (v : View sig κ sp S768x3072 .f32) (inb inb') (w : S768x3072.Idx → Elt F .f32) (L : List (View.Piece (Elt F) S768x3072 .f32)) :
    v.readCov (⟨Rect.unit (s := S768x3072) ![0, 0] ![768, 3072] inb', w⟩ :: L) (Rect.unit (s := S768x3072) ![0, 0] ![768, 3072] inb).toLoadRect = w := View.readCov_full v inb inb' w L

theorem rdw_S1x1536 {κ : Kind} {sp : Space} (v : View sig κ sp S1x1536 .f32) (f : v.ty.Contents (Elt F)) (inb) (w : S1x1536.Idx → Elt F .f32) (L : List (View.Piece (Elt F) S1x1536 .f32)) :
    v.read (Elt F) (v.writes (Elt F) f (⟨Rect.unit (s := S1x1536) ![0, 0] ![1, 1536] inb, w⟩ :: L)) = w := View.read_writes_full v f inb w L
theorem rda_S1x1536 {κ : Kind} {sp : Space} (v : View sig κ sp S1x1536 .f32) (f : v.ty.Contents (Elt F)) (inb) :
    v.readAt (Elt F) (Rect.unit (s := S1x1536) ![0, 0] ![1, 1536] inb).toLoadRect f = v.read (Elt F) f := View.readAt_full v f inb
theorem rdc_S1x1536 {κ : Kind} {sp : Space} (v : View sig κ sp S1x1536 .f32) (inb inb') (w : S1x1536.Idx → Elt F .f32) (L : List (View.Piece (Elt F) S1x1536 .f32)) :
    v.readCov (⟨Rect.unit (s := S1x1536) ![0, 0] ![1, 1536] inb', w⟩ :: L) (Rect.unit (s := S1x1536) ![0, 0] ![1, 1536] inb).toLoadRect = w := View.readCov_full v inb inb' w L

theorem rdw_S1536x80 {κ : Kind} {sp : Space} (v : View sig κ sp S1536x80 .f32) (f : v.ty.Contents (Elt F)) (inb) (w : S1536x80.Idx → Elt F .f32) (L : List (View.Piece (Elt F) S1536x80 .f32)) :
    v.read (Elt F) (v.writes (Elt F) f (⟨Rect.unit (s := S1536x80) ![0, 0] ![1536, 80] inb, w⟩ :: L)) = w := View.read_writes_full v f inb w L
theorem rda_S1536x80 {κ : Kind} {sp : Space} (v : View sig κ sp S1536x80 .f32) (f : v.ty.Contents (Elt F)) (inb) :
    v.readAt (Elt F) (Rect.unit (s := S1536x80) ![0, 0] ![1536, 80] inb).toLoadRect f = v.read (Elt F) f := View.readAt_full v f inb
theorem rdc_S1536x80 {κ : Kind} {sp : Space} (v : View sig κ sp S1536x80 .f32) (inb inb') (w : S1536x80.Idx → Elt F .f32) (L : List (View.Piece (Elt F) S1536x80 .f32)) :
    v.readCov (⟨Rect.unit (s := S1536x80) ![0, 0] ![1536, 80] inb', w⟩ :: L) (Rect.unit (s := S1536x80) ![0, 0] ![1536, 80] inb).toLoadRect = w := View.readCov_full v inb inb' w L

theorem rdw_S48x1536 {κ : Kind} {sp : Space} (v : View sig κ sp S48x1536 .f32) (f : v.ty.Contents (Elt F)) (inb) (w : S48x1536.Idx → Elt F .f32) (L : List (View.Piece (Elt F) S48x1536 .f32)) :
    v.read (Elt F) (v.writes (Elt F) f (⟨Rect.unit (s := S48x1536) ![0, 0] ![48, 1536] inb, w⟩ :: L)) = w := View.read_writes_full v f inb w L
theorem rda_S48x1536 {κ : Kind} {sp : Space} (v : View sig κ sp S48x1536 .f32) (f : v.ty.Contents (Elt F)) (inb) :
    v.readAt (Elt F) (Rect.unit (s := S48x1536) ![0, 0] ![48, 1536] inb).toLoadRect f = v.read (Elt F) f := View.readAt_full v f inb
theorem rdc_S48x1536 {κ : Kind} {sp : Space} (v : View sig κ sp S48x1536 .f32) (inb inb') (w : S48x1536.Idx → Elt F .f32) (L : List (View.Piece (Elt F) S48x1536 .f32)) :
    v.readCov (⟨Rect.unit (s := S48x1536) ![0, 0] ![48, 1536] inb', w⟩ :: L) (Rect.unit (s := S48x1536) ![0, 0] ![48, 1536] inb).toLoadRect = w := View.readCov_full v inb inb' w L

theorem rdw_S16x1536 {κ : Kind} {sp : Space} (v : View sig κ sp S16x1536 .f32) (f : v.ty.Contents (Elt F)) (inb) (w : S16x1536.Idx → Elt F .f32) (L : List (View.Piece (Elt F) S16x1536 .f32)) :
    v.read (Elt F) (v.writes (Elt F) f (⟨Rect.unit (s := S16x1536) ![0, 0] ![16, 1536] inb, w⟩ :: L)) = w := View.read_writes_full v f inb w L
theorem rda_S16x1536 {κ : Kind} {sp : Space} (v : View sig κ sp S16x1536 .f32) (f : v.ty.Contents (Elt F)) (inb) :
    v.readAt (Elt F) (Rect.unit (s := S16x1536) ![0, 0] ![16, 1536] inb).toLoadRect f = v.read (Elt F) f := View.readAt_full v f inb
theorem rdc_S16x1536 {κ : Kind} {sp : Space} (v : View sig κ sp S16x1536 .f32) (inb inb') (w : S16x1536.Idx → Elt F .f32) (L : List (View.Piece (Elt F) S16x1536 .f32)) :
    v.readCov (⟨Rect.unit (s := S16x1536) ![0, 0] ![16, 1536] inb', w⟩ :: L) (Rect.unit (s := S16x1536) ![0, 0] ![16, 1536] inb).toLoadRect = w := View.readCov_full v inb inb' w L

theorem rdw_S256x1536 {κ : Kind} {sp : Space} (v : View sig κ sp S256x1536 .f32) (f : v.ty.Contents (Elt F)) (inb) (w : S256x1536.Idx → Elt F .f32) (L : List (View.Piece (Elt F) S256x1536 .f32)) :
    v.read (Elt F) (v.writes (Elt F) f (⟨Rect.unit (s := S256x1536) ![0, 0] ![256, 1536] inb, w⟩ :: L)) = w := View.read_writes_full v f inb w L
theorem rda_S256x1536 {κ : Kind} {sp : Space} (v : View sig κ sp S256x1536 .f32) (f : v.ty.Contents (Elt F)) (inb) :
    v.readAt (Elt F) (Rect.unit (s := S256x1536) ![0, 0] ![256, 1536] inb).toLoadRect f = v.read (Elt F) f := View.readAt_full v f inb
theorem rdc_S256x1536 {κ : Kind} {sp : Space} (v : View sig κ sp S256x1536 .f32) (inb inb') (w : S256x1536.Idx → Elt F .f32) (L : List (View.Piece (Elt F) S256x1536 .f32)) :
    v.readCov (⟨Rect.unit (s := S256x1536) ![0, 0] ![256, 1536] inb', w⟩ :: L) (Rect.unit (s := S256x1536) ![0, 0] ![256, 1536] inb).toLoadRect = w := View.readCov_full v inb inb' w L

theorem rdw_S256x32 {κ : Kind} {sp : Space} (v : View sig κ sp S256x32 .f32) (f : v.ty.Contents (Elt F)) (inb) (w : S256x32.Idx → Elt F .f32) (L : List (View.Piece (Elt F) S256x32 .f32)) :
    v.read (Elt F) (v.writes (Elt F) f (⟨Rect.unit (s := S256x32) ![0, 0] ![256, 32] inb, w⟩ :: L)) = w := View.read_writes_full v f inb w L
theorem rda_S256x32 {κ : Kind} {sp : Space} (v : View sig κ sp S256x32 .f32) (f : v.ty.Contents (Elt F)) (inb) :
    v.readAt (Elt F) (Rect.unit (s := S256x32) ![0, 0] ![256, 32] inb).toLoadRect f = v.read (Elt F) f := View.readAt_full v f inb
theorem rdc_S256x32 {κ : Kind} {sp : Space} (v : View sig κ sp S256x32 .f32) (inb inb') (w : S256x32.Idx → Elt F .f32) (L : List (View.Piece (Elt F) S256x32 .f32)) :
    v.readCov (⟨Rect.unit (s := S256x32) ![0, 0] ![256, 32] inb', w⟩ :: L) (Rect.unit (s := S256x32) ![0, 0] ![256, 32] inb).toLoadRect = w := View.readCov_full v inb inb' w L

theorem rdw_S3x1536 {κ : Kind} {sp : Space} (v : View sig κ sp S3x1536 .f32) (f : v.ty.Contents (Elt F)) (inb) (w : S3x1536.Idx → Elt F .f32) (L : List (View.Piece (Elt F) S3x1536 .f32)) :
    v.read (Elt F) (v.writes (Elt F) f (⟨Rect.unit (s := S3x1536) ![0, 0] ![3, 1536] inb, w⟩ :: L)) = w := View.read_writes_full v f inb w L
theorem rda_S3x1536 {κ : Kind} {sp : Space} (v : View sig κ sp S3x1536 .f32) (f : v.ty.Contents (Elt F)) (inb) :
    v.readAt (Elt F) (Rect.unit (s := S3x1536) ![0, 0] ![3, 1536] inb).toLoadRect f = v.read (Elt F) f := View.readAt_full v f inb
theorem rdc_S3x1536 {κ : Kind} {sp : Space} (v : View sig κ sp S3x1536 .f32) (inb inb') (w : S3x1536.Idx → Elt F .f32) (L : List (View.Piece (Elt F) S3x1536 .f32)) :
    v.readCov (⟨Rect.unit (s := S3x1536) ![0, 0] ![3, 1536] inb', w⟩ :: L) (Rect.unit (s := S3x1536) ![0, 0] ![3, 1536] inb).toLoadRect = w := View.readCov_full v inb inb' w L

theorem rdw_S1536x768 {κ : Kind} {sp : Space} (v : View sig κ sp S1536x768 .f32) (f : v.ty.Contents (Elt F)) (inb) (w : S1536x768.Idx → Elt F .f32) (L : List (View.Piece (Elt F) S1536x768 .f32)) :
    v.read (Elt F) (v.writes (Elt F) f (⟨Rect.unit (s := S1536x768) ![0, 0] ![1536, 768] inb, w⟩ :: L)) = w := View.read_writes_full v f inb w L
theorem rda_S1536x768 {κ : Kind} {sp : Space} (v : View sig κ sp S1536x768 .f32) (f : v.ty.Contents (Elt F)) (inb) :
    v.readAt (Elt F) (Rect.unit (s := S1536x768) ![0, 0] ![1536, 768] inb).toLoadRect f = v.read (Elt F) f := View.readAt_full v f inb
theorem rdc_S1536x768 {κ : Kind} {sp : Space} (v : View sig κ sp S1536x768 .f32) (inb inb') (w : S1536x768.Idx → Elt F .f32) (L : List (View.Piece (Elt F) S1536x768 .f32)) :
    v.readCov (⟨Rect.unit (s := S1536x768) ![0, 0] ![1536, 768] inb', w⟩ :: L) (Rect.unit (s := S1536x768) ![0, 0] ![1536, 768] inb).toLoadRect = w := View.readCov_full v inb inb' w L

/-- Row `k` of a 256×1536 array, as a one-row array. -/
def row (X : Vec F S256x1536 .f32) (k : Fin 256) : Vec F S1x1536 .f32 := fun x => X (ix2 k (x 1))
/-- Row `k` of a 256×32 array. -/
def row32 (X : Vec F S256x32 .f32) (k : Fin 256) : Vec F S1x32 .f32 := fun x => X (ix2 k (x 1))
/-- Row `k` of the four convolution taps. -/
def tap (X : Vec F S4x1536 .f32) (k : Fin 4) : Vec F S1x1536 .f32 := fun x => X (ix2 k (x 1))

/-- The forward state before row `k` of a block, from the state `s` the block is entered with. -/
def fwd (A : Vec F S16x1536 .f32) (dt u : Vec F S256x1536 .f32) (bc : Vec F S256x32 .f32) (s : Vec F S16x1536 .f32) : ℕ → Vec F S16x1536 .f32
  | 0 => s
  | k + 1 => if h : k < 256 then k0_pay4 A (fwd A dt u bc s k) (row dt ⟨k, h⟩) (row u ⟨k, h⟩) (row32 bc ⟨k, h⟩) else fwd A dt u bc s k

/-- What the loop leaves in the block of forward sums: row `k` from the state before row `k`. -/
def fwdSums (A : Vec F S16x1536 .f32) (dt u : Vec F S256x1536 .f32) (bc : Vec F S256x32 .f32) (s : Vec F S16x1536 .f32) : Vec F S256x1536 .f32 :=
  fun j => k0_pay5 A (fwd A dt u bc s (j 0).val) (row dt (j 0)) (row u (j 0)) (row32 bc (j 0)) (ix2 (0 : Fin 1) (j 1))

theorem trips0 : k0_t1_loop.trips = 256 := by decide +kernel

theorem trips0' : Scf.trips (0#32) (Scalar.addi 0#32 256#32) 1#32 = 256 := by decide +kernel

theorem ld_row (X : Vec F S256x1536 .f32) (k : Fin 256) {off : Fin 2 → ℕ} (h : off = ![k.val, 0]) (inb : ∀ a, off a + S1x1536.size a ≤ S256x1536.size a) :
    View.ld X (Rect.unit (s := S256x1536) off S1x1536.size inb) = row X k := by
  subst h; funext x
  refine congrArg X (funext fun a => ?_)
  refine Fin.ext ?_
  match a with
  | ⟨0, _⟩ =>
    have h : (x 0).val < 1 := (x 0).isLt
    show k.val + 1 * (x 0).val = k.val
    omega
  | ⟨1, _⟩ =>
    show 0 + 1 * (x 1).val = (x 1).val
    omega

theorem ld_row32 (X : Vec F S256x32 .f32) (k : Fin 256) {off : Fin 2 → ℕ} (h : off = ![k.val, 0]) (inb : ∀ a, off a + S1x32.size a ≤ S256x32.size a) :
    View.ld X (Rect.unit (s := S256x32) off S1x32.size inb) = row32 X k := by
  subst h; funext x
  refine congrArg X (funext fun a => ?_)
  refine Fin.ext ?_
  match a with
  | ⟨0, _⟩ =>
    have h : (x 0).val < 1 := (x 0).isLt
    show k.val + 1 * (x 0).val = k.val
    omega
  | ⟨1, _⟩ =>
    show 0 + 1 * (x 1).val = (x 1).val
    omega

theorem ld_tap (X : Vec F S4x1536 .f32) (k : Fin 4) {off : Fin 2 → ℕ} (h : off = ![k.val, 0]) (inb : ∀ a, off a + S1x1536.size a ≤ S4x1536.size a) :
    View.ld X (Rect.unit (s := S4x1536) off S1x1536.size inb) = tap X k := by
  subst h; funext x
  refine congrArg X (funext fun a => ?_)
  refine Fin.ext ?_
  match a with
  | ⟨0, _⟩ =>
    have h : (x 0).val < 1 := (x 0).isLt
    show k.val + 1 * (x 0).val = k.val
    omega
  | ⟨1, _⟩ =>
    show 0 + 1 * (x 1).val = (x 1).val
    omega

theorem rda_tap0 {κ : Kind} {sp : Space} (v : View sig κ sp S4x1536 .f32) (f : v.ty.Contents (Elt F)) (inb) :
    v.readAt (Elt F) (Rect.unit (s := S4x1536) ![0, 0] ![1, 1536] inb).toLoadRect f = tap (v.read (Elt F) f) 0 := ld_tap _ 0 rfl inb
theorem rda_tap1 {κ : Kind} {sp : Space} (v : View sig κ sp S4x1536 .f32) (f : v.ty.Contents (Elt F)) (inb) :
    v.readAt (Elt F) (Rect.unit (s := S4x1536) ![1, 0] ![1, 1536] inb).toLoadRect f = tap (v.read (Elt F) f) 1 := ld_tap _ 1 rfl inb
theorem rda_tap2 {κ : Kind} {sp : Space} (v : View sig κ sp S4x1536 .f32) (f : v.ty.Contents (Elt F)) (inb) :
    v.readAt (Elt F) (Rect.unit (s := S4x1536) ![2, 0] ![1, 1536] inb).toLoadRect f = tap (v.read (Elt F) f) 2 := ld_tap _ 2 rfl inb
theorem rda_tap3 {κ : Kind} {sp : Space} (v : View sig κ sp S4x1536 .f32) (f : v.ty.Contents (Elt F)) (inb) :
    v.readAt (Elt F) (Rect.unit (s := S4x1536) ![3, 0] ![1, 1536] inb).toLoadRect f = tap (v.read (Elt F) f) 3 := ld_tap _ 3 rfl inb

/-- The row rectangle at row `k`: what it covers, and where its one row lies. -/
theorem mem_row {off : Fin 2 → ℕ} (k : Fin 256) (h : off = ![k.val, 0]) (inb : ∀ a, off a + S1x1536.size a ≤ S256x1536.size a) (y : S256x1536.Idx)
    (hy : (y 0).val = k.val) : y ∈ (Rect.unit (s := S256x1536) off S1x1536.size inb).set := by
  subst h
  refine (Rect.mem_set_unit (inb := inb)).mpr fun a => ?_
  match a with
  | ⟨0, _⟩ =>
    show k.val ≤ (y 0).val ∧ (y 0).val < k.val + 1
    omega
  | ⟨1, _⟩ =>
    have h : (y 1).val < 1536 := (y 1).isLt
    show 0 ≤ (y 1).val ∧ (y 1).val < 0 + 1536
    omega

theorem emb_row {off : Fin 2 → ℕ} (k : Fin 256) (h : off = ![k.val, 0]) (inb : ∀ a, off a + S1x1536.size a ≤ S256x1536.size a) (x : S1x1536.Idx) :
    (Rect.unit (s := S256x1536) off S1x1536.size inb).emb x = ix2 k (x 1) := by
  subst h
  refine funext fun a => Fin.ext ?_
  match a with
  | ⟨0, _⟩ =>
    have h : (x 0).val < 1 := (x 0).isLt
    show k.val + 1 * (x 0).val = k.val
    omega
  | ⟨1, _⟩ =>
    show 0 + 1 * (x 1).val = (x 1).val
    omega

theorem ix_row (x : S1x1536.Idx) : ix2 (0 : Fin 1) (x 1) = x := by
  refine funext fun a => Fin.ext ?_
  match a with
  | ⟨0, _⟩ =>
    have h : (x 0).val < 1 := (x 0).isLt
    show 0 = (x 0).val
    omega
  | ⟨1, _⟩ => rfl

set_option maxHeartbeats 4000000 in
/-- The loop's state before trip `k`: the carried value is `fwd`, and the stores so far are the rows below `k` of `fwdSums`. -/
theorem st0_eq (𝒱 : Variants) (c : Dev nD) (bd : Option 𝒱.V) (i : grid0.Coords) (arg1 : Memref sig .tc .vmem S256x768 .f32) (harg1 : arg1.IsWhole) (arg2 : Memref sig .tc .vmem S768x3072 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S1536x80 .f32) (harg5 : arg5.IsWhole) (arg6 : Memref sig .tc .vmem S48x1536 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S256x1536 .f32) (harg9 : arg9.IsWhole) (arg10 : Memref sig .tc .vmem S256x1536 .f32) (harg10 : arg10.IsWhole) (arg11 : Memref sig .tc .vmem S256x1536 .f32) (harg11 : arg11.IsWhole) (arg12 : Memref sig .tc .vmem S256x32 .f32) (harg12 : arg12.IsWhole) (arg13 : Memref sig .tc .vmem S256x1536 .f32) (harg13 : arg13.IsWhole) (arg14 : Memref sig .tc .vmem S3x1536 .f32) (harg14 : arg14.IsWhole) (arg15 : Memref sig .tc .vmem S16x1536 .f32) (harg15 : arg15.IsWhole) (arg16 : Memref sig .tc .vmem S256x1536 .f32) (harg16 : arg16.IsWhole) (A : Vec F S16x1536 .f32)
    (X11 : BufTy.Contents (Elt F) arg11.view.ty) (X12 : BufTy.Contents (Elt F) arg12.view.ty) (X16 : BufTy.Contents (Elt F) arg16.view.ty) (s : Vec F S16x1536 .f32)
    (dt u : Vec F S256x1536 .f32) (bc : Vec F S256x32 .f32) (h11 : arg11.view.read (Elt F) X11 = dt) (h12 : arg12.view.read (Elt F) X12 = bc)
    (h16 : arg16.view.read (Elt F) X16 = u) : ∀ k : ℕ, k ≤ 256 →
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 s k).1 = fwd A dt u bc s k
    ∧ View.PiecesOf (fwdSums A dt u bc s) (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 s k).2
    ∧ ∀ y : S256x1536.Idx, (y 0).val < k → ∃ p ∈ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 s k).2, y ∈ p.1.set
  | 0, _ => ⟨rfl, trivial, fun y hy => absurd hy (Nat.not_lt_zero _)⟩
  | k + 1, hk => by
    obtain ⟨h1, h2, h3⟩ := st0_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 s dt u bc h11 h12 h16 k (Nat.le_of_succ_le hk)
    have hk' : k < 256 := hk
    have hs := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 s ⟨k, trips0.symm ▸ hk'⟩
    have o1 := k0_off1_eq ⟨k, trips0.symm ▸ hk'⟩
    have o2 := k0_off2_eq ⟨k, trips0.symm ▸ hk'⟩
    have e11 := ld_row dt ⟨k, hk'⟩ o1 (k0_off1_inb _)
    have e16 := ld_row u ⟨k, hk'⟩ o1 (k0_off1_inb _)
    have e12 := ld_row32 bc ⟨k, hk'⟩ o2 (k0_off2_inb _)
    have hR : tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 ⟨k, trips0.symm ▸ hk'⟩ (fwd A dt u bc s k)
        = k0_pay4 A (fwd A dt u bc s k) (row dt ⟨k, hk'⟩) (row u ⟨k, hk'⟩) (row32 bc ⟨k, hk'⟩) := by
      unfold tripR_k0_t1 trip_k0_t1
      dsimp only
      rw [← e11, ← e16, ← e12, ← h11, ← h12, ← h16]
      rfl
    have hL : tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 ⟨k, trips0.symm ▸ hk'⟩ (fwd A dt u bc s k)
        = [⟨Rect.unit (s := S256x1536) (k0_off1 ⟨k, trips0.symm ▸ hk'⟩) S1x1536.size (k0_off1_inb _),
            k0_pay5 A (fwd A dt u bc s k) (row dt ⟨k, hk'⟩) (row u ⟨k, hk'⟩) (row32 bc ⟨k, hk'⟩)⟩] := by
      unfold tripL_k0_t1 trip_k0_t1
      dsimp only
      rw [← e11, ← e16, ← e12, ← h11, ← h12, ← h16]
      rfl
    have hs' : st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 s (k + 1) = _ := hs
    dsimp only at hs'
    rw [h1, hR, hL] at hs'
    rw [hs']
    refine ⟨?_, ⟨fun x => ?_, h2⟩, fun y hy => ?_⟩
    · rw [fwd, dif_pos hk']
    · rw [emb_row ⟨k, hk'⟩ o1]
      exact congrArg (k0_pay5 A (fwd A dt u bc s k) (row dt ⟨k, hk'⟩) (row u ⟨k, hk'⟩) (row32 bc ⟨k, hk'⟩)) (ix_row x).symm
    · rcases Nat.lt_succ_iff_lt_or_eq.mp hy with h | h
      · obtain ⟨p, hp, hy'⟩ := h3 y h
        exact ⟨p, List.mem_cons_of_mem _ hp, hy'⟩
      · exact ⟨_, List.mem_cons_self, mem_row ⟨k, hk'⟩ o1 (k0_off1_inb _) y h⟩

theorem fwdSums_read (𝒱 : Variants) (c : Dev nD) (bd : Option 𝒱.V) (i : grid0.Coords) (arg1 : Memref sig .tc .vmem S256x768 .f32) (harg1 : arg1.IsWhole) (arg2 : Memref sig .tc .vmem S768x3072 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S1536x80 .f32) (harg5 : arg5.IsWhole) (arg6 : Memref sig .tc .vmem S48x1536 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S256x1536 .f32) (harg9 : arg9.IsWhole) (arg10 : Memref sig .tc .vmem S256x1536 .f32) (harg10 : arg10.IsWhole) (arg11 : Memref sig .tc .vmem S256x1536 .f32) (harg11 : arg11.IsWhole) (arg12 : Memref sig .tc .vmem S256x32 .f32) (harg12 : arg12.IsWhole) (arg13 : Memref sig .tc .vmem S256x1536 .f32) (harg13 : arg13.IsWhole) (arg14 : Memref sig .tc .vmem S3x1536 .f32) (harg14 : arg14.IsWhole) (arg15 : Memref sig .tc .vmem S16x1536 .f32) (harg15 : arg15.IsWhole) (arg16 : Memref sig .tc .vmem S256x1536 .f32) (harg16 : arg16.IsWhole) (A : Vec F S16x1536 .f32)
    (X11 : BufTy.Contents (Elt F) arg11.view.ty) (X12 : BufTy.Contents (Elt F) arg12.view.ty) (X16 : BufTy.Contents (Elt F) arg16.view.ty) (s : Vec F S16x1536 .f32)
    (dt u : Vec F S256x1536 .f32) (bc : Vec F S256x32 .f32) (h11 : arg11.view.read (Elt F) X11 = dt) (h12 : arg12.view.read (Elt F) X12 = bc)
    (h16 : arg16.view.read (Elt F) X16 = u) (f : arg13.view.ty.Contents (Elt F)) :
    arg13.view.read (Elt F) (arg13.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 s 256).2) = fwdSums A dt u bc s := by
  obtain ⟨h1, h2, h3⟩ := st0_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 A X11 X12 X16 s dt u bc h11 h12 h16 256 le_rfl
  rw [View.read_writes_eq_canon _ _ _ (fun y => h3 y (y 0).isLt)]
  funext y
  exact View.canon_apply_of_pieces _ _ h2.mem y (h3 y (y 0).isLt)

/-- The convolution of a block, from the three rows carried in. -/
abbrev bConv (x0 : Vec F S256x768 .f32) (x1 : Vec F S768x3072 .f32) (x2 : Vec F S4x1536 .f32) (x3 : Vec F S1x1536 .f32) (cr : Vec F S3x1536 .f32) : Vec F S256x1536 .f32 :=
  k0_pay12 x0 x1 cr x3 (tap x2 0) (tap x2 1) (tap x2 2) (tap x2 3)
/-- What the block stores for the channels, the gate, the step sizes, the B and C columns, and dt·h. -/
abbrev bH (x0 : Vec F S256x768 .f32) (x1 : Vec F S768x3072 .f32) (x2 : Vec F S4x1536 .f32) (x3 : Vec F S1x1536 .f32) (cr : Vec F S3x1536 .f32) : Vec F S256x1536 .f32 :=
  k0_pay14 (bConv x0 x1 x2 x3 cr)
abbrev bG (x0 : Vec F S256x768 .f32) (x1 : Vec F S768x3072 .f32) : Vec F S256x1536 .f32 := k0_pay17 (k0_pay9 x0 x1)
abbrev bDt (x0 : Vec F S256x768 .f32) (x1 : Vec F S768x3072 .f32) (x2 : Vec F S4x1536 .f32) (x3 : Vec F S1x1536 .f32) (x4 : Vec F S1536x80 .f32) (x5 : Vec F S48x1536 .f32) (x6 : Vec F S1x1536 .f32) (cr : Vec F S3x1536 .f32) : Vec F S256x1536 .f32 :=
  k0_pay16 (bConv x0 x1 x2 x3 cr) x4 x5 x6
abbrev bBc (x0 : Vec F S256x768 .f32) (x1 : Vec F S768x3072 .f32) (x2 : Vec F S4x1536 .f32) (x3 : Vec F S1x1536 .f32) (x4 : Vec F S1536x80 .f32) (cr : Vec F S3x1536 .f32) : Vec F S256x32 .f32 :=
  k0_pay2 (k0_pay15 (bConv x0 x1 x2 x3 cr) x4)
abbrev bU (x0 : Vec F S256x768 .f32) (x1 : Vec F S768x3072 .f32) (x2 : Vec F S4x1536 .f32) (x3 : Vec F S1x1536 .f32) (x4 : Vec F S1536x80 .f32) (x5 : Vec F S48x1536 .f32) (x6 : Vec F S1x1536 .f32) (cr : Vec F S3x1536 .f32) : Vec F S256x1536 .f32 :=
  k0_pay1 (k0_pay18 (bConv x0 x1 x2 x3 cr) x4 x5 x6)
abbrev bS (x0 : Vec F S256x768 .f32) (x1 : Vec F S768x3072 .f32) (x2 : Vec F S4x1536 .f32) (x3 : Vec F S1x1536 .f32) (x4 : Vec F S1536x80 .f32) (x5 : Vec F S48x1536 .f32) (x6 : Vec F S1x1536 .f32) (x7 : Vec F S16x1536 .f32) (cr : Vec F S3x1536 .f32) (s : Vec F S16x1536 .f32) : Vec F S256x1536 .f32 :=
  fwdSums x7 (bDt x0 x1 x2 x3 x4 x5 x6 cr) (bU x0 x1 x2 x3 x4 x5 x6 cr) (bBc x0 x1 x2 x3 x4 cr) s
/-- The three rows carried out, and the state carried out. -/
abbrev bCr (x0 : Vec F S256x768 .f32) (x1 : Vec F S768x3072 .f32) : Vec F S3x1536 .f32 := k0_pay13 (k0_pay8 x0 x1)
abbrev bSt (x0 : Vec F S256x768 .f32) (x1 : Vec F S768x3072 .f32) (x2 : Vec F S4x1536 .f32) (x3 : Vec F S1x1536 .f32) (x4 : Vec F S1536x80 .f32) (x5 : Vec F S48x1536 .f32) (x6 : Vec F S1x1536 .f32) (x7 : Vec F S16x1536 .f32) (cr : Vec F S3x1536 .f32) (s : Vec F S16x1536 .f32) : Vec F S16x1536 .f32 :=
  k0_pay6 (fwd x7 (bDt x0 x1 x2 x3 x4 x5 x6 cr) (bU x0 x1 x2 x3 x4 x5 x6 cr) (bBc x0 x1 x2 x3 x4 cr) s 256)

/-- The body's branch condition at a grid coordinate: the first point of the grid. -/
abbrev cond0 (i : grid0.Coords) : Prop := (Scalar.cmpi .ne (Scalar.extui (Scalar.cmpi .eq (BitVec.ofNat 32 (i 0).val) 0#32)) 0#32) = 1#1

end Cert.KernelIdeal.Hand

end
-- ==== Proof.KernelIdealFwdFirst.lean ====
module

public import proofs.«01_k».proof.Proof.Gen.KernelIdeal.Launch
public import proofs.«01_k».proof.Proof.Gen.KernelIdeal.Loops
public import proofs.«01_k».proof.Proof.Gen.KernelIdeal.Points
public import proofs.«01_k».proof.Proof.KernelIdealFwdFn
public import Idealize.ShloMosaic.Lib.Pipeline.FrameBody
public import Idealize.ShloMosaic.Lib.Pipeline.Value
public import Idealize.ShloMosaic.Lib.Pipeline.ReadBack
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 12800000 in
theorem fwd_body_first (c : Dev nD) (i : grid0.Coords) (arg1 : Memref sig .tc .vmem S256x768 .f32) (harg1 : arg1.IsWhole) (arg2 : Memref sig .tc .vmem S768x3072 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S1536x80 .f32) (harg5 : arg5.IsWhole) (arg6 : Memref sig .tc .vmem S48x1536 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S256x1536 .f32) (harg9 : arg9.IsWhole) (arg10 : Memref sig .tc .vmem S256x1536 .f32) (harg10 : arg10.IsWhole) (arg11 : Memref sig .tc .vmem S256x1536 .f32) (harg11 : arg11.IsWhole) (arg12 : Memref sig .tc .vmem S256x32 .f32) (harg12 : arg12.IsWhole) (arg13 : Memref sig .tc .vmem S256x1536 .f32) (harg13 : arg13.IsWhole) (arg14 : Memref sig .tc .vmem S3x1536 .f32) (harg14 : arg14.IsWhole) (arg15 : Memref sig .tc .vmem S16x1536 .f32) (harg15 : arg15.IsWhole) (arg16 : Memref sig .tc .vmem S256x1536 .f32) (harg16 : arg16.IsWhole) (hc0 : cond0 i) (x0 : Vec F S256x768 .f32) (x1 : Vec F S768x3072 .f32) (x2 : Vec F S4x1536 .f32) (x3 : Vec F S1x1536 .f32) (x4 : Vec F S1536x80 .f32) (x5 : Vec F S48x1536 .f32) (x6 : Vec F S1x1536 .f32) (x7 : Vec F S16x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (bH x0 x1 x2 x3 k0_pay10) ∗ owns (c : Thread nD τ) arg10 fullShare (bG x0 x1) ∗ owns (c : Thread nD τ) arg11 fullShare (bDt x0 x1 x2 x3 x4 x5 x6 k0_pay10) ∗ owns (c : Thread nD τ) arg12 fullShare (bBc x0 x1 x2 x3 x4 k0_pay10) ∗ owns (c : Thread nD τ) arg13 fullShare (bS x0 x1 x2 x3 x4 x5 x6 x7 k0_pay10 k0_pay11) ∗ owns (c : Thread nD τ) arg14 fullShare (bCr x0 x1) ∗ owns (c : Thread nD τ) arg15 fullShare (bSt x0 x1 x2 x3 x4 x5 x6 x7 k0_pay10 k0_pay11) ∗ (∃ d, owns (c : Thread nD τ) arg16 fullShare d)) -∗ K ⟨⟩))
      ⊢ wp frame (wpE (defs₀ (F := F)) Variants.none c none) E (cc0__front_fwd_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__front_fwd_kernel_eq_skeleton]; unfold cc0__front_fwd_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    repeat (first | delta fwd_body_first.sl.H8_1 | delta fwd_body_first.sl.H9_1 | delta fwd_body_first.sl.H10_1 | delta fwd_body_first.sl.H11_1 | delta fwd_body_first.sl.H13_1 | delta fwd_body_first.sl.H14_1 | delta fwd_body_first.sl.H15_1 | delta fwd_body_first.sl.H13_2 | delta fwd_body_first.sl.v9 | delta fwd_body_first.sl.v81 | delta fwd_body_first.sl.r_1 | delta fwd_body_first.sl.r_2 | delta fwd_body_first.sl.r_3 | delta fwd_body_first.sl.r_4 | delta fwd_body_first.sl.r_5 | delta fwd_body_first.sl.r_6 | delta fwd_body_first.sl.r_7 | delta fwd_body_first.sl.r_8 | delta fwd_body_first.sl.r_9 | delta fwd_body_first.sl.r_10 | delta fwd_body_first.sl.r_11 | delta fwd_body_first.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H9]
  · iexists _; isplitr; swap; · iexact H9
    ipureintro
    repeat (first | delta fwd_body_first.sl.H8_1 | delta fwd_body_first.sl.H9_1 | delta fwd_body_first.sl.H10_1 | delta fwd_body_first.sl.H11_1 | delta fwd_body_first.sl.H13_1 | delta fwd_body_first.sl.H14_1 | delta fwd_body_first.sl.H15_1 | delta fwd_body_first.sl.H13_2 | delta fwd_body_first.sl.v9 | delta fwd_body_first.sl.v81 | delta fwd_body_first.sl.r_1 | delta fwd_body_first.sl.r_2 | delta fwd_body_first.sl.r_3 | delta fwd_body_first.sl.r_4 | delta fwd_body_first.sl.r_5 | delta fwd_body_first.sl.r_6 | delta fwd_body_first.sl.r_7 | delta fwd_body_first.sl.r_8 | delta fwd_body_first.sl.r_9 | delta fwd_body_first.sl.r_10 | delta fwd_body_first.sl.r_11 | delta fwd_body_first.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H10]
  · iexists _; isplitr; swap; · iexact H10
    ipureintro
    repeat (first | delta fwd_body_first.sl.H8_1 | delta fwd_body_first.sl.H9_1 | delta fwd_body_first.sl.H10_1 | delta fwd_body_first.sl.H11_1 | delta fwd_body_first.sl.H13_1 | delta fwd_body_first.sl.H14_1 | delta fwd_body_first.sl.H15_1 | delta fwd_body_first.sl.H13_2 | delta fwd_body_first.sl.v9 | delta fwd_body_first.sl.v81 | delta fwd_body_first.sl.r_1 | delta fwd_body_first.sl.r_2 | delta fwd_body_first.sl.r_3 | delta fwd_body_first.sl.r_4 | delta fwd_body_first.sl.r_5 | delta fwd_body_first.sl.r_6 | delta fwd_body_first.sl.r_7 | delta fwd_body_first.sl.r_8 | delta fwd_body_first.sl.r_9 | delta fwd_body_first.sl.r_10 | delta fwd_body_first.sl.r_11 | delta fwd_body_first.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H11]
  · iexists _; isplitr; swap; · iexact H11
    ipureintro
    repeat (first | delta fwd_body_first.sl.H8_1 | delta fwd_body_first.sl.H9_1 | delta fwd_body_first.sl.H10_1 | delta fwd_body_first.sl.H11_1 | delta fwd_body_first.sl.H13_1 | delta fwd_body_first.sl.H14_1 | delta fwd_body_first.sl.H15_1 | delta fwd_body_first.sl.H13_2 | delta fwd_body_first.sl.v9 | delta fwd_body_first.sl.v81 | delta fwd_body_first.sl.r_1 | delta fwd_body_first.sl.r_2 | delta fwd_body_first.sl.r_3 | delta fwd_body_first.sl.r_4 | delta fwd_body_first.sl.r_5 | delta fwd_body_first.sl.r_6 | delta fwd_body_first.sl.r_7 | delta fwd_body_first.sl.r_8 | delta fwd_body_first.sl.r_9 | delta fwd_body_first.sl.r_10 | delta fwd_body_first.sl.r_11 | delta fwd_body_first.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H12]
  · iexists _; isplitr; swap; · iexact H12
    ipureintro
    repeat (first | delta fwd_body_first.sl.H8_1 | delta fwd_body_first.sl.H9_1 | delta fwd_body_first.sl.H10_1 | delta fwd_body_first.sl.H11_1 | delta fwd_body_first.sl.H13_1 | delta fwd_body_first.sl.H14_1 | delta fwd_body_first.sl.H15_1 | delta fwd_body_first.sl.H13_2 | delta fwd_body_first.sl.v9 | delta fwd_body_first.sl.v81 | delta fwd_body_first.sl.r_1 | delta fwd_body_first.sl.r_2 | delta fwd_body_first.sl.r_3 | delta fwd_body_first.sl.r_4 | delta fwd_body_first.sl.r_5 | delta fwd_body_first.sl.r_6 | delta fwd_body_first.sl.r_7 | delta fwd_body_first.sl.r_8 | delta fwd_body_first.sl.r_9 | delta fwd_body_first.sl.r_10 | delta fwd_body_first.sl.r_11 | delta fwd_body_first.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
    exact fwdSums_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x7 _ _ _ k0_pay11 (bDt x0 x1 x2 x3 x4 x5 x6 k0_pay10) (bU x0 x1 x2 x3 x4 x5 x6 k0_pay10) (bBc x0 x1 x2 x3 x4 k0_pay10) (rdw_S256x1536 _ _ _ _ _) (rdw_S256x32 _ _ _ _ _) (rdw_S256x1536 _ _ _ _ _) f12
  isplitl [H13]
  · iexists _; isplitr; swap; · iexact H13
    ipureintro
    repeat (first | delta fwd_body_first.sl.H8_1 | delta fwd_body_first.sl.H9_1 | delta fwd_body_first.sl.H10_1 | delta fwd_body_first.sl.H11_1 | delta fwd_body_first.sl.H13_1 | delta fwd_body_first.sl.H14_1 | delta fwd_body_first.sl.H15_1 | delta fwd_body_first.sl.H13_2 | delta fwd_body_first.sl.v9 | delta fwd_body_first.sl.v81 | delta fwd_body_first.sl.r_1 | delta fwd_body_first.sl.r_2 | delta fwd_body_first.sl.r_3 | delta fwd_body_first.sl.r_4 | delta fwd_body_first.sl.r_5 | delta fwd_body_first.sl.r_6 | delta fwd_body_first.sl.r_7 | delta fwd_body_first.sl.r_8 | delta fwd_body_first.sl.r_9 | delta fwd_body_first.sl.r_10 | delta fwd_body_first.sl.r_11 | delta fwd_body_first.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H14]
  · iexists _; isplitr; swap; · iexact H14
    ipureintro
    repeat (first | delta fwd_body_first.sl.H8_1 | delta fwd_body_first.sl.H9_1 | delta fwd_body_first.sl.H10_1 | delta fwd_body_first.sl.H11_1 | delta fwd_body_first.sl.H13_1 | delta fwd_body_first.sl.H14_1 | delta fwd_body_first.sl.H15_1 | delta fwd_body_first.sl.H13_2 | delta fwd_body_first.sl.v9 | delta fwd_body_first.sl.v81 | delta fwd_body_first.sl.r_1 | delta fwd_body_first.sl.r_2 | delta fwd_body_first.sl.r_3 | delta fwd_body_first.sl.r_4 | delta fwd_body_first.sl.r_5 | delta fwd_body_first.sl.r_6 | delta fwd_body_first.sl.r_7 | delta fwd_body_first.sl.r_8 | delta fwd_body_first.sl.r_9 | delta fwd_body_first.sl.r_10 | delta fwd_body_first.sl.r_11 | delta fwd_body_first.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
    exact congrArg k0_pay6 (st0_eq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x7 _ _ _ k0_pay11 (bDt x0 x1 x2 x3 x4 x5 x6 k0_pay10) (bU x0 x1 x2 x3 x4 x5 x6 k0_pay10) (bBc x0 x1 x2 x3 x4 k0_pay10) (rdw_S256x1536 _ _ _ _ _) (rdw_S256x32 _ _ _ _ _) (rdw_S256x1536 _ _ _ _ _) 256 le_rfl).1
  iexists _, _; isplitr; swap; · iexact H15
  ipureintro; rfl

end Cert.KernelIdeal.Hand

end
-- ==== Proof.KernelIdealFwdNext.lean ====
module

public import proofs.«01_k».proof.Proof.Gen.KernelIdeal.Launch
public import proofs.«01_k».proof.Proof.Gen.KernelIdeal.Loops
public import proofs.«01_k».proof.Proof.Gen.KernelIdeal.Points
public import proofs.«01_k».proof.Proof.KernelIdealFwdFn
public import Idealize.ShloMosaic.Lib.Pipeline.FrameBody
public import Idealize.ShloMosaic.Lib.Pipeline.Value
public import Idealize.ShloMosaic.Lib.Pipeline.ReadBack
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 12800000 in
theorem fwd_body_next (c : Dev nD) (i : grid0.Coords) (arg1 : Memref sig .tc .vmem S256x768 .f32) (harg1 : arg1.IsWhole) (arg2 : Memref sig .tc .vmem S768x3072 .f32) (harg2 : arg2.IsWhole) (arg3 : Memref sig .tc .vmem S4x1536 .f32) (harg3 : arg3.IsWhole) (arg4 : Memref sig .tc .vmem S1x1536 .f32) (harg4 : arg4.IsWhole) (arg5 : Memref sig .tc .vmem S1536x80 .f32) (harg5 : arg5.IsWhole) (arg6 : Memref sig .tc .vmem S48x1536 .f32) (harg6 : arg6.IsWhole) (arg7 : Memref sig .tc .vmem S1x1536 .f32) (harg7 : arg7.IsWhole) (arg8 : Memref sig .tc .vmem S16x1536 .f32) (harg8 : arg8.IsWhole) (arg9 : Memref sig .tc .vmem S256x1536 .f32) (harg9 : arg9.IsWhole) (arg10 : Memref sig .tc .vmem S256x1536 .f32) (harg10 : arg10.IsWhole) (arg11 : Memref sig .tc .vmem S256x1536 .f32) (harg11 : arg11.IsWhole) (arg12 : Memref sig .tc .vmem S256x32 .f32) (harg12 : arg12.IsWhole) (arg13 : Memref sig .tc .vmem S256x1536 .f32) (harg13 : arg13.IsWhole) (arg14 : Memref sig .tc .vmem S3x1536 .f32) (harg14 : arg14.IsWhole) (arg15 : Memref sig .tc .vmem S16x1536 .f32) (harg15 : arg15.IsWhole) (arg16 : Memref sig .tc .vmem S256x1536 .f32) (harg16 : arg16.IsWhole) (hc0 : ¬cond0 i) (x0 : Vec F S256x768 .f32) (x1 : Vec F S768x3072 .f32) (x2 : Vec F S4x1536 .f32) (x3 : Vec F S1x1536 .f32) (x4 : Vec F S1536x80 .f32) (x5 : Vec F S48x1536 .f32) (x6 : Vec F S1x1536 .f32) (x7 : Vec F S16x1536 .f32) (cr : Vec F S3x1536 .f32) (s : Vec F S16x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare cr ∗ owns (c : Thread nD τ) arg15 fullShare s ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (bH x0 x1 x2 x3 cr) ∗ owns (c : Thread nD τ) arg10 fullShare (bG x0 x1) ∗ owns (c : Thread nD τ) arg11 fullShare (bDt x0 x1 x2 x3 x4 x5 x6 cr) ∗ owns (c : Thread nD τ) arg12 fullShare (bBc x0 x1 x2 x3 x4 cr) ∗ owns (c : Thread nD τ) arg13 fullShare (bS x0 x1 x2 x3 x4 x5 x6 x7 cr s) ∗ owns (c : Thread nD τ) arg14 fullShare (bCr x0 x1) ∗ owns (c : Thread nD τ) arg15 fullShare (bSt x0 x1 x2 x3 x4 x5 x6 x7 cr s) ∗ (∃ d, owns (c : Thread nD τ) arg16 fullShare d)) -∗ K ⟨⟩))
      ⊢ wp frame (wpE (defs₀ (F := F)) Variants.none c none) E (cc0__front_fwd_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__front_fwd_kernel_eq_skeleton]; unfold cc0__front_fwd_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg14.eq_unread hf13; obtain rfl := harg15.eq_unread hf14
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    repeat (first | delta fwd_body_next.sl.H8_1 | delta fwd_body_next.sl.H9_1 | delta fwd_body_next.sl.H10_1 | delta fwd_body_next.sl.H11_1 | delta fwd_body_next.sl.H13_1 | delta fwd_body_next.sl.H14_1 | delta fwd_body_next.sl.H15_1 | delta fwd_body_next.sl.H13_2 | delta fwd_body_next.sl.v9 | delta fwd_body_next.sl.v81 | delta fwd_body_next.sl.r_1 | delta fwd_body_next.sl.r_2 | delta fwd_body_next.sl.r_3 | delta fwd_body_next.sl.r_4 | delta fwd_body_next.sl.r_5 | delta fwd_body_next.sl.r_6 | delta fwd_body_next.sl.r_7 | delta fwd_body_next.sl.r_8 | delta fwd_body_next.sl.r_9 | delta fwd_body_next.sl.r_10 | delta fwd_body_next.sl.r_11 | delta fwd_body_next.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H9]
  · iexists _; isplitr; swap; · iexact H9
    ipureintro
    repeat (first | delta fwd_body_next.sl.H8_1 | delta fwd_body_next.sl.H9_1 | delta fwd_body_next.sl.H10_1 | delta fwd_body_next.sl.H11_1 | delta fwd_body_next.sl.H13_1 | delta fwd_body_next.sl.H14_1 | delta fwd_body_next.sl.H15_1 | delta fwd_body_next.sl.H13_2 | delta fwd_body_next.sl.v9 | delta fwd_body_next.sl.v81 | delta fwd_body_next.sl.r_1 | delta fwd_body_next.sl.r_2 | delta fwd_body_next.sl.r_3 | delta fwd_body_next.sl.r_4 | delta fwd_body_next.sl.r_5 | delta fwd_body_next.sl.r_6 | delta fwd_body_next.sl.r_7 | delta fwd_body_next.sl.r_8 | delta fwd_body_next.sl.r_9 | delta fwd_body_next.sl.r_10 | delta fwd_body_next.sl.r_11 | delta fwd_body_next.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H10]
  · iexists _; isplitr; swap; · iexact H10
    ipureintro
    repeat (first | delta fwd_body_next.sl.H8_1 | delta fwd_body_next.sl.H9_1 | delta fwd_body_next.sl.H10_1 | delta fwd_body_next.sl.H11_1 | delta fwd_body_next.sl.H13_1 | delta fwd_body_next.sl.H14_1 | delta fwd_body_next.sl.H15_1 | delta fwd_body_next.sl.H13_2 | delta fwd_body_next.sl.v9 | delta fwd_body_next.sl.v81 | delta fwd_body_next.sl.r_1 | delta fwd_body_next.sl.r_2 | delta fwd_body_next.sl.r_3 | delta fwd_body_next.sl.r_4 | delta fwd_body_next.sl.r_5 | delta fwd_body_next.sl.r_6 | delta fwd_body_next.sl.r_7 | delta fwd_body_next.sl.r_8 | delta fwd_body_next.sl.r_9 | delta fwd_body_next.sl.r_10 | delta fwd_body_next.sl.r_11 | delta fwd_body_next.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H11]
  · iexists _; isplitr; swap; · iexact H11
    ipureintro
    repeat (first | delta fwd_body_next.sl.H8_1 | delta fwd_body_next.sl.H9_1 | delta fwd_body_next.sl.H10_1 | delta fwd_body_next.sl.H11_1 | delta fwd_body_next.sl.H13_1 | delta fwd_body_next.sl.H14_1 | delta fwd_body_next.sl.H15_1 | delta fwd_body_next.sl.H13_2 | delta fwd_body_next.sl.v9 | delta fwd_body_next.sl.v81 | delta fwd_body_next.sl.r_1 | delta fwd_body_next.sl.r_2 | delta fwd_body_next.sl.r_3 | delta fwd_body_next.sl.r_4 | delta fwd_body_next.sl.r_5 | delta fwd_body_next.sl.r_6 | delta fwd_body_next.sl.r_7 | delta fwd_body_next.sl.r_8 | delta fwd_body_next.sl.r_9 | delta fwd_body_next.sl.r_10 | delta fwd_body_next.sl.r_11 | delta fwd_body_next.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H12]
  · iexists _; isplitr; swap; · iexact H12
    ipureintro
    repeat (first | delta fwd_body_next.sl.H8_1 | delta fwd_body_next.sl.H9_1 | delta fwd_body_next.sl.H10_1 | delta fwd_body_next.sl.H11_1 | delta fwd_body_next.sl.H13_1 | delta fwd_body_next.sl.H14_1 | delta fwd_body_next.sl.H15_1 | delta fwd_body_next.sl.H13_2 | delta fwd_body_next.sl.v9 | delta fwd_body_next.sl.v81 | delta fwd_body_next.sl.r_1 | delta fwd_body_next.sl.r_2 | delta fwd_body_next.sl.r_3 | delta fwd_body_next.sl.r_4 | delta fwd_body_next.sl.r_5 | delta fwd_body_next.sl.r_6 | delta fwd_body_next.sl.r_7 | delta fwd_body_next.sl.r_8 | delta fwd_body_next.sl.r_9 | delta fwd_body_next.sl.r_10 | delta fwd_body_next.sl.r_11 | delta fwd_body_next.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
    exact fwdSums_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x7 _ _ _ s (bDt x0 x1 x2 x3 x4 x5 x6 cr) (bU x0 x1 x2 x3 x4 x5 x6 cr) (bBc x0 x1 x2 x3 x4 cr) (rdw_S256x1536 _ _ _ _ _) (rdw_S256x32 _ _ _ _ _) (rdw_S256x1536 _ _ _ _ _) f12
  isplitl [H13]
  · iexists _; isplitr; swap; · iexact H13
    ipureintro
    repeat (first | delta fwd_body_next.sl.H8_1 | delta fwd_body_next.sl.H9_1 | delta fwd_body_next.sl.H10_1 | delta fwd_body_next.sl.H11_1 | delta fwd_body_next.sl.H13_1 | delta fwd_body_next.sl.H14_1 | delta fwd_body_next.sl.H15_1 | delta fwd_body_next.sl.H13_2 | delta fwd_body_next.sl.v9 | delta fwd_body_next.sl.v81 | delta fwd_body_next.sl.r_1 | delta fwd_body_next.sl.r_2 | delta fwd_body_next.sl.r_3 | delta fwd_body_next.sl.r_4 | delta fwd_body_next.sl.r_5 | delta fwd_body_next.sl.r_6 | delta fwd_body_next.sl.r_7 | delta fwd_body_next.sl.r_8 | delta fwd_body_next.sl.r_9 | delta fwd_body_next.sl.r_10 | delta fwd_body_next.sl.r_11 | delta fwd_body_next.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
  isplitl [H14]
  · iexists _; isplitr; swap; · iexact H14
    ipureintro
    repeat (first | delta fwd_body_next.sl.H8_1 | delta fwd_body_next.sl.H9_1 | delta fwd_body_next.sl.H10_1 | delta fwd_body_next.sl.H11_1 | delta fwd_body_next.sl.H13_1 | delta fwd_body_next.sl.H14_1 | delta fwd_body_next.sl.H15_1 | delta fwd_body_next.sl.H13_2 | delta fwd_body_next.sl.v9 | delta fwd_body_next.sl.v81 | delta fwd_body_next.sl.r_1 | delta fwd_body_next.sl.r_2 | delta fwd_body_next.sl.r_3 | delta fwd_body_next.sl.r_4 | delta fwd_body_next.sl.r_5 | delta fwd_body_next.sl.r_6 | delta fwd_body_next.sl.r_7 | delta fwd_body_next.sl.r_8 | delta fwd_body_next.sl.r_9 | delta fwd_body_next.sl.r_10 | delta fwd_body_next.sl.r_11 | delta fwd_body_next.sl.r)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, rda_tap0, rda_tap1, rda_tap2, rda_tap3, trips0']
    exact congrArg k0_pay6 (st0_eq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x7 _ _ _ s (bDt x0 x1 x2 x3 x4 x5 x6 cr) (bU x0 x1 x2 x3 x4 x5 x6 cr) (bBc x0 x1 x2 x3 x4 cr) (rdw_S256x1536 _ _ _ _ _) (rdw_S256x32 _ _ _ _ _) (rdw_S256x1536 _ _ _ _ _) 256 le_rfl).1
  iexists _, _; isplitr; swap; · iexact H15
  ipureintro; rfl

end Cert.KernelIdeal.Hand

end
-- ==== Proof.KernelIdealFwdDat.lean ====
module

public import proofs.«01_k».proof.Proof.Gen.KernelIdeal.Launch
public import proofs.«01_k».proof.Proof.Gen.KernelIdeal.Loops
public import proofs.«01_k».proof.Proof.Gen.KernelIdeal.Points
public import proofs.«01_k».proof.Proof.KernelIdealFwdFirst
public import proofs.«01_k».proof.Proof.KernelIdealFwdNext
public import Idealize.ShloMosaic.Lib.Pipeline.FrameBody
public import Idealize.ShloMosaic.Lib.Ring
public import Idealize.ShloMosaic.Lib.Pipeline.Value
public import Idealize.ShloMosaic.Lib.Pipeline.ReadBack
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the kernel carries in scratch into point `n`. -/
def car0 (c : Dev nD) : ℕ → Vec F S3x1536 .f32 × Vec F S16x1536 .f32
  | 0 => (k0_pay10, k0_pay11)
  | n + 1 => if h : n < cfg0.N then (bCr (blk0 V c 0 ⟨n, h⟩) (blk0 V c 1 ⟨n, h⟩), bSt (blk0 V c 0 ⟨n, h⟩) (blk0 V c 1 ⟨n, h⟩) (blk0 V c 2 ⟨n, h⟩) (blk0 V c 3 ⟨n, h⟩) (blk0 V c 4 ⟨n, h⟩) (blk0 V c 5 ⟨n, h⟩) (blk0 V c 6 ⟨n, h⟩) (blk0 V c 7 ⟨n, h⟩) (car0 c n).1 (car0 c n).2) else car0 c n

theorem car0_succ (c : Dev nD) (t : Fin cfg0.N) : car0 V c (t.val + 1) = (bCr (blk0 V c 0 t) (blk0 V c 1 t), bSt (blk0 V c 0 t) (blk0 V c 1 t) (blk0 V c 2 t) (blk0 V c 3 t) (blk0 V c 4 t) (blk0 V c 5 t) (blk0 V c 6 t) (blk0 V c 7 t) (car0 V c t.val).1 (car0 V c t.val).2) := by
  rw [car0, dif_pos t.isLt]

abbrev ms0_0 (t : Fin cfg0.N) : Memref sig .tc .vmem S256x768 .f32 := win0_0.stage (cfg0.slots t 0)
abbrev ms0_1 (t : Fin cfg0.N) : Memref sig .tc .vmem S768x3072 .f32 := win0_1.stage (cfg0.slots t 1)
abbrev ms0_2 (t : Fin cfg0.N) : Memref sig .tc .vmem S4x1536 .f32 := win0_2.stage (cfg0.slots t 2)
abbrev ms0_3 (t : Fin cfg0.N) : Memref sig .tc .vmem S1x1536 .f32 := win0_3.stage (cfg0.slots t 3)
abbrev ms0_4 (t : Fin cfg0.N) : Memref sig .tc .vmem S1536x80 .f32 := win0_4.stage (cfg0.slots t 4)
abbrev ms0_5 (t : Fin cfg0.N) : Memref sig .tc .vmem S48x1536 .f32 := win0_5.stage (cfg0.slots t 5)
abbrev ms0_6 (t : Fin cfg0.N) : Memref sig .tc .vmem S1x1536 .f32 := win0_6.stage (cfg0.slots t 6)
abbrev ms0_7 (t : Fin cfg0.N) : Memref sig .tc .vmem S16x1536 .f32 := win0_7.stage (cfg0.slots t 7)
abbrev ms0_8 (t : Fin cfg0.N) : Memref sig .tc .vmem S256x1536 .f32 := win0_8.stage (cfg0.slots t 8)
abbrev ms0_9 (t : Fin cfg0.N) : Memref sig .tc .vmem S256x1536 .f32 := win0_9.stage (cfg0.slots t 9)
abbrev ms0_10 (t : Fin cfg0.N) : Memref sig .tc .vmem S256x1536 .f32 := win0_10.stage (cfg0.slots t 10)
abbrev ms0_11 (t : Fin cfg0.N) : Memref sig .tc .vmem S256x32 .f32 := win0_11.stage (cfg0.slots t 11)
abbrev ms0_12 (t : Fin cfg0.N) : Memref sig .tc .vmem S256x1536 .f32 := win0_12.stage (cfg0.slots t 12)
abbrev sc0_0 : Memref sig .tc .vmem S3x1536 .f32 := Memref.whole cc0_scratch0
abbrev sc0_1 : Memref sig .tc .vmem S16x1536 .f32 := Memref.whole cc0_scratch1
abbrev sc0_2 : Memref sig .tc .vmem S256x1536 .f32 := Memref.whole cc0_scratch2

theorem hcond0 : ∀ t : Fin cfg0.N, cond0 (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [cond0, e0, e1]
    word_cmp
   : ∀ t : Fin grid0.N, cond0 (grid0.coords t) ↔ t.val = 0)

theorem PhiA0_eq (c : Dev nD) :
    (Pipeline.ΦA spec0 c : sProp 𝕄)
      = iprop(iprop(iprop((∃ d, owns (c : Thread nD τ) sc0_0 fullShare d) ∗ (∃ d, owns (c : Thread nD τ) sc0_1 fullShare d) ∗ (∃ d, owns (c : Thread nD τ) sc0_2 fullShare d))
          ∗ Pipeline.scopedRestBut (Ix := Unit) (Name := ℕ) (U := UR sig nD τ) (Lvl := ℕ) (Val := Elt F) spec0 c [cc0_scratch0, cc0_scratch1, cc0_scratch2]) ∗ (∃ r, prngReg c r)) := by
  unfold Pipeline.ΦA
  rw [Pipeline.scopedRest_split_of_list spec0 c [cc0_scratch0, cc0_scratch1, cc0_scratch2] (by decide) (by decide)]
  simp only [sc0_0, sc0_1, sc0_2, owns_whole]; try rfl

/-- The invariant before point `n`: at first every scratch at anything; afterwards what is carried named. -/
def Phi0 (c : Dev nD) : (n : ℕ) → sProp 𝕄
  | 0 => Pipeline.ΦA spec0 c
  | n + 1 => iprop(iprop(iprop(owns (c : Thread nD τ) sc0_0 fullShare (car0 V c (n + 1)).1 ∗ owns (c : Thread nD τ) sc0_1 fullShare (car0 V c (n + 1)).2 ∗ (∃ d, owns (c : Thread nD τ) sc0_2 fullShare d)) ∗ Pipeline.scopedRestBut (Ix := Unit) (Name := ℕ) (U := UR sig nD τ) (Lvl := ℕ) (Val := Elt F) spec0 c [cc0_scratch0, cc0_scratch1, cc0_scratch2]) ∗ (∃ r, prngReg c r))

theorem Phi0_pos (c : Dev nD) (n : ℕ) (hz : n ≠ 0) : Phi0 V c n = iprop(iprop(iprop(owns (c : Thread nD τ) sc0_0 fullShare (car0 V c n).1 ∗ owns (c : Thread nD τ) sc0_1 fullShare (car0 V c n).2 ∗ (∃ d, owns (c : Thread nD τ) sc0_2 fullShare d)) ∗ Pipeline.scopedRestBut (Ix := Unit) (Name := ℕ) (U := UR sig nD τ) (Lvl := ℕ) (Val := Elt F) spec0 c [cc0_scratch0, cc0_scratch1, cc0_scratch2]) ∗ (∃ r, prngReg c r)) := by
  cases n with
  | zero => exact absurd rfl hz
  | succ n => rfl

/-- The pipeline's proof data: the arrays as found, each block after the body in closed form. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => bH (blk0 V c 0 t) (blk0 V c 1 t) (blk0 V c 2 t) (blk0 V c 3 t) (car0 V c t.val).1
    | ⟨9, _⟩ => bG (blk0 V c 0 t) (blk0 V c 1 t)
    | ⟨10, _⟩ => bDt (blk0 V c 0 t) (blk0 V c 1 t) (blk0 V c 2 t) (blk0 V c 3 t) (blk0 V c 4 t) (blk0 V c 5 t) (blk0 V c 6 t) (car0 V c t.val).1
    | ⟨11, _⟩ => bBc (blk0 V c 0 t) (blk0 V c 1 t) (blk0 V c 2 t) (blk0 V c 3 t) (blk0 V c 4 t) (car0 V c t.val).1
    | ⟨12, _⟩ => bS (blk0 V c 0 t) (blk0 V c 1 t) (blk0 V c 2 t) (blk0 V c 3 t) (blk0 V c 4 t) (blk0 V c 5 t) (blk0 V c 6 t) (blk0 V c 7 t) (car0 V c t.val).1 (car0 V c t.val).2
  Φ t := Phi0 V c t.val
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) : (dat0 V c).Φ t.castSucc = Phi0 V c t.val := rfl
theorem Phi0_succ (c : Dev nD) (t : Fin cfg0.N) : (dat0 V c).Φ t.succ = Phi0 V c (t.val + 1) := rfl
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = blk0 V c 7 t := by dsimp only [dat0]
theorem after0_8 (c : Dev nD) (t : Fin cfg0.N) : (dat0 V c).after 8 t = bH (blk0 V c 0 t) (blk0 V c 1 t) (blk0 V c 2 t) (blk0 V c 3 t) (car0 V c t.val).1 := by dsimp only [dat0]
theorem after0_9 (c : Dev nD) (t : Fin cfg0.N) : (dat0 V c).after 9 t = bG (blk0 V c 0 t) (blk0 V c 1 t) := by dsimp only [dat0]
theorem after0_10 (c : Dev nD) (t : Fin cfg0.N) : (dat0 V c).after 10 t = bDt (blk0 V c 0 t) (blk0 V c 1 t) (blk0 V c 2 t) (blk0 V c 3 t) (blk0 V c 4 t) (blk0 V c 5 t) (blk0 V c 6 t) (car0 V c t.val).1 := by dsimp only [dat0]
theorem after0_11 (c : Dev nD) (t : Fin cfg0.N) : (dat0 V c).after 11 t = bBc (blk0 V c 0 t) (blk0 V c 1 t) (blk0 V c 2 t) (blk0 V c 3 t) (blk0 V c 4 t) (car0 V c t.val).1 := by dsimp only [dat0]
theorem after0_12 (c : Dev nD) (t : Fin cfg0.N) : (dat0 V c).after 12 t = bS (blk0 V c 0 t) (blk0 V c 1 t) (blk0 V c 2 t) (blk0 V c 3 t) (blk0 V c 4 t) (blk0 V c 5 t) (blk0 V c 6 t) (blk0 V c 7 t) (car0 V c t.val).1 (car0 V c t.val).2 := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A_eq0]; try rfl) t d).trans
    (by unfold Dat.fetched Dat.blockOf blk0; rw [A_eq0]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A_eq0]; try rfl) t d).trans
    (by unfold Dat.fetched Dat.blockOf blk0; rw [A_eq0]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [A_eq0]; try rfl) t d).trans
    (by unfold Dat.fetched Dat.blockOf blk0; rw [A_eq0]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [A_eq0]; try rfl) t d).trans
    (by unfold Dat.fetched Dat.blockOf blk0; rw [A_eq0]; try rfl)
theorem before0_6 (c : Dev nD) (t : Fin cfg0.N) (d) : (dat0 V c).before 6 t d = blk0 V c 6 t :=
  ((dat0 V c).before_in_eq_fetched 6 rfl (fun _ => rfl) (fun _ _ _ => rfl) (fun t => by rw [after0_6]; unfold Dat.blockOf blk0; rw [A_eq0]; try rfl) t d).trans
    (by unfold Dat.fetched Dat.blockOf blk0; rw [A_eq0]; try rfl)
theorem before0_7 (c : Dev nD) (t : Fin cfg0.N) (d) : (dat0 V c).before 7 t d = blk0 V c 7 t :=
  ((dat0 V c).before_in_eq_fetched 7 rfl (fun _ => rfl) (fun _ _ _ => rfl) (fun t => by rw [after0_7]; unfold Dat.blockOf blk0; rw [A_eq0]; try rfl) t d).trans
    (by unfold Dat.fetched Dat.blockOf blk0; rw [A_eq0]; try rfl)

def bodyPre0 (c : Dev nD) (t : Fin cfg0.N) : sProp 𝕄 :=
  iprop((dat0 V c).Φ t.castSucc ∗ (dat0 V c).owesAt () t.castSucc ∗ (∃ d, owns (c : Thread nD τ) (ms0_0 t) fullShare ((dat0 V c).before 0 t d)) ∗ (∃ d, owns (c : Thread nD τ) (ms0_1 t) fullShare ((dat0 V c).before 1 t d)) ∗ (∃ d, owns (c : Thread nD τ) (ms0_2 t) fullShare ((dat0 V c).before 2 t d)) ∗ (∃ d, owns (c : Thread nD τ) (ms0_3 t) fullShare ((dat0 V c).before 3 t d)) ∗ (∃ d, owns (c : Thread nD τ) (ms0_4 t) fullShare ((dat0 V c).before 4 t d)) ∗ (∃ d, owns (c : Thread nD τ) (ms0_5 t) fullShare ((dat0 V c).before 5 t d)) ∗ (∃ d, owns (c : Thread nD τ) (ms0_6 t) fullShare ((dat0 V c).before 6 t d)) ∗ (∃ d, owns (c : Thread nD τ) (ms0_7 t) fullShare ((dat0 V c).before 7 t d)) ∗ (∃ d, owns (c : Thread nD τ) (ms0_8 t) fullShare ((dat0 V c).before 8 t d)) ∗ (∃ d, owns (c : Thread nD τ) (ms0_9 t) fullShare ((dat0 V c).before 9 t d)) ∗ (∃ d, owns (c : Thread nD τ) (ms0_10 t) fullShare ((dat0 V c).before 10 t d)) ∗ (∃ d, owns (c : Thread nD τ) (ms0_11 t) fullShare ((dat0 V c).before 11 t d)) ∗ (∃ d, owns (c : Thread nD τ) (ms0_12 t) fullShare ((dat0 V c).before 12 t d)))

def bodyPost0 (c : Dev nD) (t : Fin cfg0.N) : sProp 𝕄 :=
  iprop((dat0 V c).Φ t.succ ∗ (dat0 V c).owesAt () t.succ ∗ owns (c : Thread nD τ) (ms0_0 t) fullShare ((dat0 V c).after 0 t) ∗ owns (c : Thread nD τ) (ms0_1 t) fullShare ((dat0 V c).after 1 t) ∗ owns (c : Thread nD τ) (ms0_2 t) fullShare ((dat0 V c).after 2 t) ∗ owns (c : Thread nD τ) (ms0_3 t) fullShare ((dat0 V c).after 3 t) ∗ owns (c : Thread nD τ) (ms0_4 t) fullShare ((dat0 V c).after 4 t) ∗ owns (c : Thread nD τ) (ms0_5 t) fullShare ((dat0 V c).after 5 t) ∗ owns (c : Thread nD τ) (ms0_6 t) fullShare ((dat0 V c).after 6 t) ∗ owns (c : Thread nD τ) (ms0_7 t) fullShare ((dat0 V c).after 7 t) ∗ owns (c : Thread nD τ) (ms0_8 t) fullShare ((dat0 V c).after 8 t) ∗ owns (c : Thread nD τ) (ms0_9 t) fullShare ((dat0 V c).after 9 t) ∗ owns (c : Thread nD τ) (ms0_10 t) fullShare ((dat0 V c).after 10 t) ∗ owns (c : Thread nD τ) (ms0_11 t) fullShare ((dat0 V c).after 11 t) ∗ owns (c : Thread nD τ) (ms0_12 t) fullShare ((dat0 V c).after 12 t))

set_option maxHeartbeats 12800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    after0_0, after0_1, after0_2, after0_3, after0_4, after0_5, after0_6, after0_7, after0_8, after0_9, after0_10, after0_11, after0_12]
  rw [Phi0_castSucc, Phi0_succ, Phi0_pos V c _ (Nat.succ_ne_zero _), car0_succ]
  by_cases hz : t.val = 0
  · rw [hz, show Phi0 V c 0 = Pipeline.ΦA spec0 c from rfl, PhiA0_eq]
    dsimp only [car0]
    iintro ⟨⟨⟨⟨HS0, HS1, HS2⟩, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (fwd_body_first c (grid0.coords t) _ _ _ _ _ _ _ _ _ _ _ _ _ _ _ _ _ _ _ _ _ _ _ _ _ _ _ _ _ _ _ _ ((hcond0 t).mpr hz) (blk0 V c 0 t) (blk0 V c 1 t) (blk0 V c 2 t) (blk0 V c 3 t) (blk0 V c 4 t) (blk0 V c 5 t) (blk0 V c 6 t) (blk0 V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hb Hg]
    · isplitl [HS0 HS1 HS2 Hb]
      · isplitl [HS0 HS1 HS2]
        · isplitl [HS0]; · iexact HS0
          isplitl [HS1]; · iexact HS1
          iexact HS2
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [Phi0_pos V c _ hz]
    iintro ⟨⟨⟨⟨HS0, HS1, HS2⟩, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (fwd_body_next c (grid0.coords t) _ _ _ _ _ _ _ _ _ _ _ _ _ _ _ _ _ _ _ _ _ _ _ _ _ _ _ _ _ _ _ _ (fun h => hz ((hcond0 t).mp h)) (blk0 V c 0 t) (blk0 V c 1 t) (blk0 V c 2 t) (blk0 V c 3 t) (blk0 V c 4 t) (blk0 V c 5 t) (blk0 V c 6 t) (blk0 V c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iintro ⟨H0, H1, H2, H3, H4, H5, H6, H7, H8, H9, H10, H11, H12, HS0, HS1, HS2⟩
    isplitl [HS0 HS1 HS2 Hb Hg]
    · isplitl [HS0 HS1 HS2 Hb]
      · isplitl [HS0 HS1 HS2]
        · isplitl [HS0]; · iexact HS0
          isplitl [HS1]; · iexact HS1
          iexact HS2
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem Phi0_out (c : Dev nD) : Phi0 V c cfg0.N ⊢ Pipeline.ΦA spec0 c := by
  rw [Phi0_pos V c _ (by rw [show cfg0.N = 8 from N_0]; decide), PhiA0_eq]
  iintro ⟨⟨⟨HS0, HS1, HS2⟩, Hb⟩, Hg⟩
  isplitl [HS0 HS1 HS2 Hb]
  · isplitl [HS0 HS1 HS2]
    · isplitl [HS0]; · iexists _; iexact HS0
      isplitl [HS1]; · iexists _; iexact HS1
      iexact HS2
    iexact Hb
  iexact Hg

end Cert.KernelIdeal.Hand

end
-- ==== Proof.KernelIdealBwdFn.lean ====
module

public import proofs.«01_k».proof.Proof.Gen.KernelIdeal.Launch
public import proofs.«01_k».proof.Proof.Gen.KernelIdeal.Loops
public import proofs.«01_k».proof.Proof.Gen.KernelIdeal.Points
public import proofs.«01_k».proof.Proof.KernelIdealFwdFn
public import Idealize.ShloMosaic.Lib.Pipeline.FrameBody
public import Idealize.ShloMosaic.Lib.Pipeline.Value
public import Idealize.ShloMosaic.Lib.Pipeline.ReadBack
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! # One grid point of the backward pass, in closed form -/

/-- The backward state before row `255 - k` of a block, from the state `s` the block is entered with. -/
def bwd (A : Vec F S16x1536 .f32) (dt u : Vec F S256x1536 .f32) (bc : Vec F S256x32 .f32) (s : Vec F S16x1536 .f32) : ℕ → Vec F S16x1536 .f32
  | 0 => s
  | k + 1 => k1_pay7 A (bwd A dt u bc s k) (row dt (Fin.ofNat 256 (255 - k))) (row u (Fin.ofNat 256 (255 - k))) (row32 bc (Fin.ofNat 256 (255 - k)))

/-- What the loop leaves in the block of backward sums. -/
def bwdSums (A : Vec F S16x1536 .f32) (dt u : Vec F S256x1536 .f32) (bc : Vec F S256x32 .f32) (s : Vec F S16x1536 .f32) : Vec F S256x1536 .f32 :=
  fun j => k1_pay6 (bwd A dt u bc s (255 - (j 0).val)) (row u (j 0)) (row32 bc (j 0)) (ix2 (0 : Fin 1) (j 1))

theorem trips1 : k1_t1_loop.trips = 256 := by decide +kernel

set_option maxHeartbeats 4000000 in
theorem st1_eq (𝒱 : Variants) (c : Dev nD) (bd : Option 𝒱.V) (i : grid1.Coords) (arg1 : Memref sig .tc .vmem S256x1536 .f32) (harg1 : arg1.IsWhole) (arg2 : Memref sig .tc .vmem S256x32 .f32) (harg2 : arg2.IsWhole) (arg3 : Memref sig .tc .vmem S256x1536 .f32) (harg3 : arg3.IsWhole) (arg4 : Memref sig .tc .vmem S256x1536 .f32) (harg4 : arg4.IsWhole) (arg5 : Memref sig .tc .vmem S256x1536 .f32) (harg5 : arg5.IsWhole) (arg6 : Memref sig .tc .vmem S16x1536 .f32) (harg6 : arg6.IsWhole) (arg7 : Memref sig .tc .vmem S1x1536 .f32) (harg7 : arg7.IsWhole) (arg8 : Memref sig .tc .vmem S1536x768 .f32) (harg8 : arg8.IsWhole) (arg9 : Memref sig .tc .vmem S256x768 .f32) (harg9 : arg9.IsWhole) (arg10 : Memref sig .tc .vmem S16x1536 .f32) (harg10 : arg10.IsWhole) (arg11 : Memref sig .tc .vmem S256x1536 .f32) (harg11 : arg11.IsWhole) (arg12 : Memref sig .tc .vmem S256x1536 .f32) (harg12 : arg12.IsWhole) (A : Vec F S16x1536 .f32)
    (X1 : BufTy.Contents (Elt F) arg1.view.ty) (X2 : BufTy.Contents (Elt F) arg2.view.ty) (X12 : BufTy.Contents (Elt F) arg12.view.ty) (s : Vec F S16x1536 .f32)
    (dt u : Vec F S256x1536 .f32) (bc : Vec F S256x32 .f32) (h1 : arg1.view.read (Elt F) X1 = dt) (h2 : arg2.view.read (Elt F) X2 = bc) (h12 : arg12.view.read (Elt F) X12 = u) : ∀ k : ℕ, k ≤ 256 →
    (st_k1_t1 (F := F) 𝒱 c bd i arg1 harg1 arg2 harg2 arg3 harg3 arg4 harg4 arg5 harg5 arg6 harg6 arg7 harg7 arg8 harg8 arg9 harg9 arg10 harg10 arg11 harg11 arg12 harg12 A X1 X2 X12 s k).1 = bwd A dt u bc s k
    ∧ View.PiecesOf (bwdSums A dt u bc s) (st_k1_t1 (F := F) 𝒱 c bd i arg1 harg1 arg2 harg2 arg3 harg3 arg4 harg4 arg5 harg5 arg6 harg6 arg7 harg7 arg8 harg8 arg9 harg9 arg10 harg10 arg11 harg11 arg12 harg12 A X1 X2 X12 s k).2
    ∧ ∀ y : S256x1536.Idx, 256 - k ≤ (y 0).val → ∃ p ∈ (st_k1_t1 (F := F) 𝒱 c bd i arg1 harg1 arg2 harg2 arg3 harg3 arg4 harg4 arg5 harg5 arg6 harg6 arg7 harg7 arg8 harg8 arg9 harg9 arg10 harg10 arg11 harg11 arg12 harg12 A X1 X2 X12 s k).2, y ∈ p.1.set
  | 0, _ => ⟨rfl, trivial, fun y hy => absurd (y 0).isLt (Nat.not_lt.mpr hy)⟩
  | k + 1, hk => by
    obtain ⟨g1, g2, g3⟩ := st1_eq 𝒱 c bd i arg1 harg1 arg2 harg2 arg3 harg3 arg4 harg4 arg5 harg5 arg6 harg6 arg7 harg7 arg8 harg8 arg9 harg9 arg10 harg10 arg11 harg11 arg12 harg12 A X1 X2 X12 s dt u bc h1 h2 h12 k (Nat.le_of_succ_le hk)
    have hk' : k < 256 := hk
    have hr : (Fin.ofNat 256 (255 - k)).val = 255 - k := Nat.mod_eq_of_lt (by omega)
    have hs := st_k1_t1_succ (F := F) 𝒱 c bd i arg1 harg1 arg2 harg2 arg3 harg3 arg4 harg4 arg5 harg5 arg6 harg6 arg7 harg7 arg8 harg8 arg9 harg9 arg10 harg10 arg11 harg11 arg12 harg12 A X1 X2 X12 s ⟨k, trips1.symm ▸ hk'⟩
    have o1 : k1_off1 ⟨k, trips1.symm ▸ hk'⟩ = ![(Fin.ofNat 256 (255 - k)).val, 0] := by rw [hr]; exact k1_off1_eq ⟨k, trips1.symm ▸ hk'⟩
    have o2 : k1_off2 ⟨k, trips1.symm ▸ hk'⟩ = ![(Fin.ofNat 256 (255 - k)).val, 0] := by rw [hr]; exact k1_off2_eq ⟨k, trips1.symm ▸ hk'⟩
    have e1 := ld_row dt (Fin.ofNat 256 (255 - k)) o1 (k1_off1_inb _)
    have e12 := ld_row u (Fin.ofNat 256 (255 - k)) o1 (k1_off1_inb _)
    have e2 := ld_row32 bc (Fin.ofNat 256 (255 - k)) o2 (k1_off2_inb _)
    have hR : tripR_k1_t1 (F := F) 𝒱 c bd i arg1 harg1 arg2 harg2 arg3 harg3 arg4 harg4 arg5 harg5 arg6 harg6 arg7 harg7 arg8 harg8 arg9 harg9 arg10 harg10 arg11 harg11 arg12 harg12 A X1 X2 X12 ⟨k, trips1.symm ▸ hk'⟩ (bwd A dt u bc s k)
        = k1_pay7 A (bwd A dt u bc s k) (row dt (Fin.ofNat 256 (255 - k))) (row u (Fin.ofNat 256 (255 - k))) (row32 bc (Fin.ofNat 256 (255 - k))) := by
      unfold tripR_k1_t1 trip_k1_t1
      dsimp only
      rw [← e1, ← e12, ← e2, ← h1, ← h2, ← h12]
      rfl
    have hL : tripL_k1_t1 (F := F) 𝒱 c bd i arg1 harg1 arg2 harg2 arg3 harg3 arg4 harg4 arg5 harg5 arg6 harg6 arg7 harg7 arg8 harg8 arg9 harg9 arg10 harg10 arg11 harg11 arg12 harg12 A X1 X2 X12 ⟨k, trips1.symm ▸ hk'⟩ (bwd A dt u bc s k)
        = [⟨Rect.unit (s := S256x1536) (k1_off1 ⟨k, trips1.symm ▸ hk'⟩) S1x1536.size (k1_off1_inb _),
            k1_pay6 (bwd A dt u bc s k) (row u (Fin.ofNat 256 (255 - k))) (row32 bc (Fin.ofNat 256 (255 - k)))⟩] := by
      unfold tripL_k1_t1 trip_k1_t1
      dsimp only
      rw [← e12, ← e2, ← h1, ← h2, ← h12]
      rfl
    have hs' : st_k1_t1 (F := F) 𝒱 c bd i arg1 harg1 arg2 harg2 arg3 harg3 arg4 harg4 arg5 harg5 arg6 harg6 arg7 harg7 arg8 harg8 arg9 harg9 arg10 harg10 arg11 harg11 arg12 harg12 A X1 X2 X12 s (k + 1) = _ := hs
    dsimp only at hs'
    rw [g1, hR, hL] at hs'
    rw [hs']
    refine ⟨rfl, ⟨fun x => ?_, g2⟩, fun y hy => ?_⟩
    · rw [emb_row (Fin.ofNat 256 (255 - k)) o1]
      have hb : 255 - (Fin.ofNat 256 (255 - k)).val = k := by rw [hr]; omega
      have hG : bwdSums A dt u bc s (ix2 (Fin.ofNat 256 (255 - k)) (x 1)) = k1_pay6 (bwd A dt u bc s (255 - (Fin.ofNat 256 (255 - k)).val)) (row u (Fin.ofNat 256 (255 - k))) (row32 bc (Fin.ofNat 256 (255 - k))) (ix2 (0 : Fin 1) (x 1)) := rfl
      rw [hb] at hG
      refine Eq.trans ?_ hG.symm
      exact congrArg (k1_pay6 (bwd A dt u bc s k) (row u (Fin.ofNat 256 (255 - k))) (row32 bc (Fin.ofNat 256 (255 - k)))) (ix_row x).symm
    · by_cases h : 256 - k ≤ (y 0).val
      · obtain ⟨p, hp, hy'⟩ := g3 y h
        exact ⟨p, List.mem_cons_of_mem _ hp, hy'⟩
      · exact ⟨_, List.mem_cons_self, mem_row (Fin.ofNat 256 (255 - k)) o1 (k1_off1_inb _) y (by rw [hr]; omega)⟩

theorem bwdSums_canon (𝒱 : Variants) (c : Dev nD) (bd : Option 𝒱.V) (i : grid1.Coords) (arg1 : Memref sig .tc .vmem S256x1536 .f32) (harg1 : arg1.IsWhole) (arg2 : Memref sig .tc .vmem S256x32 .f32) (harg2 : arg2.IsWhole) (arg3 : Memref sig .tc .vmem S256x1536 .f32) (harg3 : arg3.IsWhole) (arg4 : Memref sig .tc .vmem S256x1536 .f32) (harg4 : arg4.IsWhole) (arg5 : Memref sig .tc .vmem S256x1536 .f32) (harg5 : arg5.IsWhole) (arg6 : Memref sig .tc .vmem S16x1536 .f32) (harg6 : arg6.IsWhole) (arg7 : Memref sig .tc .vmem S1x1536 .f32) (harg7 : arg7.IsWhole) (arg8 : Memref sig .tc .vmem S1536x768 .f32) (harg8 : arg8.IsWhole) (arg9 : Memref sig .tc .vmem S256x768 .f32) (harg9 : arg9.IsWhole) (arg10 : Memref sig .tc .vmem S16x1536 .f32) (harg10 : arg10.IsWhole) (arg11 : Memref sig .tc .vmem S256x1536 .f32) (harg11 : arg11.IsWhole) (arg12 : Memref sig .tc .vmem S256x1536 .f32) (harg12 : arg12.IsWhole) (A : Vec F S16x1536 .f32)
    (X1 : BufTy.Contents (Elt F) arg1.view.ty) (X2 : BufTy.Contents (Elt F) arg2.view.ty) (X12 : BufTy.Contents (Elt F) arg12.view.ty) (s : Vec F S16x1536 .f32)
    (dt u : Vec F S256x1536 .f32) (bc : Vec F S256x32 .f32) (h1 : arg1.view.read (Elt F) X1 = dt) (h2 : arg2.view.read (Elt F) X2 = bc) (h12 : arg12.view.read (Elt F) X12 = u) (f : arg11.view.ty.Contents (Elt F)) :
    arg11.view.read (Elt F) (arg11.view.writes (Elt F) f (st_k1_t1 (F := F) 𝒱 c bd i arg1 harg1 arg2 harg2 arg3 harg3 arg4 harg4 arg5 harg5 arg6 harg6 arg7 harg7 arg8 harg8 arg9 harg9 arg10 harg10 arg11 harg11 arg12 harg12 A X1 X2 X12 s 256).2) = bwdSums A dt u bc s := by
  obtain ⟨g1, g2, g3⟩ := st1_eq 𝒱 c bd i arg1 harg1 arg2 harg2 arg3 harg3 arg4 harg4 arg5 harg5 arg6 harg6 arg7 harg7 arg8 harg8 arg9 harg9 arg10 harg10 arg11 harg11 arg12 harg12 A X1 X2 X12 s dt u bc h1 h2 h12 256 le_rfl
  rw [View.read_writes_eq_canon _ _ _ (fun y => g3 y (Nat.zero_le _))]
  funext y
  exact View.canon_apply_of_pieces _ _ g2.mem y (g3 y (Nat.zero_le _))

/-- dt·h of the block. -/
abbrev oU (x0 x3 : Vec F S256x1536 .f32) : Vec F S256x1536 .f32 := k1_pay3 x0 x3
/-- The block of the result. -/
abbrev oOut (x0 : Vec F S256x1536 .f32) (x1 : Vec F S256x32 .f32) (x2 x3 x4 : Vec F S256x1536 .f32) (x5 : Vec F S16x1536 .f32) (x6 : Vec F S1x1536 .f32) (x7 : Vec F S1536x768 .f32) (s : Vec F S16x1536 .f32) : Vec F S256x768 .f32 :=
  k1_pay1 (k1_pay9 x1) (k1_pay10 x2 (bwdSums x5 x0 (oU x0 x3) x1 s)) (oU x0 x3) x3 x6 x4 x7
/-- The state carried out. -/
abbrev oSt (x0 : Vec F S256x1536 .f32) (x1 : Vec F S256x32 .f32) (x3 : Vec F S256x1536 .f32) (x5 : Vec F S16x1536 .f32) (s : Vec F S16x1536 .f32) : Vec F S16x1536 .f32 :=
  k1_pay8 (bwd x5 x0 (oU x0 x3) x1 s 256)

/-- The body's branch condition at a grid coordinate: the first point of the grid. -/
abbrev cond1 (i : grid1.Coords) : Prop := (Scalar.cmpi .ne (Scalar.extui (Scalar.cmpi .eq (BitVec.ofNat 32 (i 0).val) 0#32)) 0#32) = 1#1

end Cert.KernelIdeal.Hand

end
-- ==== Proof.KernelIdealBwdFirst.lean ====
module

public import proofs.«01_k».proof.Proof.Gen.KernelIdeal.Launch
public import proofs.«01_k».proof.Proof.Gen.KernelIdeal.Loops
public import proofs.«01_k».proof.Proof.Gen.KernelIdeal.Points
public import proofs.«01_k».proof.Proof.KernelIdealBwdFn
public import Idealize.ShloMosaic.Lib.Pipeline.FrameBody
public import Idealize.ShloMosaic.Lib.Pipeline.Value
public import Idealize.ShloMosaic.Lib.Pipeline.ReadBack
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 12800000 in
theorem bwd_body_first (c : Dev nD) (i : grid1.Coords) (arg1 : Memref sig .tc .vmem S256x1536 .f32) (harg1 : arg1.IsWhole) (arg2 : Memref sig .tc .vmem S256x32 .f32) (harg2 : arg2.IsWhole) (arg3 : Memref sig .tc .vmem S256x1536 .f32) (harg3 : arg3.IsWhole) (arg4 : Memref sig .tc .vmem S256x1536 .f32) (harg4 : arg4.IsWhole) (arg5 : Memref sig .tc .vmem S256x1536 .f32) (harg5 : arg5.IsWhole) (arg6 : Memref sig .tc .vmem S16x1536 .f32) (harg6 : arg6.IsWhole) (arg7 : Memref sig .tc .vmem S1x1536 .f32) (harg7 : arg7.IsWhole) (arg8 : Memref sig .tc .vmem S1536x768 .f32) (harg8 : arg8.IsWhole) (arg9 : Memref sig .tc .vmem S256x768 .f32) (harg9 : arg9.IsWhole) (arg10 : Memref sig .tc .vmem S16x1536 .f32) (harg10 : arg10.IsWhole) (arg11 : Memref sig .tc .vmem S256x1536 .f32) (harg11 : arg11.IsWhole) (arg12 : Memref sig .tc .vmem S256x1536 .f32) (harg12 : arg12.IsWhole) (hc0 : cond1 i) (x0 : Vec F S256x1536 .f32) (x1 : Vec F S256x32 .f32) (x2 x3 x4 : Vec F S256x1536 .f32) (x5 : Vec F S16x1536 .f32) (x6 : Vec F S1x1536 .f32) (x7 : Vec F S1536x768 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (oOut x0 x1 x2 x3 x4 x5 x6 x7 k1_pay2) ∗ owns (c : Thread nD τ) arg10 fullShare (oSt x0 x1 x3 x5 k1_pay2) ∗ (∃ d, owns (c : Thread nD τ) arg11 fullShare d) ∗ (∃ d, owns (c : Thread nD τ) arg12 fullShare d)) -∗ K ⟨⟩))
      ⊢ wp frame (wpE (defs₀ (F := F)) Variants.none c none) E (cc1__bwd_out_kernel i arg1 harg1 arg2 harg2 arg3 harg3 arg4 harg4 arg5 harg5 arg6 harg6 arg7 harg7 arg8 harg8 arg9 harg9 arg10 harg10 arg11 harg11 arg12 harg12) K := by
  simp only [cc1__bwd_out_kernel_eq_skeleton]; unfold cc1__bwd_out_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    repeat (first | delta bwd_body_first.sl.H8_1 | delta bwd_body_first.sl.H8_2 | delta bwd_body_first.sl.H9_1 | delta bwd_body_first.sl.H9_2 | delta bwd_body_first.sl.H10_1 | delta bwd_body_first.sl.H10_2 | delta bwd_body_first.sl.H11_1 | delta bwd_body_first.sl.H11_2 | delta bwd_body_first.sl.r | delta bwd_body_first.sl.r_1 | delta bwd_body_first.sl.r_2 | delta bwd_body_first.sl.r_3 | delta bwd_body_first.sl.r_4 | delta bwd_body_first.sl.r_5 | delta bwd_body_first.sl.r_6 | delta bwd_body_first.sl.r_7 | delta bwd_body_first.sl.r_8 | delta bwd_body_first.sl.r_9 | delta bwd_body_first.sl.r_10 | delta bwd_body_first.sl.r_11 | delta bwd_body_first.sl.v9 | delta bwd_body_first.sl.v10 | delta bwd_body_first.sl.v13 | delta bwd_body_first.sl.v28 | delta bwd_body_first.sl.v30 | delta bwd_body_first.sl.v8)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, trips0']
    exact congrArg (fun w => k1_pay1 (k1_pay9 x1) (k1_pay10 x2 w) (oU x0 x3) x3 x6 x4 x7) (bwdSums_canon Variants.none c none i arg1 harg1 arg2 harg2 arg3 harg3 arg4 harg4 arg5 harg5 arg6 harg6 arg7 harg7 arg8 harg8 arg9 harg9 arg10 harg10 arg11 harg11 arg12 harg12 x5 (harg1.unread x0) (harg2.unread x1) _ k1_pay2 x0 (oU x0 x3) x1 (harg1.read_unread _) (harg2.read_unread _) (rdw_S256x1536 _ _ _ _ _) f10)
  isplitl [H9]
  · iexists _; isplitr; swap; · iexact H9
    ipureintro
    repeat (first | delta bwd_body_first.sl.H8_1 | delta bwd_body_first.sl.H8_2 | delta bwd_body_first.sl.H9_1 | delta bwd_body_first.sl.H9_2 | delta bwd_body_first.sl.H10_1 | delta bwd_body_first.sl.H10_2 | delta bwd_body_first.sl.H11_1 | delta bwd_body_first.sl.H11_2 | delta bwd_body_first.sl.r | delta bwd_body_first.sl.r_1 | delta bwd_body_first.sl.r_2 | delta bwd_body_first.sl.r_3 | delta bwd_body_first.sl.r_4 | delta bwd_body_first.sl.r_5 | delta bwd_body_first.sl.r_6 | delta bwd_body_first.sl.r_7 | delta bwd_body_first.sl.r_8 | delta bwd_body_first.sl.r_9 | delta bwd_body_first.sl.r_10 | delta bwd_body_first.sl.r_11 | delta bwd_body_first.sl.v9 | delta bwd_body_first.sl.v10 | delta bwd_body_first.sl.v13 | delta bwd_body_first.sl.v28 | delta bwd_body_first.sl.v30 | delta bwd_body_first.sl.v8)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, trips0']
    exact congrArg k1_pay8 (st1_eq Variants.none c none i arg1 harg1 arg2 harg2 arg3 harg3 arg4 harg4 arg5 harg5 arg6 harg6 arg7 harg7 arg8 harg8 arg9 harg9 arg10 harg10 arg11 harg11 arg12 harg12 x5 (harg1.unread x0) (harg2.unread x1) _ k1_pay2 x0 (oU x0 x3) x1 (harg1.read_unread _) (harg2.read_unread _) (rdw_S256x1536 _ _ _ _ _) 256 le_rfl).1
  isplitl [H10]
  · iexists _, _; isplitr; swap; · iexact H10
    ipureintro; rfl
  iexists _, _; isplitr; swap; · iexact H11
  ipureintro; rfl

end Cert.KernelIdeal.Hand

end
-- ==== Proof.KernelIdealBwdNext.lean ====
module

public import proofs.«01_k».proof.Proof.Gen.KernelIdeal.Launch
public import proofs.«01_k».proof.Proof.Gen.KernelIdeal.Loops
public import proofs.«01_k».proof.Proof.Gen.KernelIdeal.Points
public import proofs.«01_k».proof.Proof.KernelIdealBwdFn
public import Idealize.ShloMosaic.Lib.Pipeline.FrameBody
public import Idealize.ShloMosaic.Lib.Pipeline.Value
public import Idealize.ShloMosaic.Lib.Pipeline.ReadBack
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 12800000 in
theorem bwd_body_next (c : Dev nD) (i : grid1.Coords) (arg1 : Memref sig .tc .vmem S256x1536 .f32) (harg1 : arg1.IsWhole) (arg2 : Memref sig .tc .vmem S256x32 .f32) (harg2 : arg2.IsWhole) (arg3 : Memref sig .tc .vmem S256x1536 .f32) (harg3 : arg3.IsWhole) (arg4 : Memref sig .tc .vmem S256x1536 .f32) (harg4 : arg4.IsWhole) (arg5 : Memref sig .tc .vmem S256x1536 .f32) (harg5 : arg5.IsWhole) (arg6 : Memref sig .tc .vmem S16x1536 .f32) (harg6 : arg6.IsWhole) (arg7 : Memref sig .tc .vmem S1x1536 .f32) (harg7 : arg7.IsWhole) (arg8 : Memref sig .tc .vmem S1536x768 .f32) (harg8 : arg8.IsWhole) (arg9 : Memref sig .tc .vmem S256x768 .f32) (harg9 : arg9.IsWhole) (arg10 : Memref sig .tc .vmem S16x1536 .f32) (harg10 : arg10.IsWhole) (arg11 : Memref sig .tc .vmem S256x1536 .f32) (harg11 : arg11.IsWhole) (arg12 : Memref sig .tc .vmem S256x1536 .f32) (harg12 : arg12.IsWhole) (hc0 : ¬cond1 i) (x0 : Vec F S256x1536 .f32) (x1 : Vec F S256x32 .f32) (x2 x3 x4 : Vec F S256x1536 .f32) (x5 : Vec F S16x1536 .f32) (x6 : Vec F S1x1536 .f32) (x7 : Vec F S1536x768 .f32) (s : Vec F S16x1536 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare s ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (oOut x0 x1 x2 x3 x4 x5 x6 x7 s) ∗ owns (c : Thread nD τ) arg10 fullShare (oSt x0 x1 x3 x5 s) ∗ (∃ d, owns (c : Thread nD τ) arg11 fullShare d) ∗ (∃ d, owns (c : Thread nD τ) arg12 fullShare d)) -∗ K ⟨⟩))
      ⊢ wp frame (wpE (defs₀ (F := F)) Variants.none c none) E (cc1__bwd_out_kernel i arg1 harg1 arg2 harg2 arg3 harg3 arg4 harg4 arg5 harg5 arg6 harg6 arg7 harg7 arg8 harg8 arg9 harg9 arg10 harg10 arg11 harg11 arg12 harg12) K := by
  simp only [cc1__bwd_out_kernel_eq_skeleton]; unfold cc1__bwd_out_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    repeat (first | delta bwd_body_next.sl.H8_1 | delta bwd_body_next.sl.H8_2 | delta bwd_body_next.sl.H9_1 | delta bwd_body_next.sl.H9_2 | delta bwd_body_next.sl.H10_1 | delta bwd_body_next.sl.H10_2 | delta bwd_body_next.sl.H11_1 | delta bwd_body_next.sl.H11_2 | delta bwd_body_next.sl.r | delta bwd_body_next.sl.r_1 | delta bwd_body_next.sl.r_2 | delta bwd_body_next.sl.r_3 | delta bwd_body_next.sl.r_4 | delta bwd_body_next.sl.r_5 | delta bwd_body_next.sl.r_6 | delta bwd_body_next.sl.r_7 | delta bwd_body_next.sl.r_8 | delta bwd_body_next.sl.r_9 | delta bwd_body_next.sl.r_10 | delta bwd_body_next.sl.r_11 | delta bwd_body_next.sl.v9 | delta bwd_body_next.sl.v10 | delta bwd_body_next.sl.v13 | delta bwd_body_next.sl.v28 | delta bwd_body_next.sl.v30 | delta bwd_body_next.sl.v8)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, trips0']
    exact congrArg (fun w => k1_pay1 (k1_pay9 x1) (k1_pay10 x2 w) (oU x0 x3) x3 x6 x4 x7) (bwdSums_canon Variants.none c none i arg1 harg1 arg2 harg2 arg3 harg3 arg4 harg4 arg5 harg5 arg6 harg6 arg7 harg7 arg8 harg8 arg9 harg9 arg10 harg10 arg11 harg11 arg12 harg12 x5 (harg1.unread x0) (harg2.unread x1) _ s x0 (oU x0 x3) x1 (harg1.read_unread _) (harg2.read_unread _) (rdw_S256x1536 _ _ _ _ _) f10)
  isplitl [H9]
  · iexists _; isplitr; swap; · iexact H9
    ipureintro
    repeat (first | delta bwd_body_next.sl.H8_1 | delta bwd_body_next.sl.H8_2 | delta bwd_body_next.sl.H9_1 | delta bwd_body_next.sl.H9_2 | delta bwd_body_next.sl.H10_1 | delta bwd_body_next.sl.H10_2 | delta bwd_body_next.sl.H11_1 | delta bwd_body_next.sl.H11_2 | delta bwd_body_next.sl.r | delta bwd_body_next.sl.r_1 | delta bwd_body_next.sl.r_2 | delta bwd_body_next.sl.r_3 | delta bwd_body_next.sl.r_4 | delta bwd_body_next.sl.r_5 | delta bwd_body_next.sl.r_6 | delta bwd_body_next.sl.r_7 | delta bwd_body_next.sl.r_8 | delta bwd_body_next.sl.r_9 | delta bwd_body_next.sl.r_10 | delta bwd_body_next.sl.r_11 | delta bwd_body_next.sl.v9 | delta bwd_body_next.sl.v10 | delta bwd_body_next.sl.v13 | delta bwd_body_next.sl.v28 | delta bwd_body_next.sl.v30 | delta bwd_body_next.sl.v8)
    simp only [rdw_S256x768, rda_S256x768, rdc_S256x768, rdw_S768x3072, rda_S768x3072, rdc_S768x3072, rdw_S1x1536, rda_S1x1536, rdc_S1x1536, rdw_S1536x80, rda_S1536x80, rdc_S1536x80, rdw_S48x1536, rda_S48x1536, rdc_S48x1536, rdw_S16x1536, rda_S16x1536, rdc_S16x1536, rdw_S256x1536, rda_S256x1536, rdc_S256x1536, rdw_S256x32, rda_S256x32, rdc_S256x32, rdw_S3x1536, rda_S3x1536, rdc_S3x1536, rdw_S1536x768, rda_S1536x768, rdc_S1536x768, Memref.IsWhole.read_unread, trips0']
    exact congrArg k1_pay8 (st1_eq Variants.none c none i arg1 harg1 arg2 harg2 arg3 harg3 arg4 harg4 arg5 harg5 arg6 harg6 arg7 harg7 arg8 harg8 arg9 harg9 arg10 harg10 arg11 harg11 arg12 harg12 x5 (harg1.unread x0) (harg2.unread x1) _ s x0 (oU x0 x3) x1 (harg1.read_unread _) (harg2.read_unread _) (rdw_S256x1536 _ _ _ _ _) 256 le_rfl).1
  isplitl [H10]
  · iexists _, _; isplitr; swap; · iexact H10
    ipureintro; rfl
  iexists _, _; isplitr; swap; · iexact H11
  ipureintro; rfl

end Cert.KernelIdeal.Hand

end
-- ==== Proof.KernelIdealBwdDat.lean ====
module

public import proofs.«01_k».proof.Proof.Gen.KernelIdeal.Launch
public import proofs.«01_k».proof.Proof.Gen.KernelIdeal.Loops
public import proofs.«01_k».proof.Proof.Gen.KernelIdeal.Points
public import proofs.«01_k».proof.Proof.KernelIdealBwdFirst
public import proofs.«01_k».proof.Proof.KernelIdealBwdNext
public import Idealize.ShloMosaic.Lib.Pipeline.FrameBody
public import Idealize.ShloMosaic.Lib.Ring
public import Idealize.ShloMosaic.Lib.Pipeline.Value
public import Idealize.ShloMosaic.Lib.Pipeline.ReadBack
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the kernel carries in scratch into point `n`. -/
def car1 (c : Dev nD) : ℕ → Vec F S16x1536 .f32
  | 0 => k1_pay2
  | n + 1 => if h : n < cfg1.N then oSt (blk1 V c 0 ⟨n, h⟩) (blk1 V c 1 ⟨n, h⟩) (blk1 V c 3 ⟨n, h⟩) (blk1 V c 5 ⟨n, h⟩) (car1 c n) else car1 c n

theorem car1_succ (c : Dev nD) (t : Fin cfg1.N) : car1 V c (t.val + 1) = oSt (blk1 V c 0 t) (blk1 V c 1 t) (blk1 V c 3 t) (blk1 V c 5 t) (car1 V c t.val) := by
  rw [car1, dif_pos t.isLt]

abbrev ms1_0 (t : Fin cfg1.N) : Memref sig .tc .vmem S256x1536 .f32 := win1_0.stage (cfg1.slots t 0)
abbrev ms1_1 (t : Fin cfg1.N) : Memref sig .tc .vmem S256x32 .f32 := win1_1.stage (cfg1.slots t 1)
abbrev ms1_2 (t : Fin cfg1.N) : Memref sig .tc .vmem S256x1536 .f32 := win1_2.stage (cfg1.slots t 2)
abbrev ms1_3 (t : Fin cfg1.N) : Memref sig .tc .vmem S256x1536 .f32 := win1_3.stage (cfg1.slots t 3)
abbrev ms1_4 (t : Fin cfg1.N) : Memref sig .tc .vmem S256x1536 .f32 := win1_4.stage (cfg1.slots t 4)
abbrev ms1_5 (t : Fin cfg1.N) : Memref sig .tc .vmem S16x1536 .f32 := win1_5.stage (cfg1.slots t 5)
abbrev ms1_6 (t : Fin cfg1.N) : Memref sig .tc .vmem S1x1536 .f32 := win1_6.stage (cfg1.slots t 6)
abbrev ms1_7 (t : Fin cfg1.N) : Memref sig .tc .vmem S1536x768 .f32 := win1_7.stage (cfg1.slots t 7)
abbrev ms1_8 (t : Fin cfg1.N) : Memref sig .tc .vmem S256x768 .f32 := win1_8.stage (cfg1.slots t 8)
abbrev sc1_0 : Memref sig .tc .vmem S16x1536 .f32 := Memref.whole cc1_scratch0
abbrev sc1_1 : Memref sig .tc .vmem S256x1536 .f32 := Memref.whole cc1_scratch1
abbrev sc1_2 : Memref sig .tc .vmem S256x1536 .f32 := Memref.whole cc1_scratch2

theorem hcond1 : ∀ t : Fin cfg1.N, cond1 (grid1.coords t) ↔ t.val = 0 :=
  (fun t => by
    have ht : t.val < 8 := Nat.lt_of_lt_of_eq t.isLt N_1
    have e0 : (grid1.coords t 0).val = t.val / 1 % 8 := Pipeline.Grid.coords_val t 0 (by decide) rfl
    have e1 : t.val / 1 % 8 = t.val := by omega
    simp only [cond1, e0, e1]
    word_cmp
   : ∀ t : Fin grid1.N, cond1 (grid1.coords t) ↔ t.val = 0)

theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d) ∗ (∃ d, owns (c : Thread nD τ) sc1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA
  rw [Pipeline.scopedRest_split_of_list spec1 c [cc1_scratch0, cc1_scratch1, cc1_scratch2] (by decide) (by decide)]
  simp only [sc1_0, sc1_1, sc1_2, owns_whole]; try rfl

/-- The invariant before point `n`: at first every scratch at anything; afterwards what is carried named. -/
def Phi1 (c : Dev nD) : (n : ℕ) → sProp 𝕄
  | 0 => Pipeline.ΦA spec1 c
  | n + 1 => iprop(iprop(iprop(owns (c : Thread nD τ) sc1_0 fullShare (car1 V c (n + 1)) ∗ (∃ d, owns (c : Thread nD τ) sc1_1 fullShare d) ∗ (∃ d, owns (c : Thread nD τ) sc1_2 fullShare d)) ∗ Pipeline.scopedRestBut (Ix := Unit) (Name := ℕ) (U := UR sig nD τ) (Lvl := ℕ) (Val := Elt F) spec1 c [cc1_scratch0, cc1_scratch1, cc1_scratch2]) ∗ (∃ r, prngReg c r))

theorem Phi1_pos (c : Dev nD) (n : ℕ) (hz : n ≠ 0) : Phi1 V c n = iprop(iprop(iprop(owns (c : Thread nD τ) sc1_0 fullShare (car1 V c n) ∗ (∃ d, owns (c : Thread nD τ) sc1_1 fullShare d) ∗ (∃ d, owns (c : Thread nD τ) sc1_2 fullShare d)) ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-- The pipeline's proof data: the arrays as found, each block after the body in closed form. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => oOut (blk1 V c 0 t) (blk1 V c 1 t) (blk1 V c 2 t) (blk1 V c 3 t) (blk1 V c 4 t) (blk1 V c 5 t) (blk1 V c 6 t) (blk1 V c 7 t) (car1 V c t.val)
  Φ t := Phi1 V c t.val
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) : (dat1 V c).Φ t.castSucc = Phi1 V c t.val := rfl
theorem Phi1_succ (c : Dev nD) (t : Fin cfg1.N) : (dat1 V c).Φ t.succ = Phi1 V c (t.val + 1) := rfl
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = oOut (blk1 V c 0 t) (blk1 V c 1 t) (blk1 V c 2 t) (blk1 V c 3 t) (blk1 V c 4 t) (blk1 V c 5 t) (blk1 V c 6 t) (blk1 V c 7 t) (car1 V c t.val) := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl) (fun t => by rw [after1_6]; unfold Dat.blockOf blk1; rw [A_eq1]; try rfl) t d).trans
    (by unfold Dat.fetched Dat.blockOf blk1; rw [A_eq1]; try rfl)
theorem before1_7 (c : Dev nD) (t : Fin cfg1.N) (d) : (dat1 V c).before 7 t d = blk1 V c 7 t :=
  ((dat1 V c).before_in_eq_fetched 7 rfl (fun _ => rfl) (fun _ _ _ => rfl) (fun t => by rw [after1_7]; unfold Dat.blockOf blk1; rw [A_eq1]; try rfl) t d).trans
    (by unfold Dat.fetched Dat.blockOf blk1; rw [A_eq1]; try rfl)

def bodyPre1 (c : Dev nD) (t : Fin cfg1.N) : sProp 𝕄 :=
  iprop((dat1 V c).Φ t.castSucc ∗ (dat1 V c).owesAt () t.castSucc ∗ (∃ d, owns (c : Thread nD τ) (ms1_0 t) fullShare ((dat1 V c).before 0 t d)) ∗ (∃ d, owns (c : Thread nD τ) (ms1_1 t) fullShare ((dat1 V c).before 1 t d)) ∗ (∃ d, owns (c : Thread nD τ) (ms1_2 t) fullShare ((dat1 V c).before 2 t d)) ∗ (∃ d, owns (c : Thread nD τ) (ms1_3 t) fullShare ((dat1 V c).before 3 t d)) ∗ (∃ d, owns (c : Thread nD τ) (ms1_4 t) fullShare ((dat1 V c).before 4 t d)) ∗ (∃ d, owns (c : Thread nD τ) (ms1_5 t) fullShare ((dat1 V c).before 5 t d)) ∗ (∃ d, owns (c : Thread nD τ) (ms1_6 t) fullShare ((dat1 V c).before 6 t d)) ∗ (∃ d, owns (c : Thread nD τ) (ms1_7 t) fullShare ((dat1 V c).before 7 t d)) ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ ∗ owns (c : Thread nD τ) (ms1_0 t) fullShare ((dat1 V c).after 0 t) ∗ owns (c : Thread nD τ) (ms1_1 t) fullShare ((dat1 V c).after 1 t) ∗ owns (c : Thread nD τ) (ms1_2 t) fullShare ((dat1 V c).after 2 t) ∗ owns (c : Thread nD τ) (ms1_3 t) fullShare ((dat1 V c).after 3 t) ∗ owns (c : Thread nD τ) (ms1_4 t) fullShare ((dat1 V c).after 4 t) ∗ owns (c : Thread nD τ) (ms1_5 t) fullShare ((dat1 V c).after 5 t) ∗ owns (c : Thread nD τ) (ms1_6 t) fullShare ((dat1 V c).after 6 t) ∗ owns (c : Thread nD τ) (ms1_7 t) fullShare ((dat1 V c).after 7 t) ∗ owns (c : Thread nD τ) (ms1_8 t) fullShare ((dat1 V c).after 8 t))

set_option maxHeartbeats 12800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8]
  rw [Phi1_castSucc, Phi1_succ, Phi1_pos V c _ (Nat.succ_ne_zero _), car1_succ]
  by_cases hz : t.val = 0
  · rw [hz, show Phi1 V c 0 = Pipeline.ΦA spec1 c from rfl, PhiA1_eq]
    dsimp only [car1]
    iintro ⟨⟨⟨⟨HS0, HS1, HS2⟩, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bwd_body_first c (grid1.coords t) _ _ _ _ _ _ _ _ _ _ _ _ _ _ _ _ _ _ _ _ _ _ _ _ ((hcond1 t).mpr hz) (blk1 V c 0 t) (blk1 V c 1 t) (blk1 V c 2 t) (blk1 V c 3 t) (blk1 V c 4 t) (blk1 V c 5 t) (blk1 V c 6 t) (blk1 V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hb Hg]
    · isplitl [HS0 HS1 HS2 Hb]
      · isplitl [HS0 HS1 HS2]
        · isplitl [HS0]; · iexact HS0
          isplitl [HS1]; · iexact HS1
          iexact HS2
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Phi1_pos V c _ hz]
    iintro ⟨⟨⟨⟨HS0, HS1, HS2⟩, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bwd_body_next c (grid1.coords t) _ _ _ _ _ _ _ _ _ _ _ _ _ _ _ _ _ _ _ _ _ _ _ _ (fun h => hz ((hcond1 t).mp h)) (blk1 V c 0 t) (blk1 V c 1 t) (blk1 V c 2 t) (blk1 V c 3 t) (blk1 V c 4 t) (blk1 V c 5 t) (blk1 V c 6 t) (blk1 V c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hb Hg]
    · isplitl [HS0 HS1 HS2 Hb]
      · isplitl [HS0 HS1 HS2]
        · isplitl [HS0]; · iexact HS0
          isplitl [HS1]; · iexact HS1
          iexact HS2
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem Phi1_out (c : Dev nD) : Phi1 V c cfg1.N ⊢ Pipeline.ΦA spec1 c := by
  rw [Phi1_pos V c _ (by rw [show cfg1.N = 8 from N_1]; decide), PhiA1_eq]
  iintro ⟨⟨⟨HS0, HS1, HS2⟩, Hb⟩, Hg⟩
  isplitl [HS0 HS1 HS2 Hb]
  · isplitl [HS0 HS1 HS2]
    · isplitl [HS0]; · iexists _; iexact HS0
      isplitl [HS1]; · iexact HS1
      iexact HS2
    iexact Hb
  iexact Hg

end Cert.KernelIdeal.Hand

end
-- ==== Proof.KernelIdealRun.lean ====
module

public import proofs.«01_k».proof.Proof.Gen.KernelIdeal.Launch
public import proofs.«01_k».proof.Proof.Gen.KernelIdeal.Loops
public import proofs.«01_k».proof.Proof.Gen.KernelIdeal.Points
public import proofs.«01_k».proof.Proof.KernelIdealFwdDat
public import proofs.«01_k».proof.Proof.KernelIdealBwdDat
public import proofs.«01_k».proof.Proof.Gen.KernelIdeal.Regions
public import Idealize.ShloMosaic.Lib.Pipeline.RegionsLoop
public import Idealize.ShloMosaic.Lib.Pipeline.FrameSuffix
public import Idealize.ShloMosaic.Lib.Ring
public import Idealize.ShloMosaic.Lib.Pipeline.FrameBody
public import Idealize.ShloMosaic.Lib.Pipeline.Value
public import Idealize.ShloMosaic.Lib.Pipeline.ReadBack
public import Idealize.ShloMosaic.Lib.VecWindow
public import Idealize.ShloMosaic.Lib.Pointwise
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10]

theorem hostOps0_args : ∀ a ∈ argRefs, a ∉ hostOps0_W := ListAll.forall_mem_of_all_decide (by decide +kernel)

theorem hostOps1_args : ∀ a ∈ argRefs, a ∉ hostOps1_W := ListAll.forall_mem_of_all_decide (by decide +kernel)

theorem hostOps2_args : ∀ a ∈ argRefs, a ∉ hostOps2_W := ListAll.forall_mem_of_all_decide (by decide +kernel)

/-- A core's buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers when the first call is entered. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers when the first call returns: its arrays as the pipeline leaves them, the rest as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers when the second call is entered. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers when the second call returns. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers when the program returns. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

abbrev adm : (p : Fin 2) → (pcfgs (F := F) p).Adm := fun p => (cfgs p).toPCfg_adm
/-- Each call's proof data, at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides along with the buffers: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the last segment leaves. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The first call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Phi0 (V1 m ρ) c cfg0.N from rfl]
    refine (Phi0_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Phi1 (V3 m ρ) c cfg1.N from rfl]
    refine (Phi1_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its five segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The program terminates without fault, its result is `W5` at `main_v10`, the arguments are as launched, every counter is zero. -/
theorem run : θ_run defs (onTc (τ := τ) (main (F := F))) ⟨m, fun _ => 0, ρ⟩ (fun r => (∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v10 (by decide)),
       (h c _ (mem_uc main_arg0 (by decide))).trans (W5_args m ρ c main_arg0 (by decide)),
       (h c _ (mem_uc main_arg1 (by decide))).trans (W5_args m ρ c main_arg1 (by decide)),
       (h c _ (mem_uc main_arg2 (by decide))).trans (W5_args m ρ c main_arg2 (by decide)),
       (h c _ (mem_uc main_arg3 (by decide))).trans (W5_args m ρ c main_arg3 (by decide)),
       (h c _ (mem_uc main_arg4 (by decide))).trans (W5_args m ρ c main_arg4 (by decide)),
       (h c _ (mem_uc main_arg5 (by decide))).trans (W5_args m ρ c main_arg5 (by decide)),
       (h c _ (mem_uc main_arg6 (by decide))).trans (W5_args m ρ c main_arg6 (by decide)),
       (h c _ (mem_uc main_arg7 (by decide))).trans (W5_args m ρ c main_arg7 (by decide)),
       (h c _ (mem_uc main_arg8 (by decide))).trans (W5_args m ρ c main_arg8 (by decide)),
       (h c _ (mem_uc main_arg9 (by decide))).trans (W5_args m ρ c main_arg9 (by decide)),
       (h c _ (mem_uc main_arg10 (by decide))).trans (W5_args m ρ c main_arg10 (by decide))⟩), funext fun g => hz g (.inr (no_unscoped g.2))⟩)

end Cert.KernelIdeal.Hand
-- ==== Proof.RefOps.lean ====
/- The reference's operations as lists: the stretches of `main` between its four loops, each loop's condition and body,
   what each list writes, and that none of them writes an argument. -/
module

public import proofs.«01_k».proof.Proof.Gen.ReferenceIdeal
public import Idealize.ShloMosaic.Lib.Pipeline.RegionsLoop
public import Idealize.ShloMosaic.Lib.StableHlo.RunLoop
public import Idealize.ShloMosaic.Lib.Scf.ExitTest
public import Idealize.ShloMosaic.Lib.Scf.Counter

@[expose] public section

set_option maxRecDepth 16384
set_option maxHeartbeats 4000000

noncomputable section

namespace Cert.ReferenceIdeal.Hand

open Idealize.ShloMosaic Idealize.ShloMosaic.TcCoe Idealize.SL.Sem
open Idealize.ShloMosaic.StableHlo
open Cert.ReferenceIdeal.Facts₀ Cert.ReferenceIdeal.Facts

variable {F : FTy → Type} [FloatOps F]

/-- The eleven argument arrays. -/
abbrev argRefs : List (Ref sig .tc) := [main_arg0, main_arg1, main_arg2, main_arg3, main_arg4, main_arg5, main_arg6, main_arg7, main_arg8, main_arg9, main_arg10]

/-- Stretch 0 of `main` (between the loops), part 0. -/
abbrev s0_0 : List (HloOp τ sig (Elt F)) :=
  [ StableHlo.binary main_arg0 main_arg2 main_v0 ((fun l r => Host.dotGeneral dot_S1x2048x768_S768x3072_S1x2048x3072_2_0_01_1_n_n none l r) : (⟨S1x2048x768, .f32⟩ : BufTy).Contents (Elt F) → (⟨S768x3072, .f32⟩ : BufTy).Contents (Elt F) → (⟨S1x2048x3072, .f32⟩ : BufTy).Contents (Elt F)),
    StableHlo.unary main_v0 main_v1 ((transpose S1x3072x2048 [0, 2, 1] · transposes_S1x2048x3072_S1x3072x2048_0_2_1) : (⟨S1x2048x3072, .f32⟩ : BufTy).Contents (Elt F) → (⟨S1x3072x2048, .f32⟩ : BufTy).Contents (Elt F)),
    StableHlo.unary main_v1 main_v2 ((extractStridedSlice S1x1536x2048 ![0, 0, 0] · slices_S1x3072x2048_S1x1536x2048_0_0_0) : (⟨S1x3072x2048, .f32⟩ : BufTy).Contents (Elt F) → (⟨S1x1536x2048, .f32⟩ : BufTy).Contents (Elt F)),
    StableHlo.unary main_v1 main_v3 ((extractStridedSlice S1x1536x2048 ![0, 1536, 0] · slices_S1x3072x2048_S1x1536x2048_0_1536_0) : (⟨S1x3072x2048, .f32⟩ : BufTy).Contents (Elt F) → (⟨S1x1536x2048, .f32⟩ : BufTy).Contents (Elt F)),
    StableHlo.nullary main_c (constantI S_ 32 0#32),
    StableHlo.unary main_c main_call0_v0 ((sitofp .f32) : (⟨S_, .i32⟩ : BufTy).Contents (Elt F) → (⟨S_, .f32⟩ : BufTy).Contents (Elt F)),
    StableHlo.binary main_v2 main_call0_v0 main_v4 ((fun x v => pad S1x1536x2051 ![0, 0, 3] ![0, 0, 0] ![0, 0, 0] x v pads_S1x1536x2048_S1x1536x2051_000_000_300 h_S_) : (⟨S1x1536x2048, .f32⟩ : BufTy).Contents (Elt F) → (⟨S_, .f32⟩ : BufTy).Contents (Elt F) → (⟨S1x1536x2051, .f32⟩ : BufTy).Contents (Elt F)) ]
theorem s0_0_sub : (s0_0 : List (HloOp τ sig (Elt F))).Forall fun op => op.bufs ⊆ tcRefs τ sig :=
  ⟨binary_bufs_sub .., unary_bufs_sub .., unary_bufs_sub .., unary_bufs_sub .., nullary_bufs_sub .., unary_bufs_sub .., binary_bufs_sub ..⟩
theorem s0_0_fresh : ∀ op ∈ (s0_0 : List (HloOp τ sig (Elt F))), op.fresh = ∅ :=
  List.forall_iff_forall_mem.mp (⟨rfl, rfl, rfl, rfl, rfl, rfl, rfl⟩)
abbrev s0_0_W : List (Ref sig .tc) := [main_v0, main_v1, main_v2, main_v3, main_c, main_call0_v0, main_v4]
theorem s0_0_writes : (s0_0 : List (HloOp τ sig (Elt F))).Forall fun op => op.writes ⊆ (s0_0_W.map (Proc.devRef (τ := τ) .tc)).toFinset :=
  StableHlo.forall_writes_sub_of_map rfl
theorem s0_0_args : ∀ a ∈ argRefs, a ∉ s0_0_W := by decide

/-- Stretch 0 of `main` (between the loops), part 1. -/
abbrev s0_1 : List (HloOp τ sig (Elt F)) :=
  [ StableHlo.unary main_arg4 main_v5 (broadcastInDim S1x1536x1 ![1] bcast_S1536_S1x1536x1_1 : (⟨S1536, .f32⟩ : BufTy).Contents (Elt F) → (⟨S1x1536x1, .f32⟩ : BufTy).Contents (Elt F)),
    StableHlo.unary main_arg3 main_v6 ((extractStridedSlice S1536x1 ![0, 0] · slices_S1536x4_S1536x1_0_0) : (⟨S1536x4, .f32⟩ : BufTy).Contents (Elt F) → (⟨S1536x1, .f32⟩ : BufTy).Contents (Elt F)),
    StableHlo.reshape main_v6 main_v7 (rfl : (.f32 : EltTy) = .f32) shapeCasts_S1536x1_S1536,
    StableHlo.unary main_v7 main_v8 (broadcastInDim S1x1536x1 ![1] bcast_S1536_S1x1536x1_1 : (⟨S1536, .f32⟩ : BufTy).Contents (Elt F) → (⟨S1x1536x1, .f32⟩ : BufTy).Contents (Elt F)),
    StableHlo.unary main_v4 main_v9 ((extractStridedSlice S1x1536x2048 ![0, 0, 0] · slices_S1x1536x2051_S1x1536x2048_0_0_0) : (⟨S1x1536x2051, .f32⟩ : BufTy).Contents (Elt F) → (⟨S1x1536x2048, .f32⟩ : BufTy).Contents (Elt F)),
    StableHlo.unary main_v8 main_v10 (broadcastInDim S1x1536x2048 ![0, 1, 2] bcast_S1x1536x1_S1x1536x2048_0_1_2 : (⟨S1x1536x1, .f32⟩ : BufTy).Contents (Elt F) → (⟨S1x1536x2048, .f32⟩ : BufTy).Contents (Elt F)),
    StableHlo.binary main_v10 main_v9 main_v11 (mulf : (⟨S1x1536x2048, .f32⟩ : BufTy).Contents (Elt F) → (⟨S1x1536x2048, .f32⟩ : BufTy).Contents (Elt F) → (⟨S1x1536x2048, .f32⟩ : BufTy).Contents (Elt F)),
    StableHlo.unary main_v5 main_v12 (broadcastInDim S1x1536x2048 ![0, 1, 2] bcast_S1x1536x1_S1x1536x2048_0_1_2 : (⟨S1x1536x1, .f32⟩ : BufTy).Contents (Elt F) → (⟨S1x1536x2048, .f32⟩ : BufTy).Contents (Elt F)),
    StableHlo.binary main_v12 main_v11 main_v13 (addf : (⟨S1x1536x2048, .f32⟩ : BufTy).Contents (Elt F) → (⟨S1x1536x2048, .f32⟩ : BufTy).Contents (Elt F) → (⟨S1x1536x2048, .f32⟩ : BufTy).Contents (Elt F)),
    StableHlo.unary main_arg3 main_v14 ((extractStridedSlice S1536x1 ![0, 1] · slices_S1536x4_S1536x1_0_1) : (⟨S1536x4, .f32⟩ : BufTy).Contents (Elt F) → (⟨S1536x1, .f32⟩ : BufTy).Contents (Elt F)),
    StableHlo.reshape main_v14 main_v15 (rfl : (.f32 : EltTy) = .f32) shapeCasts_S1536x1_S1536,
    StableHlo.unary main_v15 main_v16 (broadcastInDim S1x1536x1 ![1] bcast_S1536_S1x1536x1_1 : (⟨S1536, .f32⟩ : BufTy).Contents (Elt F) → (⟨S1x1536x1, .f32⟩ : BufTy).Contents (Elt F)),
    StableHlo.unary main_v4 main_v17 ((extractStridedSlice S1x1536x2048 ![0, 0, 1] · slices_S1x1536x2051_S1x1536x2048_0_0_1) : (⟨S1x1536x2051, .f32⟩ : BufTy).Contents (Elt F) → (⟨S1x1536x2048, .f32⟩ : BufTy).Contents (Elt F)),
    StableHlo.unary main_v16 main_v18 (broadcastInDim S1x1536x2048 ![0, 1, 2] bcast_S1x1536x1_S1x1536x2048_0_1_2 : (⟨S1x1536x1, .f32⟩ : BufTy).Contents (Elt F) → (⟨S1x1536x2048, .f32⟩ : BufTy).Contents (Elt F)),
    StableHlo.binary main_v18 main_v17 main_v19 (mulf : (⟨S1x1536x2048, .f32⟩ : BufTy).Contents (Elt F) → (⟨S1x1536x2048, .f32⟩ : BufTy).Contents (Elt F) → (⟨S1x1536x2048, .f32⟩ : BufTy).Contents (Elt F)),
    StableHlo.binary main_v13 main_v19 main_v20 (addf : (⟨S1x1536x2048, .f32⟩ : BufTy).Contents (Elt F) → (⟨S1x1536x2048, .f32⟩ : BufTy).Contents (Elt F) → (⟨S1x1536x2048, .f32⟩ : BufTy).Contents (Elt F)) ]
theorem s0_1_sub : (s0_1 : List (HloOp τ sig (Elt F))).Forall fun op => op.bufs ⊆ tcRefs τ sig :=
  ⟨unary_bufs_sub .., unary_bufs_sub .., reshape_bufs_sub .., unary_bufs_sub .., unary_bufs_sub .., unary_bufs_sub .., binary_bufs_sub .., unary_bufs_sub .., binary_bufs_sub .., unary_bufs_sub .., reshape_bufs_sub .., unary_bufs_sub .., unary_bufs_sub .., unary_bufs_sub .., binary_bufs_sub .., binary_bufs_sub ..⟩
theorem s0_1_fresh : ∀ op ∈ (s0_1 : List (HloOp τ sig (Elt F))), op.fresh = ∅ :=
  List.forall_iff_forall_mem.mp (⟨rfl, rfl, rfl, rfl, rfl, rfl, rfl, rfl, rfl, rfl, rfl, rfl, rfl, rfl, rfl, rfl⟩)
abbrev s0_1_W : List (Ref sig .tc) := [main_v5, main_v6, main_v7, main_v8, main_v9, main_v10, main_v11, main_v12, main_v13, main_v14, main_v15, main_v16, main_v17, main_v18, main_v19, main_v20]
theorem s0_1_writes : (s0_1 : List (HloOp τ sig (Elt F))).Forall fun op => op.writes ⊆ (s0_1_W.map (Proc.devRef (τ := τ) .tc)).toFinset :=
  StableHlo.forall_writes_sub_of_map rfl
theorem s0_1_args : ∀ a ∈ argRefs, a ∉ s0_1_W := by decide

/-- Stretch 0 of `main` (between the loops), part 2. -/
abbrev s0_2 : List (HloOp τ sig (Elt F)) :=
  [ StableHlo.unary main_arg3 main_v21 ((extractStridedSlice S1536x1 ![0, 2] · slices_S1536x4_S1536x1_0_2) : (⟨S1536x4, .f32⟩ : BufTy).Contents (Elt F) → (⟨S1536x1, .f32⟩ : BufTy).Contents (Elt F)),
    StableHlo.reshape main_v21 main_v22 (rfl : (.f32 : EltTy) = .f32) shapeCasts_S1536x1_S1536,
    StableHlo.unary main_v22 main_v23 (broadcastInDim S1x1536x1 ![1] bcast_S1536_S1x1536x1_1 : (⟨S1536, .f32⟩ : BufTy).Contents (Elt F) → (⟨S1x1536x1, .f32⟩ : BufTy).Contents (Elt F)),
    StableHlo.unary main_v4 main_v24 ((extractStridedSlice S1x1536x2048 ![0, 0, 2] · slices_S1x1536x2051_S1x1536x2048_0_0_2) : (⟨S1x1536x2051, .f32⟩ : BufTy).Contents (Elt F) → (⟨S1x1536x2048, .f32⟩ : BufTy).Contents (Elt F)),
    StableHlo.unary main_v23 main_v25 (broadcastInDim S1x1536x2048 ![0, 1, 2] bcast_S1x1536x1_S1x1536x2048_0_1_2 : (⟨S1x1536x1, .f32⟩ : BufTy).Contents (Elt F) → (⟨S1x1536x2048, .f32⟩ : BufTy).Contents (Elt F)),
    StableHlo.binary main_v25 main_v24 main_v26 (mulf : (⟨S1x1536x2048, .f32⟩ : BufTy).Contents (Elt F) → (⟨S1x1536x2048, .f32⟩ : BufTy).Contents (Elt F) → (⟨S1x1536x2048, .f32⟩ : BufTy).Contents (Elt F)),
    StableHlo.binary main_v20 main_v26 main_v27 (addf : (⟨S1x1536x2048, .f32⟩ : BufTy).Contents (Elt F) → (⟨S1x1536x2048, .f32⟩ : BufTy).Contents (Elt F) → (⟨S1x1536x2048, .f32⟩ : BufTy).Contents (Elt F)),
    StableHlo.unary main_arg3 main_v28 ((extractStridedSlice S1536x1 ![0, 3] · slices_S1536x4_S1536x1_0_3) : (⟨S1536x4, .f32⟩ : BufTy).Contents (Elt F) → (⟨S1536x1, .f32⟩ : BufTy).Contents (Elt F)),
    StableHlo.reshape main_v28 main_v29 (rfl : (.f32 : EltTy) = .f32) shapeCasts_S1536x1_S1536,
    StableHlo.unary main_v29 main_v30 (broadcastInDim S1x1536x1 ![1] bcast_S1536_S1x1536x1_1 : (⟨S1536, .f32⟩ : BufTy).Contents (Elt F) → (⟨S1x1536x1, .f32⟩ : BufTy).Contents (Elt F)),
    StableHlo.unary main_v4 main_v31 ((extractStridedSlice S1x1536x2048 ![0, 0, 3] · slices_S1x1536x2051_S1x1536x2048_0_0_3) : (⟨S1x1536x2051, .f32⟩ : BufTy).Contents (Elt F) → (⟨S1x1536x2048, .f32⟩ : BufTy).Contents (Elt F)),
    StableHlo.unary main_v30 main_v32 (broadcastInDim S1x1536x2048 ![0, 1, 2] bcast_S1x1536x1_S1x1536x2048_0_1_2 : (⟨S1x1536x1, .f32⟩ : BufTy).Contents (Elt F) → (⟨S1x1536x2048, .f32⟩ : BufTy).Contents (Elt F)),
    StableHlo.binary main_v32 main_v31 main_v33 (mulf : (⟨S1x1536x2048, .f32⟩ : BufTy).Contents (Elt F) → (⟨S1x1536x2048, .f32⟩ : BufTy).Contents (Elt F) → (⟨S1x1536x2048, .f32⟩ : BufTy).Contents (Elt F)),
    StableHlo.binary main_v27 main_v33 main_v34 (addf : (⟨S1x1536x2048, .f32⟩ : BufTy).Contents (Elt F) → (⟨S1x1536x2048, .f32⟩ : BufTy).Contents (Elt F) → (⟨S1x1536x2048, .f32⟩ : BufTy).Contents (Elt F)) ]
theorem s0_2_sub : (s0_2 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩
theorem s0_2_fresh : ∀ op ∈ (s0_2 : List (HloOp τ sig (Elt F))), op.fresh = ∅ :=
  List.forall_iff_forall_mem.mp (⟨rfl, rfl, rfl, rfl, rfl, rfl, rfl, rfl, rfl, rfl, rfl, rfl, rfl, rfl⟩)
abbrev s0_2_W : List (Ref sig .tc) := [main_v21, main_v22, main_v23, main_v24, main_v25, main_v26, main_v27, main_v28, main_v29, main_v30, main_v31, main_v32, main_v33, main_v34]
theorem s0_2_writes : (s0_2 : List (HloOp τ sig (Elt F))).Forall fun op => op.writes ⊆ (s0_2_W.map (Proc.devRef (τ := τ) .tc)).toFinset :=
  StableHlo.forall_writes_sub_of_map rfl
theorem s0_2_args : ∀ a ∈ argRefs, a ∉ s0_2_W := by decide

/-- Stretch 0 of `main` (between the loops), part 3. -/
abbrev s0_3 : List (HloOp τ sig (Elt F)) :=
  [ StableHlo.unary main_v34 main_v35 (Host.negf : (⟨S1x1536x2048, .f32⟩ : BufTy).Contents (Elt F) → (⟨S1x1536x2048, .f32⟩ : BufTy).Contents (Elt F)),
    StableHlo.unary main_v35 main_v36 (Host.exp : (⟨S1x1536x2048, .f32⟩ : BufTy).Contents (Elt F) → (⟨S1x1536x2048, .f32⟩ : BufTy).Contents (Elt F)),
    StableHlo.nullary main_cst (constant S_ .f32 0x3F800000#32),
    StableHlo.unary main_cst main_v37 (broadcastInDim S1x1536x2048 ![] bcast_S_S1x1536x2048 : (⟨S_, .f32⟩ : BufTy).Contents (Elt F) → (⟨S1x1536x2048, .f32⟩ : BufTy).Contents (Elt F)),
    StableHlo.binary main_v37 main_v36 main_v38 (addf : (⟨S1x1536x2048, .f32⟩ : BufTy).Contents (Elt F) → (⟨S1x1536x2048, .f32⟩ : BufTy).Contents (Elt F) → (⟨S1x1536x2048, .f32⟩ : BufTy).Contents (Elt F)),
    StableHlo.nullary main_cst_0 (constant S_ .f32 0x3F800000#32),
    StableHlo.unary main_cst_0 main_v39 (broadcastInDim S1x1536x2048 ![] bcast_S_S1x1536x2048 : (⟨S_, .f32⟩ : BufTy).Contents (Elt F) → (⟨S1x1536x2048, .f32⟩ : BufTy).Contents (Elt F)),
    StableHlo.binary main_v39 main_v38 main_v40 (Host.divf : (⟨S1x1536x2048, .f32⟩ : BufTy).Contents (Elt F) → (⟨S1x1536x2048, .f32⟩ : BufTy).Contents (Elt F) → (⟨S1x1536x2048, .f32⟩ : BufTy).Contents (Elt F)),
    StableHlo.binary main_v34 main_v40 main_v41 (mulf : (⟨S1x1536x2048, .f32⟩ : BufTy).Contents (Elt F) → (⟨S1x1536x2048, .f32⟩ : BufTy).Contents (Elt F) → (⟨S1x1536x2048, .f32⟩ : BufTy).Contents (Elt F)) ]
theorem s0_3_sub : (s0_3 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
theorem s0_3_fresh : ∀ op ∈ (s0_3 : List (HloOp τ sig (Elt F))), op.fresh = ∅ :=
  List.forall_iff_forall_mem.mp (⟨rfl, rfl, rfl, rfl, rfl, rfl, rfl, rfl, rfl⟩)
abbrev s0_3_W : List (Ref sig .tc) := [main_v35, main_v36, main_cst, main_v37, main_v38, main_cst_0, main_v39, main_v40, main_v41]
theorem s0_3_writes : (s0_3 : List (HloOp τ sig (Elt F))).Forall fun op => op.writes ⊆ (s0_3_W.map (Proc.devRef (τ := τ) .tc)).toFinset :=
  StableHlo.forall_writes_sub_of_map rfl
theorem s0_3_args : ∀ a ∈ argRefs, a ∉ s0_3_W := by decide

/-- Stretch 0 of `main` (between the loops), part 4. -/
abbrev s0_4 : List (HloOp τ sig (Elt F)) :=
  [ StableHlo.binary main_v41 main_arg5 main_v42 ((fun l r => Host.dotGeneral dot_S1x1536x2048_S1536x80_S1x2048x80_1_0_02_1_n_n none l r) : (⟨S1x1536x2048, .f32⟩ : BufTy).Contents (Elt F) → (⟨S1536x80, .f32⟩ : BufTy).Contents (Elt F) → (⟨S1x2048x80, .f32⟩ : BufTy).Contents (Elt F)),
    StableHlo.unary main_v42 main_v43 ((extractStridedSlice S1x2048x48 ![0, 0, 0] · slices_S1x2048x80_S1x2048x48_0_0_0) : (⟨S1x2048x80, .f32⟩ : BufTy).Contents (Elt F) → (⟨S1x2048x48, .f32⟩ : BufTy).Contents (Elt F)),
    StableHlo.unary main_v42 main_v44 ((extractStridedSlice S1x2048x16 ![0, 0, 48] · slices_S1x2048x80_S1x2048x16_0_0_48) : (⟨S1x2048x80, .f32⟩ : BufTy).Contents (Elt F) → (⟨S1x2048x16, .f32⟩ : BufTy).Contents (Elt F)),
    StableHlo.unary main_v42 main_v45 ((extractStridedSlice S1x2048x16 ![0, 0, 64] · slices_S1x2048x80_S1x2048x16_0_0_64) : (⟨S1x2048x80, .f32⟩ : BufTy).Contents (Elt F) → (⟨S1x2048x16, .f32⟩ : BufTy).Contents (Elt F)),
    StableHlo.binary main_v43 main_arg6 main_v46 ((fun l r => Host.dotGeneral dot_S1x2048x48_S48x1536_S1x2048x1536_2_0_01_1_n_n none l r) : (⟨S1x2048x48, .f32⟩ : BufTy).Contents (Elt F) → (⟨S48x1536, .f32⟩ : BufTy).Contents (Elt F) → (⟨S1x2048x1536, .f32⟩ : BufTy).Contents (Elt F)),
    StableHlo.unary main_arg7 main_v47 (broadcastInDim S1x1x1536 ![2] bcast_S1536_S1x1x1536_2 : (⟨S1536, .f32⟩ : BufTy).Contents (Elt F) → (⟨S1x1x1536, .f32⟩ : BufTy).Contents (Elt F)),
    StableHlo.unary main_v47 main_v48 (broadcastInDim S1x2048x1536 ![0, 1, 2] bcast_S1x1x1536_S1x2048x1536_0_1_2 : (⟨S1x1x1536, .f32⟩ : BufTy).Contents (Elt F) → (⟨S1x2048x1536, .f32⟩ : BufTy).Contents (Elt F)),
    StableHlo.binary main_v46 main_v48 main_v49 (addf : (⟨S1x2048x1536, .f32⟩ : BufTy).Contents (Elt F) → (⟨S1x2048x1536, .f32⟩ : BufTy).Contents (Elt F) → (⟨S1x2048x1536, .f32⟩ : BufTy).Contents (Elt F)) ]
theorem s0_4_sub : (s0_4 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub ..⟩
theorem s0_4_fresh : ∀ op ∈ (s0_4 : List (HloOp τ sig (Elt F))), op.fresh = ∅ :=
  List.forall_iff_forall_mem.mp (⟨rfl, rfl, rfl, rfl, rfl, rfl, rfl, rfl⟩)
abbrev s0_4_W : List (Ref sig .tc) := [main_v42, main_v43, main_v44, main_v45, main_v46, main_v47, main_v48, main_v49]
theorem s0_4_writes : (s0_4 : List (HloOp τ sig (Elt F))).Forall fun op => op.writes ⊆ (s0_4_W.map (Proc.devRef (τ := τ) .tc)).toFinset :=
  StableHlo.forall_writes_sub_of_map rfl
theorem s0_4_args : ∀ a ∈ argRefs, a ∉ s0_4_W := by decide

/-- Stretch 0 of `main` (between the loops), part 5. -/
abbrev s0_5 : List (HloOp τ sig (Elt F)) :=
  [ StableHlo.nullary main_call1_cst ((constant S_ .f32 0x00000000#32) : (⟨S_, .f32⟩ : BufTy).Contents (Elt F)),
    StableHlo.unary main_call1_cst main_call1_v0 ((broadcastInDim S1x2048x1536 ![] bcast_S_S1x2048x1536) : (⟨S_, .f32⟩ : BufTy).Contents (Elt F) → (⟨S1x2048x1536, .f32⟩ : BufTy).Contents (Elt F)),
    StableHlo.binary main_v49 main_call1_v0 main_call1_v1 (maximumf : (⟨S1x2048x1536, .f32⟩ : BufTy).Contents (Elt F) → (⟨S1x2048x1536, .f32⟩ : BufTy).Contents (Elt F) → (⟨S1x2048x1536, .f32⟩ : BufTy).Contents (Elt F)),
    StableHlo.unary main_call1_cst main_call1_v2 ((broadcastInDim S1x2048x1536 ![] bcast_S_S1x2048x1536) : (⟨S_, .f32⟩ : BufTy).Contents (Elt F) → (⟨S1x2048x1536, .f32⟩ : BufTy).Contents (Elt F)),
    StableHlo.binary main_v49 main_call1_v2 main_call1_v3 (subf : (⟨S1x2048x1536, .f32⟩ : BufTy).Contents (Elt F) → (⟨S1x2048x1536, .f32⟩ : BufTy).Contents (Elt F) → (⟨S1x2048x1536, .f32⟩ : BufTy).Contents (Elt F)),
    StableHlo.binary main_call1_v3 main_call1_v3 main_call1_v4 ((cmpf .une) : (⟨S1x2048x1536, .f32⟩ : BufTy).Contents (Elt F) → (⟨S1x2048x1536, .f32⟩ : BufTy).Contents (Elt F) → (⟨S1x2048x1536, .i1⟩ : BufTy).Contents (Elt F)),
    StableHlo.unary main_call1_cst main_call1_v5 ((broadcastInDim S1x2048x1536 ![] bcast_S_S1x2048x1536) : (⟨S_, .f32⟩ : BufTy).Contents (Elt F) → (⟨S1x2048x1536, .f32⟩ : BufTy).Contents (Elt F)),
    StableHlo.binary main_v49 main_call1_v5 main_call1_v6 (addf : (⟨S1x2048x1536, .f32⟩ : BufTy).Contents (Elt F) → (⟨S1x2048x1536, .f32⟩ : BufTy).Contents (Elt F) → (⟨S1x2048x1536, .f32⟩ : BufTy).Contents (Elt F)),
    StableHlo.unary main_call1_v3 main_call1_v7 (Host.absf : (⟨S1x2048x1536, .f32⟩ : BufTy).Contents (Elt F) → (⟨S1x2048x1536, .f32⟩ : BufTy).Contents (Elt F)),
    StableHlo.unary main_call1_v7 main_call1_v8 (Host.negf : (⟨S1x2048x1536, .f32⟩ : BufTy).Contents (Elt F) → (⟨S1x2048x1536, .f32⟩ : BufTy).Contents (Elt F)),
    StableHlo.unary main_call1_v8 main_call1_v9 (Host.exp : (⟨S1x2048x1536, .f32⟩ : BufTy).Contents (Elt F) → (⟨S1x2048x1536, .f32⟩ : BufTy).Contents (Elt F)),
    StableHlo.unary main_call1_v9 main_call1_v10 (Host.log1p : (⟨S1x2048x1536, .f32⟩ : BufTy).Contents (Elt F) → (⟨S1x2048x1536, .f32⟩ : BufTy).Contents (Elt F)),
    StableHlo.binary main_call1_v1 main_call1_v10 main_call1_v11 (addf : (⟨S1x2048x1536, .f32⟩ : BufTy).Contents (Elt F) → (⟨S1x2048x1536, .f32⟩ : BufTy).Contents (Elt F) → (⟨S1x2048x1536, .f32⟩ : BufTy).Contents (Elt F)),
    StableHlo.ternary main_call1_v4 main_call1_v6 main_call1_v11 main_v50 (select : (⟨S1x2048x1536, .i1⟩ : BufTy).Contents (Elt F) → (⟨S1x2048x1536, .f32⟩ : BufTy).Contents (Elt F) → (⟨S1x2048x1536, .f32⟩ : BufTy).Contents (Elt F) → (⟨S1x2048x1536, .f32⟩ : BufTy).Contents (Elt F)),
    StableHlo.unary main_v50 main_v51 ((transpose S1x1536x2048 [0, 2, 1] · transposes_S1x2048x1536_S1x1536x2048_0_2_1) : (⟨S1x2048x1536, .f32⟩ : BufTy).Contents (Elt F) → (⟨S1x1536x2048, .f32⟩ : BufTy).Contents (Elt F)) ]
theorem s0_5_sub : (s0_5 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
theorem s0_5_fresh : ∀ op ∈ (s0_5 : List (HloOp τ sig (Elt F))), op.fresh = ∅ :=
  List.forall_iff_forall_mem.mp (⟨rfl, rfl, rfl, rfl, rfl, rfl, rfl, rfl, rfl, rfl, rfl, rfl, rfl, rfl, rfl⟩)
abbrev s0_5_W : List (Ref sig .tc) := [main_call1_cst, main_call1_v0, main_call1_v1, main_call1_v2, main_call1_v3, main_call1_v4, main_call1_v5, main_call1_v6, main_call1_v7, main_call1_v8, main_call1_v9, main_call1_v10, main_call1_v11, main_v50, main_v51]
theorem s0_5_writes : (s0_5 : List (HloOp τ sig (Elt F))).Forall fun op => op.writes ⊆ (s0_5_W.map (Proc.devRef (τ := τ) .tc)).toFinset :=
  StableHlo.forall_writes_sub_of_map rfl
theorem s0_5_args : ∀ a ∈ argRefs, a ∉ s0_5_W := by decide

/-- Stretch 0 of `main` (between the loops), part 6. -/
abbrev s0_6 : List (HloOp τ sig (Elt F)) :=
  [ StableHlo.unary main_arg8 main_v52 (Host.exp : (⟨S1536x16, .f32⟩ : BufTy).Contents (Elt F) → (⟨S1536x16, .f32⟩ : BufTy).Contents (Elt F)),
    StableHlo.unary main_v52 main_v53 (Host.negf : (⟨S1536x16, .f32⟩ : BufTy).Contents (Elt F) → (⟨S1536x16, .f32⟩ : BufTy).Contents (Elt F)),
    StableHlo.unary main_v53 main_v54 (broadcastInDim S1x1536x1x16 ![1, 3] bcast_S1536x16_S1x1536x1x16_1_3 : (⟨S1536x16, .f32⟩ : BufTy).Contents (Elt F) → (⟨S1x1536x1x16, .f32⟩ : BufTy).Contents (Elt F)),
    StableHlo.unary main_v51 main_v55 (broadcastInDim S1x1536x2048x1 ![0, 1, 2] bcast_S1x1536x2048_S1x1536x2048x1_0_1_2 : (⟨S1x1536x2048, .f32⟩ : BufTy).Contents (Elt F) → (⟨S1x1536x2048x1, .f32⟩ : BufTy).Contents (Elt F)),
    StableHlo.unary main_v54 main_v56 (broadcastInDim S1x1536x2048x16 ![0, 1, 2, 3] bcast_S1x1536x1x16_S1x1536x2048x16_0_1_2_3 : (⟨S1x1536x1x16, .f32⟩ : BufTy).Contents (Elt F) → (⟨S1x1536x2048x16, .f32⟩ : BufTy).Contents (Elt F)),
    StableHlo.unary main_v55 main_v57 (broadcastInDim S1x1536x2048x16 ![0, 1, 2, 3] bcast_S1x1536x2048x1_S1x1536x2048x16_0_1_2_3 : (⟨S1x1536x2048x1, .f32⟩ : BufTy).Contents (Elt F) → (⟨S1x1536x2048x16, .f32⟩ : BufTy).Contents (Elt F)),
    StableHlo.binary main_v56 main_v57 main_v58 (mulf : (⟨S1x1536x2048x16, .f32⟩ : BufTy).Contents (Elt F) → (⟨S1x1536x2048x16, .f32⟩ : BufTy).Contents (Elt F) → (⟨S1x1536x2048x16, .f32⟩ : BufTy).Contents (Elt F)),
    StableHlo.unary main_v58 main_v59 (Host.exp : (⟨S1x1536x2048x16, .f32⟩ : BufTy).Contents (Elt F) → (⟨S1x1536x2048x16, .f32⟩ : BufTy).Contents (Elt F)),
    StableHlo.unary main_v51 main_v60 (broadcastInDim S1x1536x2048x1 ![0, 1, 2] bcast_S1x1536x2048_S1x1536x2048x1_0_1_2 : (⟨S1x1536x2048, .f32⟩ : BufTy).Contents (Elt F) → (⟨S1x1536x2048x1, .f32⟩ : BufTy).Contents (Elt F)),
    StableHlo.unary main_v44 main_v61 (broadcastInDim S1x1x2048x16 ![0, 2, 3] bcast_S1x2048x16_S1x1x2048x16_0_2_3 : (⟨S1x2048x16, .f32⟩ : BufTy).Contents (Elt F) → (⟨S1x1x2048x16, .f32⟩ : BufTy).Contents (Elt F)),
    StableHlo.unary main_v60 main_v62 (broadcastInDim S1x1536x2048x16 ![0, 1, 2, 3] bcast_S1x1536x2048x1_S1x1536x2048x16_0_1_2_3 : (⟨S1x1536x2048x1, .f32⟩ : BufTy).Contents (Elt F) → (⟨S1x1536x2048x16, .f32⟩ : BufTy).Contents (Elt F)),
    StableHlo.unary main_v61 main_v63 (broadcastInDim S1x1536x2048x16 ![0, 1, 2, 3] bcast_S1x1x2048x16_S1x1536x2048x16_0_1_2_3 : (⟨S1x1x2048x16, .f32⟩ : BufTy).Contents (Elt F) → (⟨S1x1536x2048x16, .f32⟩ : BufTy).Contents (Elt F)),
    StableHlo.binary main_v62 main_v63 main_v64 (mulf : (⟨S1x1536x2048x16, .f32⟩ : BufTy).Contents (Elt F) → (⟨S1x1536x2048x16, .f32⟩ : BufTy).Contents (Elt F) → (⟨S1x1536x2048x16, .f32⟩ : BufTy).Contents (Elt F)),
    StableHlo.unary main_v41 main_v65 (broadcastInDim S1x1536x2048x1 ![0, 1, 2] bcast_S1x1536x2048_S1x1536x2048x1_0_1_2 : (⟨S1x1536x2048, .f32⟩ : BufTy).Contents (Elt F) → (⟨S1x1536x2048x1, .f32⟩ : BufTy).Contents (Elt F)),
    StableHlo.unary main_v65 main_v66 (broadcastInDim S1x1536x2048x16 ![0, 1, 2, 3] bcast_S1x1536x2048x1_S1x1536x2048x16_0_1_2_3 : (⟨S1x1536x2048x1, .f32⟩ : BufTy).Contents (Elt F) → (⟨S1x1536x2048x16, .f32⟩ : BufTy).Contents (Elt F)),
    StableHlo.binary main_v64 main_v66 main_v67 (mulf : (⟨S1x1536x2048x16, .f32⟩ : BufTy).Contents (Elt F) → (⟨S1x1536x2048x16, .f32⟩ : BufTy).Contents (Elt F) → (⟨S1x1536x2048x16, .f32⟩ : BufTy).Contents (Elt F)) ]
theorem s0_6_sub : (s0_6 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., binary_bufs_sub ..⟩
theorem s0_6_fresh : ∀ op ∈ (s0_6 : List (HloOp τ sig (Elt F))), op.fresh = ∅ :=
  List.forall_iff_forall_mem.mp (⟨rfl, rfl, rfl, rfl, rfl, rfl, rfl, rfl, rfl, rfl, rfl, rfl, rfl, rfl, rfl, rfl⟩)
abbrev s0_6_W : List (Ref sig .tc) := [main_v52, main_v53, main_v54, main_v55, main_v56, main_v57, main_v58, main_v59, main_v60, main_v61, main_v62, main_v63, main_v64, main_v65, main_v66, main_v67]
theorem s0_6_writes : (s0_6 : List (HloOp τ sig (Elt F))).Forall fun op => op.writes ⊆ (s0_6_W.map (Proc.devRef (τ := τ) .tc)).toFinset :=
  StableHlo.forall_writes_sub_of_map rfl
theorem s0_6_args : ∀ a ∈ argRefs, a ∉ s0_6_W := by decide

/-- Stretch 0 of `main` (between the loops), part 7. -/
abbrev s0_7 : List (HloOp τ sig (Elt F)) :=
  [ StableHlo.unary main_v59 main_v68 ((transpose S1x1536x16x2048 [0, 1, 3, 2] · transposes_S1x1536x2048x16_S1x1536x16x2048_0_1_3_2) : (⟨S1x1536x2048x16, .f32⟩ : BufTy).Contents (Elt F) → (⟨S1x1536x16x2048, .f32⟩ : BufTy).Contents (Elt F)),
    StableHlo.reshape main_v68 main_v69 (rfl : (.f32 : EltTy) = .f32) shapeCasts_S1x1536x16x2048_S1x24576x2048,
    StableHlo.unary main_v67 main_v70 ((transpose S1x1536x16x2048 [0, 1, 3, 2] · transposes_S1x1536x2048x16_S1x1536x16x2048_0_1_3_2) : (⟨S1x1536x2048x16, .f32⟩ : BufTy).Contents (Elt F) → (⟨S1x1536x16x2048, .f32⟩ : BufTy).Contents (Elt F)),
    StableHlo.reshape main_v70 main_v71 (rfl : (.f32 : EltTy) = .f32) shapeCasts_S1x1536x16x2048_S1x24576x2048,
    StableHlo.unary main_v71 main_v72 ((Host.reverse [2]) : (⟨S1x24576x2048, .f32⟩ : BufTy).Contents (Elt F) → (⟨S1x24576x2048, .f32⟩ : BufTy).Contents (Elt F)),
    StableHlo.unary main_v69 main_v73 ((Host.reverse [2]) : (⟨S1x24576x2048, .f32⟩ : BufTy).Contents (Elt F) → (⟨S1x24576x2048, .f32⟩ : BufTy).Contents (Elt F)) ]
theorem s0_7_sub : (s0_7 : List (HloOp τ sig (Elt F))).Forall fun op => op.bufs ⊆ tcRefs τ sig :=
  ⟨unary_bufs_sub .., reshape_bufs_sub .., unary_bufs_sub .., reshape_bufs_sub .., unary_bufs_sub .., unary_bufs_sub ..⟩
theorem s0_7_fresh : ∀ op ∈ (s0_7 : List (HloOp τ sig (Elt F))), op.fresh = ∅ :=
  List.forall_iff_forall_mem.mp (⟨rfl, rfl, rfl, rfl, rfl, rfl⟩)
abbrev s0_7_W : List (Ref sig .tc) := [main_v68, main_v69, main_v70, main_v71, main_v72, main_v73]
theorem s0_7_writes : (s0_7 : List (HloOp τ sig (Elt F))).Forall fun op => op.writes ⊆ (s0_7_W.map (Proc.devRef (τ := τ) .tc)).toFinset :=
  StableHlo.forall_writes_sub_of_map rfl
theorem s0_7_args : ∀ a ∈ argRefs, a ∉ s0_7_W := by decide

/-- Stretch 0 of `main` (between the loops), part 8. -/
abbrev s0_8 : List (HloOp τ sig (Elt F)) :=
  [ StableHlo.unary main_v73 main_call4_v0 ((extractStridedSlice S1x24576x1 ![0, 0, 2047] · slices_S1x24576x2048_S1x24576x1_0_0_2047) : (⟨S1x24576x2048, .f32⟩ : BufTy).Contents (Elt F) → (⟨S1x24576x1, .f32⟩ : BufTy).Contents (Elt F)),
    StableHlo.unary main_v73 main_call4_v1 ((extractStridedSlice S1x24576x2047 ![0, 0, 0] · slices_S1x24576x2048_S1x24576x2047_0_0_0) : (⟨S1x24576x2048, .f32⟩ : BufTy).Contents (Elt F) → (⟨S1x24576x2047, .f32⟩ : BufTy).Contents (Elt F)) ]
theorem s0_8_sub : (s0_8 : List (HloOp τ sig (Elt F))).Forall fun op => op.bufs ⊆ tcRefs τ sig :=
  ⟨unary_bufs_sub .., unary_bufs_sub ..⟩
theorem s0_8_fresh : ∀ op ∈ (s0_8 : List (HloOp τ sig (Elt F))), op.fresh = ∅ :=
  List.forall_iff_forall_mem.mp (⟨rfl, rfl⟩)
abbrev s0_8_W : List (Ref sig .tc) := [main_call4_v0, main_call4_v1]
theorem s0_8_writes : (s0_8 : List (HloOp τ sig (Elt F))).Forall fun op => op.writes ⊆ (s0_8_W.map (Proc.devRef (τ := τ) .tc)).toFinset :=
  StableHlo.forall_writes_sub_of_map rfl
theorem s0_8_args : ∀ a ∈ argRefs, a ∉ s0_8_W := by decide

/-- Stretch 0 of `main` (between the loops), part 9. -/
abbrev s0_9 : List (HloOp τ sig (Elt F)) :=
  [ StableHlo.binary main_call4_v0 main_call4_v1 main_v74 ((fun a b => concatenate S1x24576x2048 2 [⟨S1x24576x1, a⟩, ⟨S1x24576x2047, b⟩] concatenates_S1x24576x1_S1x24576x2047_S1x24576x2048_d2) : (⟨S1x24576x1, .f32⟩ : BufTy).Contents (Elt F) → (⟨S1x24576x2047, .f32⟩ : BufTy).Contents (Elt F) → (⟨S1x24576x2048, .f32⟩ : BufTy).Contents (Elt F)),
    StableHlo.unary main_v72 main_v75 ((transpose S2048x1x24576 [2, 0, 1] · transposes_S1x24576x2048_S2048x1x24576_2_0_1) : (⟨S1x24576x2048, .f32⟩ : BufTy).Contents (Elt F) → (⟨S2048x1x24576, .f32⟩ : BufTy).Contents (Elt F)),
    StableHlo.unary main_v74 main_v76 ((transpose S2048x1x24576 [2, 0, 1] · transposes_S1x24576x2048_S2048x1x24576_2_0_1) : (⟨S1x24576x2048, .f32⟩ : BufTy).Contents (Elt F) → (⟨S2048x1x24576, .f32⟩ : BufTy).Contents (Elt F)),
    StableHlo.nullary main_cst_1 (constant S_ .f32 0x00000000#32),
    StableHlo.unary main_cst_1 main_v77 (broadcastInDim S1x24576 ![] bcast_S_S1x24576 : (⟨S_, .f32⟩ : BufTy).Contents (Elt F) → (⟨S1x24576, .f32⟩ : BufTy).Contents (Elt F)),
    StableHlo.nullary main_cst_2 (constant S_ .f32 0x00000000#32),
    StableHlo.unary main_cst_2 main_v78 (broadcastInDim S2048x1x24576 ![] bcast_S_S2048x1x24576 : (⟨S_, .f32⟩ : BufTy).Contents (Elt F) → (⟨S2048x1x24576, .f32⟩ : BufTy).Contents (Elt F)) ]
theorem s0_9_sub : (s0_9 : List (HloOp τ sig (Elt F))).Forall fun op => op.bufs ⊆ tcRefs τ sig :=
  ⟨binary_bufs_sub .., unary_bufs_sub .., unary_bufs_sub .., nullary_bufs_sub .., unary_bufs_sub .., nullary_bufs_sub .., unary_bufs_sub ..⟩
theorem s0_9_fresh : ∀ op ∈ (s0_9 : List (HloOp τ sig (Elt F))), op.fresh = ∅ :=
  List.forall_iff_forall_mem.mp (⟨rfl, rfl, rfl, rfl, rfl, rfl, rfl⟩)
abbrev s0_9_W : List (Ref sig .tc) := [main_v74, main_v75, main_v76, main_cst_1, main_v77, main_cst_2, main_v78]
theorem s0_9_writes : (s0_9 : List (HloOp τ sig (Elt F))).Forall fun op => op.writes ⊆ (s0_9_W.map (Proc.devRef (τ := τ) .tc)).toFinset :=
  StableHlo.forall_writes_sub_of_map rfl
theorem s0_9_args : ∀ a ∈ argRefs, a ∉ s0_9_W := by decide

/-- Stretch 0 of `main` (between the loops), part 10. -/
abbrev s0_10 : List (HloOp τ sig (Elt F)) :=
  [ StableHlo.nullary main_c_3 (constantI S_ 32 0#32),
    StableHlo.unary main_v76 main_v79_0 id,
    StableHlo.unary main_v75 main_v79_1 id,
    StableHlo.unary main_c_3 main_v79_2 id,
    StableHlo.unary main_v77 main_v79_3 id,
    StableHlo.unary main_v78 main_v79_4 id ]
theorem s0_10_sub : (s0_10 : List (HloOp τ sig (Elt F))).Forall fun op => op.bufs ⊆ tcRefs τ sig :=
  ⟨nullary_bufs_sub .., unary_bufs_sub .., unary_bufs_sub .., unary_bufs_sub .., unary_bufs_sub .., unary_bufs_sub ..⟩
theorem s0_10_fresh : ∀ op ∈ (s0_10 : List (HloOp τ sig (Elt F))), op.fresh = ∅ :=
  List.forall_iff_forall_mem.mp (⟨rfl, rfl, rfl, rfl, rfl, rfl⟩)
abbrev s0_10_W : List (Ref sig .tc) := [main_c_3, main_v79_0, main_v79_1, main_v79_2, main_v79_3, main_v79_4]
theorem s0_10_writes : (s0_10 : List (HloOp τ sig (Elt F))).Forall fun op => op.writes ⊆ (s0_10_W.map (Proc.devRef (τ := τ) .tc)).toFinset :=
  StableHlo.forall_writes_sub_of_map rfl
theorem s0_10_args : ∀ a ∈ argRefs, a ∉ s0_10_W := by decide

/-- Stretch 1 of `main` (between the loops), part 0. -/
abbrev s1_0 : List (HloOp τ sig (Elt F)) :=
  [ StableHlo.nullary main_cst_4 (constant S_ .f32 0x00000000#32),
    StableHlo.unary main_cst_4 main_v80 (broadcastInDim S1x24576 ![] bcast_S_S1x24576 : (⟨S_, .f32⟩ : BufTy).Contents (Elt F) → (⟨S1x24576, .f32⟩ : BufTy).Contents (Elt F)),
    StableHlo.unary main_v76 main_v81 ((extractStridedSlice S2047x1x24576 ![1, 0, 0] · slices_S2048x1x24576_S2047x1x24576_1_0_0) : (⟨S2048x1x24576, .f32⟩ : BufTy).Contents (Elt F) → (⟨S2047x1x24576, .f32⟩ : BufTy).Contents (Elt F)),
    StableHlo.unary main_v81 main_v82 ((Host.reverse [0]) : (⟨S2047x1x24576, .f32⟩ : BufTy).Contents (Elt F) → (⟨S2047x1x24576, .f32⟩ : BufTy).Contents (Elt F)),
    StableHlo.unary main_v75 main_v83 ((extractStridedSlice S2047x1x24576 ![1, 0, 0] · slices_S2048x1x24576_S2047x1x24576_1_0_0) : (⟨S2048x1x24576, .f32⟩ : BufTy).Contents (Elt F) → (⟨S2047x1x24576, .f32⟩ : BufTy).Contents (Elt F)),
    StableHlo.unary main_v83 main_v84 ((Host.reverse [0]) : (⟨S2047x1x24576, .f32⟩ : BufTy).Contents (Elt F) → (⟨S2047x1x24576, .f32⟩ : BufTy).Contents (Elt F)),
    StableHlo.nullary main_cst_5 (constant S_ .f32 0x00000000#32),
    StableHlo.unary main_cst_5 main_v85 (broadcastInDim S2047x1x24576 ![] bcast_S_S2047x1x24576 : (⟨S_, .f32⟩ : BufTy).Contents (Elt F) → (⟨S2047x1x24576, .f32⟩ : BufTy).Contents (Elt F)),
    StableHlo.nullary main_c_6 (constantI S_ 32 0#32),
    StableHlo.unary main_v82 main_v86_0 id,
    StableHlo.unary main_v84 main_v86_1 id,
    StableHlo.unary main_c_6 main_v86_2 id,
    StableHlo.unary main_v80 main_v86_3 id,
    StableHlo.unary main_v85 main_v86_4 id ]
theorem s1_0_sub : (s1_0 : List (HloOp τ sig (Elt F))).Forall fun op => op.bufs ⊆ tcRefs τ sig :=
  ⟨nullary_bufs_sub .., unary_bufs_sub .., unary_bufs_sub .., unary_bufs_sub .., unary_bufs_sub .., unary_bufs_sub .., nullary_bufs_sub .., unary_bufs_sub .., nullary_bufs_sub .., unary_bufs_sub .., unary_bufs_sub .., unary_bufs_sub .., unary_bufs_sub .., unary_bufs_sub ..⟩
theorem s1_0_fresh : ∀ op ∈ (s1_0 : List (HloOp τ sig (Elt F))), op.fresh = ∅ :=
  List.forall_iff_forall_mem.mp (⟨rfl, rfl, rfl, rfl, rfl, rfl, rfl, rfl, rfl, rfl, rfl, rfl, rfl, rfl⟩)
abbrev s1_0_W : List (Ref sig .tc) := [main_cst_4, main_v80, main_v81, main_v82, main_v83, main_v84, main_cst_5, main_v85, main_c_6, main_v86_0, main_v86_1, main_v86_2, main_v86_3, main_v86_4]
theorem s1_0_writes : (s1_0 : List (HloOp τ sig (Elt F))).Forall fun op => op.writes ⊆ (s1_0_W.map (Proc.devRef (τ := τ) .tc)).toFinset :=
  StableHlo.forall_writes_sub_of_map rfl
theorem s1_0_args : ∀ a ∈ argRefs, a ∉ s1_0_W := by decide

/-- Stretch 2 of `main` (between the loops), part 0. -/
abbrev s2_0 : List (HloOp τ sig (Elt F)) :=
  [ StableHlo.unary main_v86_4 main_v87 ((Host.reverse [0]) : (⟨S2047x1x24576, .f32⟩ : BufTy).Contents (Elt F) → (⟨S2047x1x24576, .f32⟩ : BufTy).Contents (Elt F)),
    StableHlo.nullary main_cst_7 (constant S_ .f32 0x00000000#32),
    StableHlo.unary main_cst_7 main_v88 (broadcastInDim S1x1x24576 ![] bcast_S_S1x1x24576 : (⟨S_, .f32⟩ : BufTy).Contents (Elt F) → (⟨S1x1x24576, .f32⟩ : BufTy).Contents (Elt F)) ]
theorem s2_0_sub : (s2_0 : List (HloOp τ sig (Elt F))).Forall fun op => op.bufs ⊆ tcRefs τ sig :=
  ⟨unary_bufs_sub .., nullary_bufs_sub .., unary_bufs_sub ..⟩
theorem s2_0_fresh : ∀ op ∈ (s2_0 : List (HloOp τ sig (Elt F))), op.fresh = ∅ :=
  List.forall_iff_forall_mem.mp (⟨rfl, rfl, rfl⟩)
abbrev s2_0_W : List (Ref sig .tc) := [main_v87, main_cst_7, main_v88]
theorem s2_0_writes : (s2_0 : List (HloOp τ sig (Elt F))).Forall fun op => op.writes ⊆ (s2_0_W.map (Proc.devRef (τ := τ) .tc)).toFinset :=
  StableHlo.forall_writes_sub_of_map rfl
theorem s2_0_args : ∀ a ∈ argRefs, a ∉ s2_0_W := by decide

/-- Stretch 2 of `main` (between the loops), part 1. -/
abbrev s2_1 : List (HloOp τ sig (Elt F)) :=
  [ StableHlo.binary main_v87 main_v88 main_v89 ((fun a b => concatenate S2048x1x24576 0 [⟨S2047x1x24576, a⟩, ⟨S1x1x24576, b⟩] concatenates_S2047x1x24576_S1x1x24576_S2048x1x24576_d0) : (⟨S2047x1x24576, .f32⟩ : BufTy).Contents (Elt F) → (⟨S1x1x24576, .f32⟩ : BufTy).Contents (Elt F) → (⟨S2048x1x24576, .f32⟩ : BufTy).Contents (Elt F)),
    StableHlo.binary main_v79_4 main_v89 main_v90 (addf : (⟨S2048x1x24576, .f32⟩ : BufTy).Contents (Elt F) → (⟨S2048x1x24576, .f32⟩ : BufTy).Contents (Elt F) → (⟨S2048x1x24576, .f32⟩ : BufTy).Contents (Elt F)),
    StableHlo.unary main_v90 main_v91 ((transpose S1x24576x2048 [1, 2, 0] · transposes_S2048x1x24576_S1x24576x2048_1_2_0) : (⟨S2048x1x24576, .f32⟩ : BufTy).Contents (Elt F) → (⟨S1x24576x2048, .f32⟩ : BufTy).Contents (Elt F)) ]
theorem s2_1_sub : (s2_1 : List (HloOp τ sig (Elt F))).Forall fun op => op.bufs ⊆ tcRefs τ sig :=
  ⟨binary_bufs_sub .., binary_bufs_sub .., unary_bufs_sub ..⟩
theorem s2_1_fresh : ∀ op ∈ (s2_1 : List (HloOp τ sig (Elt F))), op.fresh = ∅ :=
  List.forall_iff_forall_mem.mp (⟨rfl, rfl, rfl⟩)
abbrev s2_1_W : List (Ref sig .tc) := [main_v89, main_v90, main_v91]
theorem s2_1_writes : (s2_1 : List (HloOp τ sig (Elt F))).Forall fun op => op.writes ⊆ (s2_1_W.map (Proc.devRef (τ := τ) .tc)).toFinset :=
  StableHlo.forall_writes_sub_of_map rfl
theorem s2_1_args : ∀ a ∈ argRefs, a ∉ s2_1_W := by decide

/-- Stretch 2 of `main` (between the loops), part 2. -/
abbrev s2_2 : List (HloOp τ sig (Elt F)) :=
  [ StableHlo.nullary main_v92 (iotaInDim S2048 32 0),
    StableHlo.nullary main_call14_c ((constantI S_ 32 0#32) : (⟨S_, .i32⟩ : BufTy).Contents (Elt F)),
    StableHlo.unary main_call14_c main_call14_v0 ((broadcastInDim S2048 ![] bcast_S_S2048) : (⟨S_, .i32⟩ : BufTy).Contents (Elt F) → (⟨S2048, .i32⟩ : BufTy).Contents (Elt F)),
    StableHlo.binary main_v92 main_call14_v0 main_call14_v1 ((cmpi .slt) : (⟨S2048, .i32⟩ : BufTy).Contents (Elt F) → (⟨S2048, .i32⟩ : BufTy).Contents (Elt F) → (⟨S2048, .i1⟩ : BufTy).Contents (Elt F)),
    StableHlo.nullary main_call14_c_0 ((constantI S_ 32 2048#32) : (⟨S_, .i32⟩ : BufTy).Contents (Elt F)),
    StableHlo.unary main_call14_c_0 main_call14_v2 ((broadcastInDim S2048 ![] bcast_S_S2048) : (⟨S_, .i32⟩ : BufTy).Contents (Elt F) → (⟨S2048, .i32⟩ : BufTy).Contents (Elt F)),
    StableHlo.binary main_v92 main_call14_v2 main_call14_v3 (addi : (⟨S2048, .i32⟩ : BufTy).Contents (Elt F) → (⟨S2048, .i32⟩ : BufTy).Contents (Elt F) → (⟨S2048, .i32⟩ : BufTy).Contents (Elt F)),
    StableHlo.ternary main_call14_v1 main_call14_v3 main_v92 main_call14_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_call14_v4 main_call14_v5 ((broadcastInDim S2048x1 ![0] bcast_S2048_S2048x1_0) : (⟨S2048, .i32⟩ : BufTy).Contents (Elt F) → (⟨S2048x1, .i32⟩ : BufTy).Contents (Elt F)),
    StableHlo.nullary main_call14_c_1 ((constantI S1 32 2047#32) : (⟨S1, .i32⟩ : BufTy).Contents (Elt F)),
    StableHlo.nullary main_call14_c_2 ((constantI S_ 32 0#32) : (⟨S_, .i32⟩ : BufTy).Contents (Elt F)),
    StableHlo.unary main_call14_c_2 main_call14_v6 ((broadcastInDim S2048x1 ![] bcast_S_S2048x1) : (⟨S_, .i32⟩ : BufTy).Contents (Elt F) → (⟨S2048x1, .i32⟩ : BufTy).Contents (Elt F)),
    StableHlo.binary main_call14_v5 main_call14_v6 main_call14_v7 ((cmpi .sge) : (⟨S2048x1, .i32⟩ : BufTy).Contents (Elt F) → (⟨S2048x1, .i32⟩ : BufTy).Contents (Elt F) → (⟨S2048x1, .i1⟩ : BufTy).Contents (Elt F)),
    StableHlo.unary main_call14_c_1 main_call14_v8 ((broadcastInDim S1x1 ![1] bcast_S1_S1x1_1) : (⟨S1, .i32⟩ : BufTy).Contents (Elt F) → (⟨S1x1, .i32⟩ : BufTy).Contents (Elt F)),
    StableHlo.unary main_call14_v8 main_call14_v9 ((broadcastInDim S2048x1 ![0, 1] bcast_S1x1_S2048x1_0_1) : (⟨S1x1, .i32⟩ : BufTy).Contents (Elt F) → (⟨S2048x1, .i32⟩ : BufTy).Contents (Elt F)),
    StableHlo.binary main_call14_v5 main_call14_v9 main_call14_v10 ((cmpi .sle) : (⟨S2048x1, .i32⟩ : BufTy).Contents (Elt F) → (⟨S2048x1, .i32⟩ : BufTy).Contents (Elt F) → (⟨S2048x1, .i1⟩ : BufTy).Contents (Elt F)),
    StableHlo.binary main_call14_v7 main_call14_v10 main_call14_v11 (andi : (⟨S2048x1, .i1⟩ : BufTy).Contents (Elt F) → (⟨S2048x1, .i1⟩ : BufTy).Contents (Elt F) → (⟨S2048x1, .i1⟩ : BufTy).Contents (Elt F)) ]
theorem s2_2_sub : (s2_2 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub ..⟩
theorem s2_2_fresh : ∀ op ∈ (s2_2 : List (HloOp τ sig (Elt F))), op.fresh = ∅ :=
  List.forall_iff_forall_mem.mp (⟨rfl, rfl, rfl, rfl, rfl, rfl, rfl, rfl, rfl, rfl, rfl, rfl, rfl, rfl, rfl, rfl, rfl⟩)
abbrev s2_2_W : List (Ref sig .tc) := [main_v92, main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11]
theorem s2_2_writes : (s2_2 : List (HloOp τ sig (Elt F))).Forall fun op => op.writes ⊆ (s2_2_W.map (Proc.devRef (τ := τ) .tc)).toFinset :=
  StableHlo.forall_writes_sub_of_map rfl
theorem s2_2_args : ∀ a ∈ argRefs, a ∉ s2_2_W := by decide

/-- Stretch 2 of `main` (between the loops), part 3. -/
abbrev s2_3 : List (HloOp τ sig (Elt F)) :=
  [ StableHlo.nullary main_call14_c_3 ((constantI S_ 1 1#1) : (⟨S_, .i1⟩ : BufTy).Contents (Elt F)),
    StableHlo.binary main_call14_v11 main_call14_c_3 main_call14_v12 ((fun x v => Host.reduce IntOp.andi x v reducesTo_S2048x1_S2048_d1 h_S_) : (⟨S2048x1, .i1⟩ : BufTy).Contents (Elt F) → (⟨S_, .i1⟩ : BufTy).Contents (Elt F) → (⟨S2048, .i1⟩ : BufTy).Contents (Elt F)) ]
theorem s2_3_sub : (s2_3 : List (HloOp τ sig (Elt F))).Forall fun op => op.bufs ⊆ tcRefs τ sig :=
  ⟨nullary_bufs_sub .., binary_bufs_sub ..⟩
theorem s2_3_fresh : ∀ op ∈ (s2_3 : List (HloOp τ sig (Elt F))), op.fresh = ∅ :=
  List.forall_iff_forall_mem.mp (⟨rfl, rfl⟩)
abbrev s2_3_W : List (Ref sig .tc) := [main_call14_c_3, main_call14_v12]
theorem s2_3_writes : (s2_3 : List (HloOp τ sig (Elt F))).Forall fun op => op.writes ⊆ (s2_3_W.map (Proc.devRef (τ := τ) .tc)).toFinset :=
  StableHlo.forall_writes_sub_of_map rfl
theorem s2_3_args : ∀ a ∈ argRefs, a ∉ s2_3_W := by decide

/-- Stretch 2 of `main` (between the loops), part 4. -/
abbrev s2_4 : List (HloOp τ sig (Elt F)) :=
  [ StableHlo.binary main_v74 main_call14_v5 main_call14_v13 ((fun x i => Host.gather gather_S1x24576x2048_S2048x1_S1x24576x2048_01_2_n_n_2_1_1245761 x i) : (⟨S1x24576x2048, .f32⟩ : BufTy).Contents (Elt F) → (⟨S2048x1, .i32⟩ : BufTy).Contents (Elt F) → (⟨S1x24576x2048, .f32⟩ : BufTy).Contents (Elt F)) ]
theorem s2_4_sub : (s2_4 : List (HloOp τ sig (Elt F))).Forall fun op => op.bufs ⊆ tcRefs τ sig :=
  binary_bufs_sub ..
theorem s2_4_fresh : ∀ op ∈ (s2_4 : List (HloOp τ sig (Elt F))), op.fresh = ∅ :=
  List.forall_iff_forall_mem.mp (rfl)
abbrev s2_4_W : List (Ref sig .tc) := [main_call14_v13]
theorem s2_4_writes : (s2_4 : List (HloOp τ sig (Elt F))).Forall fun op => op.writes ⊆ (s2_4_W.map (Proc.devRef (τ := τ) .tc)).toFinset :=
  StableHlo.forall_writes_sub_of_map rfl
theorem s2_4_args : ∀ a ∈ argRefs, a ∉ s2_4_W := by decide

/-- Stretch 2 of `main` (between the loops), part 5. -/
abbrev s2_5 : List (HloOp τ sig (Elt F)) :=
  [ StableHlo.unary main_call14_v12 main_call14_v14 ((broadcastInDim S1x24576x2048 ![2] bcast_S2048_S1x24576x2048_2) : (⟨S2048, .i1⟩ : BufTy).Contents (Elt F) → (⟨S1x24576x2048, .i1⟩ : BufTy).Contents (Elt F)),
    StableHlo.nullary main_call14_cst ((constant S_ .f32 0x7FC00000#32) : (⟨S_, .f32⟩ : BufTy).Contents (Elt F)),
    StableHlo.unary main_call14_cst main_call14_v15 ((broadcastInDim S1x24576x2048 ![] bcast_S_S1x24576x2048) : (⟨S_, .f32⟩ : BufTy).Contents (Elt F) → (⟨S1x24576x2048, .f32⟩ : BufTy).Contents (Elt F)),
    StableHlo.ternary main_call14_v14 main_call14_v13 main_call14_v15 main_v93 (select : (⟨S1x24576x2048, .i1⟩ : BufTy).Contents (Elt F) → (⟨S1x24576x2048, .f32⟩ : BufTy).Contents (Elt F) → (⟨S1x24576x2048, .f32⟩ : BufTy).Contents (Elt F) → (⟨S1x24576x2048, .f32⟩ : BufTy).Contents (Elt F)) ]
theorem s2_5_sub : (s2_5 : List (HloOp τ sig (Elt F))).Forall fun op => op.bufs ⊆ tcRefs τ sig :=
  ⟨unary_bufs_sub .., nullary_bufs_sub .., unary_bufs_sub .., ternary_bufs_sub ..⟩
theorem s2_5_fresh : ∀ op ∈ (s2_5 : List (HloOp τ sig (Elt F))), op.fresh = ∅ :=
  List.forall_iff_forall_mem.mp (⟨rfl, rfl, rfl, rfl⟩)
abbrev s2_5_W : List (Ref sig .tc) := [main_call14_v14, main_call14_cst, main_call14_v15, main_v93]
theorem s2_5_writes : (s2_5 : List (HloOp τ sig (Elt F))).Forall fun op => op.writes ⊆ (s2_5_W.map (Proc.devRef (τ := τ) .tc)).toFinset :=
  StableHlo.forall_writes_sub_of_map rfl
theorem s2_5_args : ∀ a ∈ argRefs, a ∉ s2_5_W := by decide

/-- Stretch 2 of `main` (between the loops), part 6. -/
abbrev s2_6 : List (HloOp τ sig (Elt F)) :=
  [ StableHlo.unary main_v72 main_v94 ((transpose S2048x1x24576 [2, 0, 1] · transposes_S1x24576x2048_S2048x1x24576_2_0_1) : (⟨S1x24576x2048, .f32⟩ : BufTy).Contents (Elt F) → (⟨S2048x1x24576, .f32⟩ : BufTy).Contents (Elt F)),
    StableHlo.unary main_v93 main_v95 ((transpose S2048x1x24576 [2, 0, 1] · transposes_S1x24576x2048_S2048x1x24576_2_0_1) : (⟨S1x24576x2048, .f32⟩ : BufTy).Contents (Elt F) → (⟨S2048x1x24576, .f32⟩ : BufTy).Contents (Elt F)),
    StableHlo.nullary main_cst_8 (constant S_ .f32 0x00000000#32),
    StableHlo.unary main_cst_8 main_v96 (broadcastInDim S1x24576 ![] bcast_S_S1x24576 : (⟨S_, .f32⟩ : BufTy).Contents (Elt F) → (⟨S1x24576, .f32⟩ : BufTy).Contents (Elt F)),
    StableHlo.nullary main_cst_9 (constant S_ .f32 0x00000000#32),
    StableHlo.unary main_cst_9 main_v97 (broadcastInDim S2048x1x24576 ![] bcast_S_S2048x1x24576 : (⟨S_, .f32⟩ : BufTy).Contents (Elt F) → (⟨S2048x1x24576, .f32⟩ : BufTy).Contents (Elt F)),
    StableHlo.nullary main_c_10 (constantI S_ 32 0#32),
    StableHlo.unary main_v95 main_v98_0 id,
    StableHlo.unary main_v94 main_v98_1 id,
    StableHlo.unary main_c_10 main_v98_2 id,
    StableHlo.unary main_v96 main_v98_3 id,
    StableHlo.unary main_v97 main_v98_4 id ]
theorem s2_6_sub : (s2_6 : List (HloOp τ sig (Elt F))).Forall fun op => op.bufs ⊆ tcRefs τ sig :=
  ⟨unary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩
theorem s2_6_fresh : ∀ op ∈ (s2_6 : List (HloOp τ sig (Elt F))), op.fresh = ∅ :=
  List.forall_iff_forall_mem.mp (⟨rfl, rfl, rfl, rfl, rfl, rfl, rfl, rfl, rfl, rfl, rfl, rfl⟩)
abbrev s2_6_W : List (Ref sig .tc) := [main_v94, main_v95, main_cst_8, main_v96, main_cst_9, main_v97, main_c_10, main_v98_0, main_v98_1, main_v98_2, main_v98_3, main_v98_4]
theorem s2_6_writes : (s2_6 : List (HloOp τ sig (Elt F))).Forall fun op => op.writes ⊆ (s2_6_W.map (Proc.devRef (τ := τ) .tc)).toFinset :=
  StableHlo.forall_writes_sub_of_map rfl
theorem s2_6_args : ∀ a ∈ argRefs, a ∉ s2_6_W := by decide

/-- Stretch 3 of `main` (between the loops), part 0. -/
abbrev s3_0 : List (HloOp τ sig (Elt F)) :=
  [ StableHlo.nullary main_cst_11 (constant S_ .f32 0x00000000#32),
    StableHlo.unary main_cst_11 main_v99 (broadcastInDim S1x24576 ![] bcast_S_S1x24576 : (⟨S_, .f32⟩ : BufTy).Contents (Elt F) → (⟨S1x24576, .f32⟩ : BufTy).Contents (Elt F)),
    StableHlo.unary main_v95 main_v100 ((extractStridedSlice S2047x1x24576 ![1, 0, 0] · slices_S2048x1x24576_S2047x1x24576_1_0_0) : (⟨S2048x1x24576, .f32⟩ : BufTy).Contents (Elt F) → (⟨S2047x1x24576, .f32⟩ : BufTy).Contents (Elt F)),
    StableHlo.unary main_v100 main_v101 ((Host.reverse [0]) : (⟨S2047x1x24576, .f32⟩ : BufTy).Contents (Elt F) → (⟨S2047x1x24576, .f32⟩ : BufTy).Contents (Elt F)),
    StableHlo.unary main_v94 main_v102 ((extractStridedSlice S2047x1x24576 ![1, 0, 0] · slices_S2048x1x24576_S2047x1x24576_1_0_0) : (⟨S2048x1x24576, .f32⟩ : BufTy).Contents (Elt F) → (⟨S2047x1x24576, .f32⟩ : BufTy).Contents (Elt F)),
    StableHlo.unary main_v102 main_v103 ((Host.reverse [0]) : (⟨S2047x1x24576, .f32⟩ : BufTy).Contents (Elt F) → (⟨S2047x1x24576, .f32⟩ : BufTy).Contents (Elt F)),
    StableHlo.nullary main_cst_12 (constant S_ .f32 0x00000000#32),
    StableHlo.unary main_cst_12 main_v104 (broadcastInDim S2047x1x24576 ![] bcast_S_S2047x1x24576 : (⟨S_, .f32⟩ : BufTy).Contents (Elt F) → (⟨S2047x1x24576, .f32⟩ : BufTy).Contents (Elt F)),
    StableHlo.nullary main_c_13 (constantI S_ 32 0#32),
    StableHlo.unary main_v101 main_v105_0 id,
    StableHlo.unary main_v103 main_v105_1 id,
    StableHlo.unary main_c_13 main_v105_2 id,
    StableHlo.unary main_v99 main_v105_3 id,
    StableHlo.unary main_v104 main_v105_4 id ]
theorem s3_0_sub : (s3_0 : List (HloOp τ sig (Elt F))).Forall fun op => op.bufs ⊆ tcRefs τ sig :=
  ⟨nullary_bufs_sub .., unary_bufs_sub .., unary_bufs_sub .., unary_bufs_sub .., unary_bufs_sub .., unary_bufs_sub .., nullary_bufs_sub .., unary_bufs_sub .., nullary_bufs_sub .., unary_bufs_sub .., unary_bufs_sub .., unary_bufs_sub .., unary_bufs_sub .., unary_bufs_sub ..⟩
theorem s3_0_fresh : ∀ op ∈ (s3_0 : List (HloOp τ sig (Elt F))), op.fresh = ∅ :=
  List.forall_iff_forall_mem.mp (⟨rfl, rfl, rfl, rfl, rfl, rfl, rfl, rfl, rfl, rfl, rfl, rfl, rfl, rfl⟩)
abbrev s3_0_W : List (Ref sig .tc) := [main_cst_11, main_v99, main_v100, main_v101, main_v102, main_v103, main_cst_12, main_v104, main_c_13, main_v105_0, main_v105_1, main_v105_2, main_v105_3, main_v105_4]
theorem s3_0_writes : (s3_0 : List (HloOp τ sig (Elt F))).Forall fun op => op.writes ⊆ (s3_0_W.map (Proc.devRef (τ := τ) .tc)).toFinset :=
  StableHlo.forall_writes_sub_of_map rfl
theorem s3_0_args : ∀ a ∈ argRefs, a ∉ s3_0_W := by decide

/-- Stretch 4 of `main` (between the loops), part 0. -/
abbrev s4_0 : List (HloOp τ sig (Elt F)) :=
  [ StableHlo.unary main_v105_4 main_v106 ((Host.reverse [0]) : (⟨S2047x1x24576, .f32⟩ : BufTy).Contents (Elt F) → (⟨S2047x1x24576, .f32⟩ : BufTy).Contents (Elt F)),
    StableHlo.nullary main_cst_14 (constant S_ .f32 0x00000000#32),
    StableHlo.unary main_cst_14 main_v107 (broadcastInDim S1x1x24576 ![] bcast_S_S1x1x24576 : (⟨S_, .f32⟩ : BufTy).Contents (Elt F) → (⟨S1x1x24576, .f32⟩ : BufTy).Contents (Elt F)) ]
theorem s4_0_sub : (s4_0 : List (HloOp τ sig (Elt F))).Forall fun op => op.bufs ⊆ tcRefs τ sig :=
  ⟨unary_bufs_sub .., nullary_bufs_sub .., unary_bufs_sub ..⟩
theorem s4_0_fresh : ∀ op ∈ (s4_0 : List (HloOp τ sig (Elt F))), op.fresh = ∅ :=
  List.forall_iff_forall_mem.mp (⟨rfl, rfl, rfl⟩)
abbrev s4_0_W : List (Ref sig .tc) := [main_v106, main_cst_14, main_v107]
theorem s4_0_writes : (s4_0 : List (HloOp τ sig (Elt F))).Forall fun op => op.writes ⊆ (s4_0_W.map (Proc.devRef (τ := τ) .tc)).toFinset :=
  StableHlo.forall_writes_sub_of_map rfl
theorem s4_0_args : ∀ a ∈ argRefs, a ∉ s4_0_W := by decide

/-- Stretch 4 of `main` (between the loops), part 1. -/
abbrev s4_1 : List (HloOp τ sig (Elt F)) :=
  [ StableHlo.binary main_v106 main_v107 main_v108 ((fun a b => concatenate S2048x1x24576 0 [⟨S2047x1x24576, a⟩, ⟨S1x1x24576, b⟩] concatenates_S2047x1x24576_S1x1x24576_S2048x1x24576_d0) : (⟨S2047x1x24576, .f32⟩ : BufTy).Contents (Elt F) → (⟨S1x1x24576, .f32⟩ : BufTy).Contents (Elt F) → (⟨S2048x1x24576, .f32⟩ : BufTy).Contents (Elt F)),
    StableHlo.binary main_v98_4 main_v108 main_v109 (addf : (⟨S2048x1x24576, .f32⟩ : BufTy).Contents (Elt F) → (⟨S2048x1x24576, .f32⟩ : BufTy).Contents (Elt F) → (⟨S2048x1x24576, .f32⟩ : BufTy).Contents (Elt F)),
    StableHlo.unary main_v109 main_v110 ((transpose S1x24576x2048 [1, 2, 0] · transposes_S2048x1x24576_S1x24576x2048_1_2_0) : (⟨S2048x1x24576, .f32⟩ : BufTy).Contents (Elt F) → (⟨S1x24576x2048, .f32⟩ : BufTy).Contents (Elt F)),
    StableHlo.nullary main_cst_15 (constant S_ .f32 0x3E99999A#32),
    StableHlo.unary main_cst_15 main_v111 (broadcastInDim S1x24576x2048 ![] bcast_S_S1x24576x2048 : (⟨S_, .f32⟩ : BufTy).Contents (Elt F) → (⟨S1x24576x2048, .f32⟩ : BufTy).Contents (Elt F)),
    StableHlo.binary main_v110 main_v111 main_v112 (mulf : (⟨S1x24576x2048, .f32⟩ : BufTy).Contents (Elt F) → (⟨S1x24576x2048, .f32⟩ : BufTy).Contents (Elt F) → (⟨S1x24576x2048, .f32⟩ : BufTy).Contents (Elt F)),
    StableHlo.binary main_v112 main_v91 main_v113 (addf : (⟨S1x24576x2048, .f32⟩ : BufTy).Contents (Elt F) → (⟨S1x24576x2048, .f32⟩ : BufTy).Contents (Elt F) → (⟨S1x24576x2048, .f32⟩ : BufTy).Contents (Elt F)) ]
theorem s4_1_sub : (s4_1 : List (HloOp τ sig (Elt F))).Forall fun op => op.bufs ⊆ tcRefs τ sig :=
  ⟨binary_bufs_sub .., binary_bufs_sub .., unary_bufs_sub .., nullary_bufs_sub .., unary_bufs_sub .., binary_bufs_sub .., binary_bufs_sub ..⟩
theorem s4_1_fresh : ∀ op ∈ (s4_1 : List (HloOp τ sig (Elt F))), op.fresh = ∅ :=
  List.forall_iff_forall_mem.mp (⟨rfl, rfl, rfl, rfl, rfl, rfl, rfl⟩)
abbrev s4_1_W : List (Ref sig .tc) := [main_v108, main_v109, main_v110, main_cst_15, main_v111, main_v112, main_v113]
theorem s4_1_writes : (s4_1 : List (HloOp τ sig (Elt F))).Forall fun op => op.writes ⊆ (s4_1_W.map (Proc.devRef (τ := τ) .tc)).toFinset :=
  StableHlo.forall_writes_sub_of_map rfl
theorem s4_1_args : ∀ a ∈ argRefs, a ∉ s4_1_W := by decide

/-- Stretch 4 of `main` (between the loops), part 2. -/
abbrev s4_2 : List (HloOp τ sig (Elt F)) :=
  [ StableHlo.unary main_v113 main_v114 ((Host.reverse [2]) : (⟨S1x24576x2048, .f32⟩ : BufTy).Contents (Elt F) → (⟨S1x24576x2048, .f32⟩ : BufTy).Contents (Elt F)),
    StableHlo.reshape main_v114 main_v115 (rfl : (.f32 : EltTy) = .f32) shapeCasts_S1x24576x2048_S1x1536x16x2048,
    StableHlo.unary main_v115 main_v116 ((transpose S1x2048x1536x16 [0, 3, 1, 2] · transposes_S1x1536x16x2048_S1x2048x1536x16_0_3_1_2) : (⟨S1x1536x16x2048, .f32⟩ : BufTy).Contents (Elt F) → (⟨S1x2048x1536x16, .f32⟩ : BufTy).Contents (Elt F)),
    StableHlo.binary main_v116 main_v45 main_v117 ((fun l r => Host.dotGeneral dot_S1x2048x1536x16_S1x2048x16_S1x2048x1536_3_2_2_n_01_01 none l r) : (⟨S1x2048x1536x16, .f32⟩ : BufTy).Contents (Elt F) → (⟨S1x2048x16, .f32⟩ : BufTy).Contents (Elt F) → (⟨S1x2048x1536, .f32⟩ : BufTy).Contents (Elt F)),
    StableHlo.unary main_v117 main_v118 ((transpose S1x1536x2048 [0, 2, 1] · transposes_S1x2048x1536_S1x1536x2048_0_2_1) : (⟨S1x2048x1536, .f32⟩ : BufTy).Contents (Elt F) → (⟨S1x1536x2048, .f32⟩ : BufTy).Contents (Elt F)),
    StableHlo.unary main_arg9 main_v119 (broadcastInDim S1x1536x1 ![1] bcast_S1536_S1x1536x1_1 : (⟨S1536, .f32⟩ : BufTy).Contents (Elt F) → (⟨S1x1536x1, .f32⟩ : BufTy).Contents (Elt F)),
    StableHlo.unary main_v119 main_v120 (broadcastInDim S1x1536x2048 ![0, 1, 2] bcast_S1x1536x1_S1x1536x2048_0_1_2 : (⟨S1x1536x1, .f32⟩ : BufTy).Contents (Elt F) → (⟨S1x1536x2048, .f32⟩ : BufTy).Contents (Elt F)),
    StableHlo.binary main_v41 main_v120 main_v121 (mulf : (⟨S1x1536x2048, .f32⟩ : BufTy).Contents (Elt F) → (⟨S1x1536x2048, .f32⟩ : BufTy).Contents (Elt F) → (⟨S1x1536x2048, .f32⟩ : BufTy).Contents (Elt F)),
    StableHlo.binary main_v118 main_v121 main_v122 (addf : (⟨S1x1536x2048, .f32⟩ : BufTy).Contents (Elt F) → (⟨S1x1536x2048, .f32⟩ : BufTy).Contents (Elt F) → (⟨S1x1536x2048, .f32⟩ : BufTy).Contents (Elt F)) ]
theorem s4_2_sub : (s4_2 : List (HloOp τ sig (Elt F))).Forall fun op => op.bufs ⊆ tcRefs τ sig :=
  ⟨unary_bufs_sub .., reshape_bufs_sub .., unary_bufs_sub .., binary_bufs_sub .., unary_bufs_sub .., unary_bufs_sub .., unary_bufs_sub .., binary_bufs_sub .., binary_bufs_sub ..⟩
theorem s4_2_fresh : ∀ op ∈ (s4_2 : List (HloOp τ sig (Elt F))), op.fresh = ∅ :=
  List.forall_iff_forall_mem.mp (⟨rfl, rfl, rfl, rfl, rfl, rfl, rfl, rfl, rfl⟩)
abbrev s4_2_W : List (Ref sig .tc) := [main_v114, main_v115, main_v116, main_v117, main_v118, main_v119, main_v120, main_v121, main_v122]
theorem s4_2_writes : (s4_2 : List (HloOp τ sig (Elt F))).Forall fun op => op.writes ⊆ (s4_2_W.map (Proc.devRef (τ := τ) .tc)).toFinset :=
  StableHlo.forall_writes_sub_of_map rfl
theorem s4_2_args : ∀ a ∈ argRefs, a ∉ s4_2_W := by decide

/-- Stretch 4 of `main` (between the loops), part 3. -/
abbrev s4_3 : List (HloOp τ sig (Elt F)) :=
  [ StableHlo.unary main_v3 main_v123 (Host.negf : (⟨S1x1536x2048, .f32⟩ : BufTy).Contents (Elt F) → (⟨S1x1536x2048, .f32⟩ : BufTy).Contents (Elt F)),
    StableHlo.unary main_v123 main_v124 (Host.exp : (⟨S1x1536x2048, .f32⟩ : BufTy).Contents (Elt F) → (⟨S1x1536x2048, .f32⟩ : BufTy).Contents (Elt F)),
    StableHlo.nullary main_cst_16 (constant S_ .f32 0x3F800000#32),
    StableHlo.unary main_cst_16 main_v125 (broadcastInDim S1x1536x2048 ![] bcast_S_S1x1536x2048 : (⟨S_, .f32⟩ : BufTy).Contents (Elt F) → (⟨S1x1536x2048, .f32⟩ : BufTy).Contents (Elt F)),
    StableHlo.binary main_v125 main_v124 main_v126 (addf : (⟨S1x1536x2048, .f32⟩ : BufTy).Contents (Elt F) → (⟨S1x1536x2048, .f32⟩ : BufTy).Contents (Elt F) → (⟨S1x1536x2048, .f32⟩ : BufTy).Contents (Elt F)),
    StableHlo.nullary main_cst_17 (constant S_ .f32 0x3F800000#32),
    StableHlo.unary main_cst_17 main_v127 (broadcastInDim S1x1536x2048 ![] bcast_S_S1x1536x2048 : (⟨S_, .f32⟩ : BufTy).Contents (Elt F) → (⟨S1x1536x2048, .f32⟩ : BufTy).Contents (Elt F)),
    StableHlo.binary main_v127 main_v126 main_v128 (Host.divf : (⟨S1x1536x2048, .f32⟩ : BufTy).Contents (Elt F) → (⟨S1x1536x2048, .f32⟩ : BufTy).Contents (Elt F) → (⟨S1x1536x2048, .f32⟩ : BufTy).Contents (Elt F)),
    StableHlo.binary main_v3 main_v128 main_v129 (mulf : (⟨S1x1536x2048, .f32⟩ : BufTy).Contents (Elt F) → (⟨S1x1536x2048, .f32⟩ : BufTy).Contents (Elt F) → (⟨S1x1536x2048, .f32⟩ : BufTy).Contents (Elt F)),
    StableHlo.binary main_v122 main_v129 main_v130 (mulf : (⟨S1x1536x2048, .f32⟩ : BufTy).Contents (Elt F) → (⟨S1x1536x2048, .f32⟩ : BufTy).Contents (Elt F) → (⟨S1x1536x2048, .f32⟩ : BufTy).Contents (Elt F)) ]
theorem s4_3_sub : (s4_3 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub ..⟩
theorem s4_3_fresh : ∀ op ∈ (s4_3 : List (HloOp τ sig (Elt F))), op.fresh = ∅ :=
  List.forall_iff_forall_mem.mp (⟨rfl, rfl, rfl, rfl, rfl, rfl, rfl, rfl, rfl, rfl⟩)
abbrev s4_3_W : List (Ref sig .tc) := [main_v123, main_v124, main_cst_16, main_v125, main_v126, main_cst_17, main_v127, main_v128, main_v129, main_v130]
theorem s4_3_writes : (s4_3 : List (HloOp τ sig (Elt F))).Forall fun op => op.writes ⊆ (s4_3_W.map (Proc.devRef (τ := τ) .tc)).toFinset :=
  StableHlo.forall_writes_sub_of_map rfl
theorem s4_3_args : ∀ a ∈ argRefs, a ∉ s4_3_W := by decide

/-- Stretch 4 of `main` (between the loops), part 4. -/
abbrev s4_4 : List (HloOp τ sig (Elt F)) :=
  [ StableHlo.unary main_v130 main_v131 ((transpose S1x2048x1536 [0, 2, 1] · transposes_S1x1536x2048_S1x2048x1536_0_2_1) : (⟨S1x1536x2048, .f32⟩ : BufTy).Contents (Elt F) → (⟨S1x2048x1536, .f32⟩ : BufTy).Contents (Elt F)),
    StableHlo.binary main_v131 main_arg10 main_v132 ((fun l r => Host.dotGeneral dot_S1x2048x1536_S1536x768_S1x2048x768_2_0_01_1_n_n none l r) : (⟨S1x2048x1536, .f32⟩ : BufTy).Contents (Elt F) → (⟨S1536x768, .f32⟩ : BufTy).Contents (Elt F) → (⟨S1x2048x768, .f32⟩ : BufTy).Contents (Elt F)) ]
theorem s4_4_sub : (s4_4 : List (HloOp τ sig (Elt F))).Forall fun op => op.bufs ⊆ tcRefs τ sig :=
  ⟨unary_bufs_sub .., binary_bufs_sub ..⟩
theorem s4_4_fresh : ∀ op ∈ (s4_4 : List (HloOp τ sig (Elt F))), op.fresh = ∅ :=
  List.forall_iff_forall_mem.mp (⟨rfl, rfl⟩)
abbrev s4_4_W : List (Ref sig .tc) := [main_v131, main_v132]
theorem s4_4_writes : (s4_4 : List (HloOp τ sig (Elt F))).Forall fun op => op.writes ⊆ (s4_4_W.map (Proc.devRef (τ := τ) .tc)).toFinset :=
  StableHlo.forall_writes_sub_of_map rfl
theorem s4_4_args : ∀ a ∈ argRefs, a ∉ s4_4_W := by decide

/-- The body of loop 0. -/
abbrev b0 : List (HloOp τ sig (Elt F)) :=
  [ StableHlo.nullary main_while0b_call5_c ((constantI S_ 32 0#32) : (⟨S_, .i32⟩ : BufTy).Contents (Elt F)),
    StableHlo.nullary main_while0b_call5_c_0 ((constantI S_ 32 0#32) : (⟨S_, .i32⟩ : BufTy).Contents (Elt F)),
    StableHlo.TRef.unaryIndexed (.of main_v79_0 : StableHlo.TRef sig ⟨S2048x1x24576, .f32⟩) ![(.of main_v79_2 : StableHlo.TRef sig ⟨S_, .i32⟩), (.of main_while0b_call5_c : StableHlo.TRef sig ⟨S_, .i32⟩), (.of main_while0b_call5_c_0 : StableHlo.TRef sig ⟨S_, .i32⟩)] (.of main_while0b_call5_v0 : StableHlo.TRef sig ⟨S1x1x24576, .f32⟩) (fun x i => Host.dynamicSlice S1x1x24576 x (fun k => (i k (Shape.Idx.first h_S_)).toInt) sliceFits_S2048x1x24576_S1x1x24576),
    StableHlo.reshape main_while0b_call5_v0 main_while0b_v133 (rfl : (.f32 : EltTy) = .f32) shapeCasts_S1x1x24576_S1x24576,
    StableHlo.nullary main_while0b_call6_c ((constantI S_ 32 0#32) : (⟨S_, .i32⟩ : BufTy).Contents (Elt F)),
    StableHlo.nullary main_while0b_call6_c_0 ((constantI S_ 32 0#32) : (⟨S_, .i32⟩ : BufTy).Contents (Elt F)),
    StableHlo.TRef.unaryIndexed (.of main_v79_1 : StableHlo.TRef sig ⟨S2048x1x24576, .f32⟩) ![(.of main_v79_2 : StableHlo.TRef sig ⟨S_, .i32⟩), (.of main_while0b_call6_c : StableHlo.TRef sig ⟨S_, .i32⟩), (.of main_while0b_call6_c_0 : StableHlo.TRef sig ⟨S_, .i32⟩)] (.of main_while0b_call6_v0 : StableHlo.TRef sig ⟨S1x1x24576, .f32⟩) (fun x i => Host.dynamicSlice S1x1x24576 x (fun k => (i k (Shape.Idx.first h_S_)).toInt) sliceFits_S2048x1x24576_S1x1x24576),
    StableHlo.reshape main_while0b_call6_v0 main_while0b_v134 (rfl : (.f32 : EltTy) = .f32) shapeCasts_S1x1x24576_S1x24576,
    StableHlo.binary main_while0b_v133 main_v79_3 main_while0b_v135 (mulf : (⟨S1x24576, .f32⟩ : BufTy).Contents (Elt F) → (⟨S1x24576, .f32⟩ : BufTy).Contents (Elt F) → (⟨S1x24576, .f32⟩ : BufTy).Contents (Elt F)),
    StableHlo.binary main_while0b_v135 main_while0b_v134 main_while0b_v136 (addf : (⟨S1x24576, .f32⟩ : BufTy).Contents (Elt F) → (⟨S1x24576, .f32⟩ : BufTy).Contents (Elt F) → (⟨S1x24576, .f32⟩ : BufTy).Contents (Elt F)),
    StableHlo.unary main_while0b_v136 main_while0b_call7_v0 ((broadcastInDim S1x1x24576 ![1, 2] bcast_S1x24576_S1x1x24576_1_2) : (⟨S1x24576, .f32⟩ : BufTy).Contents (Elt F) → (⟨S1x1x24576, .f32⟩ : BufTy).Contents (Elt F)),
    StableHlo.nullary main_while0b_call7_c ((constantI S_ 32 0#32) : (⟨S_, .i32⟩ : BufTy).Contents (Elt F)),
    StableHlo.nullary main_while0b_call7_c_0 ((constantI S_ 32 0#32) : (⟨S_, .i32⟩ : BufTy).Contents (Elt F)),
    StableHlo.TRef.binaryIndexed (.of main_v79_4 : StableHlo.TRef sig ⟨S2048x1x24576, .f32⟩) (.of main_while0b_call7_v0 : StableHlo.TRef sig ⟨S1x1x24576, .f32⟩) ![(.of main_v79_2 : StableHlo.TRef sig ⟨S_, .i32⟩), (.of main_while0b_call7_c : StableHlo.TRef sig ⟨S_, .i32⟩), (.of main_while0b_call7_c_0 : StableHlo.TRef sig ⟨S_, .i32⟩)] (.of main_while0b_v137 : StableHlo.TRef sig ⟨S2048x1x24576, .f32⟩) (fun x u i => Host.dynamicUpdateSlice x u (fun k => (i k (Shape.Idx.first h_S_)).toInt) updateFits_S2048x1x24576_S1x1x24576),
    StableHlo.nullary main_while0b_c_22 (constantI S_ 32 1#32),
    StableHlo.binary main_v79_2 main_while0b_c_22 main_while0b_v138 (addi : (⟨S_, .i32⟩ : BufTy).Contents (Elt F) → (⟨S_, .i32⟩ : BufTy).Contents (Elt F) → (⟨S_, .i32⟩ : BufTy).Contents (Elt F)),
    StableHlo.unary main_while0b_v138 main_v79_2 id,
    StableHlo.unary main_while0b_v136 main_v79_3 id,
    StableHlo.unary main_while0b_v137 main_v79_4 id ]
theorem b0_sub : (b0 : List (HloOp τ sig (Elt F))).Forall fun op => op.bufs ⊆ tcRefs τ sig :=
  ⟨nullary_bufs_sub .., nullary_bufs_sub .., unaryIndexed_bufs_sub .., reshape_bufs_sub .., nullary_bufs_sub .., nullary_bufs_sub .., unaryIndexed_bufs_sub .., reshape_bufs_sub .., binary_bufs_sub .., binary_bufs_sub .., unary_bufs_sub .., nullary_bufs_sub .., nullary_bufs_sub .., binaryIndexed_bufs_sub .., nullary_bufs_sub .., binary_bufs_sub .., unary_bufs_sub .., unary_bufs_sub .., unary_bufs_sub ..⟩
theorem b0_fresh : ∀ op ∈ (b0 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl⟩)
abbrev b0_W : List (Ref sig .tc) := [main_while0b_call5_c, main_while0b_call5_c_0, main_while0b_call5_v0, main_while0b_v133, main_while0b_call6_c, main_while0b_call6_c_0, main_while0b_call6_v0, main_while0b_v134, main_while0b_v135, main_while0b_v136, main_while0b_call7_v0, main_while0b_call7_c, main_while0b_call7_c_0, main_while0b_v137, main_while0b_c_22, main_while0b_v138, main_v79_2, main_v79_3, main_v79_4]
theorem b0_writes : (b0 : List (HloOp τ sig (Elt F))).Forall fun op => op.writes ⊆ (b0_W.map (Proc.devRef (τ := τ) .tc)).toFinset :=
  StableHlo.forall_writes_sub_of_map rfl
theorem b0_args : ∀ a ∈ argRefs, a ∉ b0_W := by decide

/-- The body of loop 1. -/
abbrev b1 : List (HloOp τ sig (Elt F)) :=
  [ StableHlo.nullary main_while1b_call10_c ((constantI S_ 32 0#32) : (⟨S_, .i32⟩ : BufTy).Contents (Elt F)),
    StableHlo.nullary main_while1b_call10_c_0 ((constantI S_ 32 0#32) : (⟨S_, .i32⟩ : BufTy).Contents (Elt F)),
    StableHlo.TRef.unaryIndexed (.of main_v86_0 : StableHlo.TRef sig ⟨S2047x1x24576, .f32⟩) ![(.of main_v86_2 : StableHlo.TRef sig ⟨S_, .i32⟩), (.of main_while1b_call10_c : StableHlo.TRef sig ⟨S_, .i32⟩), (.of main_while1b_call10_c_0 : StableHlo.TRef sig ⟨S_, .i32⟩)] (.of main_while1b_call10_v0 : StableHlo.TRef sig ⟨S1x1x24576, .f32⟩) (fun x i => Host.dynamicSlice S1x1x24576 x (fun k => (i k (Shape.Idx.first h_S_)).toInt) sliceFits_S2047x1x24576_S1x1x24576),
    StableHlo.reshape main_while1b_call10_v0 main_while1b_v133 (rfl : (.f32 : EltTy) = .f32) shapeCasts_S1x1x24576_S1x24576,
    StableHlo.nullary main_while1b_call11_c ((constantI S_ 32 0#32) : (⟨S_, .i32⟩ : BufTy).Contents (Elt F)),
    StableHlo.nullary main_while1b_call11_c_0 ((constantI S_ 32 0#32) : (⟨S_, .i32⟩ : BufTy).Contents (Elt F)),
    StableHlo.TRef.unaryIndexed (.of main_v86_1 : StableHlo.TRef sig ⟨S2047x1x24576, .f32⟩) ![(.of main_v86_2 : StableHlo.TRef sig ⟨S_, .i32⟩), (.of main_while1b_call11_c : StableHlo.TRef sig ⟨S_, .i32⟩), (.of main_while1b_call11_c_0 : StableHlo.TRef sig ⟨S_, .i32⟩)] (.of main_while1b_call11_v0 : StableHlo.TRef sig ⟨S1x1x24576, .f32⟩) (fun x i => Host.dynamicSlice S1x1x24576 x (fun k => (i k (Shape.Idx.first h_S_)).toInt) sliceFits_S2047x1x24576_S1x1x24576),
    StableHlo.reshape main_while1b_call11_v0 main_while1b_v134 (rfl : (.f32 : EltTy) = .f32) shapeCasts_S1x1x24576_S1x24576,
    StableHlo.binary main_while1b_v134 main_v86_3 main_while1b_v135 (addf : (⟨S1x24576, .f32⟩ : BufTy).Contents (Elt F) → (⟨S1x24576, .f32⟩ : BufTy).Contents (Elt F) → (⟨S1x24576, .f32⟩ : BufTy).Contents (Elt F)),
    StableHlo.binary main_while1b_v133 main_while1b_v135 main_while1b_v136 (mulf : (⟨S1x24576, .f32⟩ : BufTy).Contents (Elt F) → (⟨S1x24576, .f32⟩ : BufTy).Contents (Elt F) → (⟨S1x24576, .f32⟩ : BufTy).Contents (Elt F)),
    StableHlo.unary main_while1b_v136 main_while1b_call12_v0 ((broadcastInDim S1x1x24576 ![1, 2] bcast_S1x24576_S1x1x24576_1_2) : (⟨S1x24576, .f32⟩ : BufTy).Contents (Elt F) → (⟨S1x1x24576, .f32⟩ : BufTy).Contents (Elt F)),
    StableHlo.nullary main_while1b_call12_c ((constantI S_ 32 0#32) : (⟨S_, .i32⟩ : BufTy).Contents (Elt F)),
    StableHlo.nullary main_while1b_call12_c_0 ((constantI S_ 32 0#32) : (⟨S_, .i32⟩ : BufTy).Contents (Elt F)),
    StableHlo.TRef.binaryIndexed (.of main_v86_4 : StableHlo.TRef sig ⟨S2047x1x24576, .f32⟩) (.of main_while1b_call12_v0 : StableHlo.TRef sig ⟨S1x1x24576, .f32⟩) ![(.of main_v86_2 : StableHlo.TRef sig ⟨S_, .i32⟩), (.of main_while1b_call12_c : StableHlo.TRef sig ⟨S_, .i32⟩), (.of main_while1b_call12_c_0 : StableHlo.TRef sig ⟨S_, .i32⟩)] (.of main_while1b_v137 : StableHlo.TRef sig ⟨S2047x1x24576, .f32⟩) (fun x u i => Host.dynamicUpdateSlice x u (fun k => (i k (Shape.Idx.first h_S_)).toInt) updateFits_S2047x1x24576_S1x1x24576),
    StableHlo.nullary main_while1b_c_22 (constantI S_ 32 1#32),
    StableHlo.binary main_v86_2 main_while1b_c_22 main_while1b_v138 (addi : (⟨S_, .i32⟩ : BufTy).Contents (Elt F) → (⟨S_, .i32⟩ : BufTy).Contents (Elt F) → (⟨S_, .i32⟩ : BufTy).Contents (Elt F)),
    StableHlo.unary main_while1b_v138 main_v86_2 id,
    StableHlo.unary main_while1b_v136 main_v86_3 id,
    StableHlo.unary main_while1b_v137 main_v86_4 id ]
theorem b1_sub : (b1 : List (HloOp τ sig (Elt F))).Forall fun op => op.bufs ⊆ tcRefs τ sig :=
  ⟨nullary_bufs_sub .., nullary_bufs_sub .., unaryIndexed_bufs_sub .., reshape_bufs_sub .., nullary_bufs_sub .., nullary_bufs_sub .., unaryIndexed_bufs_sub .., reshape_bufs_sub .., binary_bufs_sub .., binary_bufs_sub .., unary_bufs_sub .., nullary_bufs_sub .., nullary_bufs_sub .., binaryIndexed_bufs_sub .., nullary_bufs_sub .., binary_bufs_sub .., unary_bufs_sub .., unary_bufs_sub .., unary_bufs_sub ..⟩
theorem b1_fresh : ∀ op ∈ (b1 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl⟩)
abbrev b1_W : List (Ref sig .tc) := [main_while1b_call10_c, main_while1b_call10_c_0, main_while1b_call10_v0, main_while1b_v133, main_while1b_call11_c, main_while1b_call11_c_0, main_while1b_call11_v0, main_while1b_v134, main_while1b_v135, main_while1b_v136, main_while1b_call12_v0, main_while1b_call12_c, main_while1b_call12_c_0, main_while1b_v137, main_while1b_c_22, main_while1b_v138, main_v86_2, main_v86_3, main_v86_4]
theorem b1_writes : (b1 : List (HloOp τ sig (Elt F))).Forall fun op => op.writes ⊆ (b1_W.map (Proc.devRef (τ := τ) .tc)).toFinset :=
  StableHlo.forall_writes_sub_of_map rfl
theorem b1_args : ∀ a ∈ argRefs, a ∉ b1_W := by decide

/-- The body of loop 2. -/
abbrev b2 : List (HloOp τ sig (Elt F)) :=
  [ StableHlo.nullary main_while2b_call15_c ((constantI S_ 32 0#32) : (⟨S_, .i32⟩ : BufTy).Contents (Elt F)),
    StableHlo.nullary main_while2b_call15_c_0 ((constantI S_ 32 0#32) : (⟨S_, .i32⟩ : BufTy).Contents (Elt F)),
    StableHlo.TRef.unaryIndexed (.of main_v98_0 : StableHlo.TRef sig ⟨S2048x1x24576, .f32⟩) ![(.of main_v98_2 : StableHlo.TRef sig ⟨S_, .i32⟩), (.of main_while2b_call15_c : StableHlo.TRef sig ⟨S_, .i32⟩), (.of main_while2b_call15_c_0 : StableHlo.TRef sig ⟨S_, .i32⟩)] (.of main_while2b_call15_v0 : StableHlo.TRef sig ⟨S1x1x24576, .f32⟩) (fun x i => Host.dynamicSlice S1x1x24576 x (fun k => (i k (Shape.Idx.first h_S_)).toInt) sliceFits_S2048x1x24576_S1x1x24576),
    StableHlo.reshape main_while2b_call15_v0 main_while2b_v133 (rfl : (.f32 : EltTy) = .f32) shapeCasts_S1x1x24576_S1x24576,
    StableHlo.nullary main_while2b_call16_c ((constantI S_ 32 0#32) : (⟨S_, .i32⟩ : BufTy).Contents (Elt F)),
    StableHlo.nullary main_while2b_call16_c_0 ((constantI S_ 32 0#32) : (⟨S_, .i32⟩ : BufTy).Contents (Elt F)),
    StableHlo.TRef.unaryIndexed (.of main_v98_1 : StableHlo.TRef sig ⟨S2048x1x24576, .f32⟩) ![(.of main_v98_2 : StableHlo.TRef sig ⟨S_, .i32⟩), (.of main_while2b_call16_c : StableHlo.TRef sig ⟨S_, .i32⟩), (.of main_while2b_call16_c_0 : StableHlo.TRef sig ⟨S_, .i32⟩)] (.of main_while2b_call16_v0 : StableHlo.TRef sig ⟨S1x1x24576, .f32⟩) (fun x i => Host.dynamicSlice S1x1x24576 x (fun k => (i k (Shape.Idx.first h_S_)).toInt) sliceFits_S2048x1x24576_S1x1x24576),
    StableHlo.reshape main_while2b_call16_v0 main_while2b_v134 (rfl : (.f32 : EltTy) = .f32) shapeCasts_S1x1x24576_S1x24576,
    StableHlo.binary main_while2b_v133 main_v98_3 main_while2b_v135 (mulf : (⟨S1x24576, .f32⟩ : BufTy).Contents (Elt F) → (⟨S1x24576, .f32⟩ : BufTy).Contents (Elt F) → (⟨S1x24576, .f32⟩ : BufTy).Contents (Elt F)),
    StableHlo.binary main_while2b_v135 main_while2b_v134 main_while2b_v136 (addf : (⟨S1x24576, .f32⟩ : BufTy).Contents (Elt F) → (⟨S1x24576, .f32⟩ : BufTy).Contents (Elt F) → (⟨S1x24576, .f32⟩ : BufTy).Contents (Elt F)),
    StableHlo.unary main_while2b_v136 main_while2b_call17_v0 ((broadcastInDim S1x1x24576 ![1, 2] bcast_S1x24576_S1x1x24576_1_2) : (⟨S1x24576, .f32⟩ : BufTy).Contents (Elt F) → (⟨S1x1x24576, .f32⟩ : BufTy).Contents (Elt F)),
    StableHlo.nullary main_while2b_call17_c ((constantI S_ 32 0#32) : (⟨S_, .i32⟩ : BufTy).Contents (Elt F)),
    StableHlo.nullary main_while2b_call17_c_0 ((constantI S_ 32 0#32) : (⟨S_, .i32⟩ : BufTy).Contents (Elt F)),
    StableHlo.TRef.binaryIndexed (.of main_v98_4 : StableHlo.TRef sig ⟨S2048x1x24576, .f32⟩) (.of main_while2b_call17_v0 : StableHlo.TRef sig ⟨S1x1x24576, .f32⟩) ![(.of main_v98_2 : StableHlo.TRef sig ⟨S_, .i32⟩), (.of main_while2b_call17_c : StableHlo.TRef sig ⟨S_, .i32⟩), (.of main_while2b_call17_c_0 : StableHlo.TRef sig ⟨S_, .i32⟩)] (.of main_while2b_v137 : StableHlo.TRef sig ⟨S2048x1x24576, .f32⟩) (fun x u i => Host.dynamicUpdateSlice x u (fun k => (i k (Shape.Idx.first h_S_)).toInt) updateFits_S2048x1x24576_S1x1x24576),
    StableHlo.nullary main_while2b_c_22 (constantI S_ 32 1#32),
    StableHlo.binary main_v98_2 main_while2b_c_22 main_while2b_v138 (addi : (⟨S_, .i32⟩ : BufTy).Contents (Elt F) → (⟨S_, .i32⟩ : BufTy).Contents (Elt F) → (⟨S_, .i32⟩ : BufTy).Contents (Elt F)),
    StableHlo.unary main_while2b_v138 main_v98_2 id,
    StableHlo.unary main_while2b_v136 main_v98_3 id,
    StableHlo.unary main_while2b_v137 main_v98_4 id ]
theorem b2_sub : (b2 : List (HloOp τ sig (Elt F))).Forall fun op => op.bufs ⊆ tcRefs τ sig :=
  ⟨nullary_bufs_sub .., nullary_bufs_sub .., unaryIndexed_bufs_sub .., reshape_bufs_sub .., nullary_bufs_sub .., nullary_bufs_sub .., unaryIndexed_bufs_sub .., reshape_bufs_sub .., binary_bufs_sub .., binary_bufs_sub .., unary_bufs_sub .., nullary_bufs_sub .., nullary_bufs_sub .., binaryIndexed_bufs_sub .., nullary_bufs_sub .., binary_bufs_sub .., unary_bufs_sub .., unary_bufs_sub .., unary_bufs_sub ..⟩
theorem b2_fresh : ∀ op ∈ (b2 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl⟩)
abbrev b2_W : List (Ref sig .tc) := [main_while2b_call15_c, main_while2b_call15_c_0, main_while2b_call15_v0, main_while2b_v133, main_while2b_call16_c, main_while2b_call16_c_0, main_while2b_call16_v0, main_while2b_v134, main_while2b_v135, main_while2b_v136, main_while2b_call17_v0, main_while2b_call17_c, main_while2b_call17_c_0, main_while2b_v137, main_while2b_c_22, main_while2b_v138, main_v98_2, main_v98_3, main_v98_4]
theorem b2_writes : (b2 : List (HloOp τ sig (Elt F))).Forall fun op => op.writes ⊆ (b2_W.map (Proc.devRef (τ := τ) .tc)).toFinset :=
  StableHlo.forall_writes_sub_of_map rfl
theorem b2_args : ∀ a ∈ argRefs, a ∉ b2_W := by decide

/-- The body of loop 3. -/
abbrev b3 : List (HloOp τ sig (Elt F)) :=
  [ StableHlo.nullary main_while3b_call20_c ((constantI S_ 32 0#32) : (⟨S_, .i32⟩ : BufTy).Contents (Elt F)),
    StableHlo.nullary main_while3b_call20_c_0 ((constantI S_ 32 0#32) : (⟨S_, .i32⟩ : BufTy).Contents (Elt F)),
    StableHlo.TRef.unaryIndexed (.of main_v105_0 : StableHlo.TRef sig ⟨S2047x1x24576, .f32⟩) ![(.of main_v105_2 : StableHlo.TRef sig ⟨S_, .i32⟩), (.of main_while3b_call20_c : StableHlo.TRef sig ⟨S_, .i32⟩), (.of main_while3b_call20_c_0 : StableHlo.TRef sig ⟨S_, .i32⟩)] (.of main_while3b_call20_v0 : StableHlo.TRef sig ⟨S1x1x24576, .f32⟩) (fun x i => Host.dynamicSlice S1x1x24576 x (fun k => (i k (Shape.Idx.first h_S_)).toInt) sliceFits_S2047x1x24576_S1x1x24576),
    StableHlo.reshape main_while3b_call20_v0 main_while3b_v133 (rfl : (.f32 : EltTy) = .f32) shapeCasts_S1x1x24576_S1x24576,
    StableHlo.nullary main_while3b_call21_c ((constantI S_ 32 0#32) : (⟨S_, .i32⟩ : BufTy).Contents (Elt F)),
    StableHlo.nullary main_while3b_call21_c_0 ((constantI S_ 32 0#32) : (⟨S_, .i32⟩ : BufTy).Contents (Elt F)),
    StableHlo.TRef.unaryIndexed (.of main_v105_1 : StableHlo.TRef sig ⟨S2047x1x24576, .f32⟩) ![(.of main_v105_2 : StableHlo.TRef sig ⟨S_, .i32⟩), (.of main_while3b_call21_c : StableHlo.TRef sig ⟨S_, .i32⟩), (.of main_while3b_call21_c_0 : StableHlo.TRef sig ⟨S_, .i32⟩)] (.of main_while3b_call21_v0 : StableHlo.TRef sig ⟨S1x1x24576, .f32⟩) (fun x i => Host.dynamicSlice S1x1x24576 x (fun k => (i k (Shape.Idx.first h_S_)).toInt) sliceFits_S2047x1x24576_S1x1x24576),
    StableHlo.reshape main_while3b_call21_v0 main_while3b_v134 (rfl : (.f32 : EltTy) = .f32) shapeCasts_S1x1x24576_S1x24576,
    StableHlo.binary main_while3b_v134 main_v105_3 main_while3b_v135 (addf : (⟨S1x24576, .f32⟩ : BufTy).Contents (Elt F) → (⟨S1x24576, .f32⟩ : BufTy).Contents (Elt F) → (⟨S1x24576, .f32⟩ : BufTy).Contents (Elt F)),
    StableHlo.binary main_while3b_v133 main_while3b_v135 main_while3b_v136 (mulf : (⟨S1x24576, .f32⟩ : BufTy).Contents (Elt F) → (⟨S1x24576, .f32⟩ : BufTy).Contents (Elt F) → (⟨S1x24576, .f32⟩ : BufTy).Contents (Elt F)),
    StableHlo.unary main_while3b_v136 main_while3b_call22_v0 ((broadcastInDim S1x1x24576 ![1, 2] bcast_S1x24576_S1x1x24576_1_2) : (⟨S1x24576, .f32⟩ : BufTy).Contents (Elt F) → (⟨S1x1x24576, .f32⟩ : BufTy).Contents (Elt F)),
    StableHlo.nullary main_while3b_call22_c ((constantI S_ 32 0#32) : (⟨S_, .i32⟩ : BufTy).Contents (Elt F)),
    StableHlo.nullary main_while3b_call22_c_0 ((constantI S_ 32 0#32) : (⟨S_, .i32⟩ : BufTy).Contents (Elt F)),
    StableHlo.TRef.binaryIndexed (.of main_v105_4 : StableHlo.TRef sig ⟨S2047x1x24576, .f32⟩) (.of main_while3b_call22_v0 : StableHlo.TRef sig ⟨S1x1x24576, .f32⟩) ![(.of main_v105_2 : StableHlo.TRef sig ⟨S_, .i32⟩), (.of main_while3b_call22_c : StableHlo.TRef sig ⟨S_, .i32⟩), (.of main_while3b_call22_c_0 : StableHlo.TRef sig ⟨S_, .i32⟩)] (.of main_while3b_v137 : StableHlo.TRef sig ⟨S2047x1x24576, .f32⟩) (fun x u i => Host.dynamicUpdateSlice x u (fun k => (i k (Shape.Idx.first h_S_)).toInt) updateFits_S2047x1x24576_S1x1x24576),
    StableHlo.nullary main_while3b_c_22 (constantI S_ 32 1#32),
    StableHlo.binary main_v105_2 main_while3b_c_22 main_while3b_v138 (addi : (⟨S_, .i32⟩ : BufTy).Contents (Elt F) → (⟨S_, .i32⟩ : BufTy).Contents (Elt F) → (⟨S_, .i32⟩ : BufTy).Contents (Elt F)),
    StableHlo.unary main_while3b_v138 main_v105_2 id,
    StableHlo.unary main_while3b_v136 main_v105_3 id,
    StableHlo.unary main_while3b_v137 main_v105_4 id ]
theorem b3_sub : (b3 : List (HloOp τ sig (Elt F))).Forall fun op => op.bufs ⊆ tcRefs τ sig :=
  ⟨nullary_bufs_sub .., nullary_bufs_sub .., unaryIndexed_bufs_sub .., reshape_bufs_sub .., nullary_bufs_sub .., nullary_bufs_sub .., unaryIndexed_bufs_sub .., reshape_bufs_sub .., binary_bufs_sub .., binary_bufs_sub .., unary_bufs_sub .., nullary_bufs_sub .., nullary_bufs_sub .., binaryIndexed_bufs_sub .., nullary_bufs_sub .., binary_bufs_sub .., unary_bufs_sub .., unary_bufs_sub .., unary_bufs_sub ..⟩
theorem b3_fresh : ∀ op ∈ (b3 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl⟩)
abbrev b3_W : List (Ref sig .tc) := [main_while3b_call20_c, main_while3b_call20_c_0, main_while3b_call20_v0, main_while3b_v133, main_while3b_call21_c, main_while3b_call21_c_0, main_while3b_call21_v0, main_while3b_v134, main_while3b_v135, main_while3b_v136, main_while3b_call22_v0, main_while3b_call22_c, main_while3b_call22_c_0, main_while3b_v137, main_while3b_c_22, main_while3b_v138, main_v105_2, main_v105_3, main_v105_4]
theorem b3_writes : (b3 : List (HloOp τ sig (Elt F))).Forall fun op => op.writes ⊆ (b3_W.map (Proc.devRef (τ := τ) .tc)).toFinset :=
  StableHlo.forall_writes_sub_of_map rfl
theorem b3_args : ∀ a ∈ argRefs, a ∉ b3_W := by decide

/-- The condition of loop 0. -/
abbrev c0 : List (HloOp τ sig (Elt F)) :=
  [ StableHlo.nullary main_while0c_c_22 (constantI S_ 32 2048#32),
    StableHlo.binary main_v79_2 main_while0c_c_22 main_while0c_v133 (cmpi .slt : (⟨S_, .i32⟩ : BufTy).Contents (Elt F) → (⟨S_, .i32⟩ : BufTy).Contents (Elt F) → (⟨S_, .i1⟩ : BufTy).Contents (Elt F)) ]
theorem c0_sub : (c0 : List (HloOp τ sig (Elt F))).Forall fun op => op.bufs ⊆ tcRefs τ sig :=
  ⟨nullary_bufs_sub .., binary_bufs_sub ..⟩
theorem c0_fresh : ∀ op ∈ (c0 : List (HloOp τ sig (Elt F))), op.fresh = ∅ :=
  List.forall_iff_forall_mem.mp (⟨rfl, rfl⟩)
abbrev c0_W : List (Ref sig .tc) := [main_while0c_c_22, main_while0c_v133]
theorem c0_writes : (c0 : List (HloOp τ sig (Elt F))).Forall fun op => op.writes ⊆ (c0_W.map (Proc.devRef (τ := τ) .tc)).toFinset :=
  StableHlo.forall_writes_sub_of_map rfl
theorem c0_args : ∀ a ∈ argRefs, a ∉ c0_W := by decide

/-- The condition of loop 1. -/
abbrev c1 : List (HloOp τ sig (Elt F)) :=
  [ StableHlo.nullary main_while1c_c_22 (constantI S_ 32 2047#32),
    StableHlo.binary main_v86_2 main_while1c_c_22 main_while1c_v133 (cmpi .slt : (⟨S_, .i32⟩ : BufTy).Contents (Elt F) → (⟨S_, .i32⟩ : BufTy).Contents (Elt F) → (⟨S_, .i1⟩ : BufTy).Contents (Elt F)) ]
theorem c1_sub : (c1 : List (HloOp τ sig (Elt F))).Forall fun op => op.bufs ⊆ tcRefs τ sig :=
  ⟨nullary_bufs_sub .., binary_bufs_sub ..⟩
theorem c1_fresh : ∀ op ∈ (c1 : List (HloOp τ sig (Elt F))), op.fresh = ∅ :=
  List.forall_iff_forall_mem.mp (⟨rfl, rfl⟩)
abbrev c1_W : List (Ref sig .tc) := [main_while1c_c_22, main_while1c_v133]
theorem c1_writes : (c1 : List (HloOp τ sig (Elt F))).Forall fun op => op.writes ⊆ (c1_W.map (Proc.devRef (τ := τ) .tc)).toFinset :=
  StableHlo.forall_writes_sub_of_map rfl
theorem c1_args : ∀ a ∈ argRefs, a ∉ c1_W := by decide

/-- The condition of loop 2. -/
abbrev c2 : List (HloOp τ sig (Elt F)) :=
  [ StableHlo.nullary main_while2c_c_22 (constantI S_ 32 2048#32),
    StableHlo.binary main_v98_2 main_while2c_c_22 main_while2c_v133 (cmpi .slt : (⟨S_, .i32⟩ : BufTy).Contents (Elt F) → (⟨S_, .i32⟩ : BufTy).Contents (Elt F) → (⟨S_, .i1⟩ : BufTy).Contents (Elt F)) ]
theorem c2_sub : (c2 : List (HloOp τ sig (Elt F))).Forall fun op => op.bufs ⊆ tcRefs τ sig :=
  ⟨nullary_bufs_sub .., binary_bufs_sub ..⟩
theorem c2_fresh : ∀ op ∈ (c2 : List (HloOp τ sig (Elt F))), op.fresh = ∅ :=
  List.forall_iff_forall_mem.mp (⟨rfl, rfl⟩)
abbrev c2_W : List (Ref sig .tc) := [main_while2c_c_22, main_while2c_v133]
theorem c2_writes : (c2 : List (HloOp τ sig (Elt F))).Forall fun op => op.writes ⊆ (c2_W.map (Proc.devRef (τ := τ) .tc)).toFinset :=
  StableHlo.forall_writes_sub_of_map rfl
theorem c2_args : ∀ a ∈ argRefs, a ∉ c2_W := by decide

/-- The condition of loop 3. -/
abbrev c3 : List (HloOp τ sig (Elt F)) :=
  [ StableHlo.nullary main_while3c_c_22 (constantI S_ 32 2047#32),
    StableHlo.binary main_v105_2 main_while3c_c_22 main_while3c_v133 (cmpi .slt : (⟨S_, .i32⟩ : BufTy).Contents (Elt F) → (⟨S_, .i32⟩ : BufTy).Contents (Elt F) → (⟨S_, .i1⟩ : BufTy).Contents (Elt F)) ]
theorem c3_sub : (c3 : List (HloOp τ sig (Elt F))).Forall fun op => op.bufs ⊆ tcRefs τ sig :=
  ⟨nullary_bufs_sub .., binary_bufs_sub ..⟩
theorem c3_fresh : ∀ op ∈ (c3 : List (HloOp τ sig (Elt F))), op.fresh = ∅ :=
  List.forall_iff_forall_mem.mp (⟨rfl, rfl⟩)
abbrev c3_W : List (Ref sig .tc) := [main_while3c_c_22, main_while3c_v133]
theorem c3_writes : (c3 : List (HloOp τ sig (Elt F))).Forall fun op => op.writes ⊆ (c3_W.map (Proc.devRef (τ := τ) .tc)).toFinset :=
  StableHlo.forall_writes_sub_of_map rfl
theorem c3_args : ∀ a ∈ argRefs, a ∉ c3_W := by decide

abbrev items0 : List (List (HloOp τ sig (Elt F))) := [s0_0, s0_1, s0_2, s0_3, s0_4, s0_5, s0_6, s0_7, s0_8, s0_9, s0_10]
theorem items0_plain : Plain (items0 (F := F)) := (.cons s0_0_sub (.cons s0_1_sub (.cons s0_2_sub (.cons s0_3_sub (.cons s0_4_sub (.cons s0_5_sub (.cons s0_6_sub (.cons s0_7_sub (.cons s0_8_sub (.cons s0_9_sub (.cons s0_10_sub .nil s0_10_fresh) s0_9_fresh) s0_8_fresh) s0_7_fresh) s0_6_fresh) s0_5_fresh) s0_4_fresh) s0_3_fresh) s0_2_fresh) s0_1_fresh) s0_0_fresh)
abbrev items1 : List (List (HloOp τ sig (Elt F))) := [s1_0]
theorem items1_plain : Plain (items1 (F := F)) := (.cons s1_0_sub .nil s1_0_fresh)
abbrev items2 : List (List (HloOp τ sig (Elt F))) := [s2_0, s2_1, s2_2, s2_3, s2_4, s2_5, s2_6]
theorem items2_plain : Plain (items2 (F := F)) := (.cons s2_0_sub (.cons s2_1_sub (.cons s2_2_sub (.cons s2_3_sub (.cons s2_4_sub (.cons s2_5_sub (.cons s2_6_sub .nil s2_6_fresh) s2_5_fresh) s2_4_fresh) s2_3_fresh) s2_2_fresh) s2_1_fresh) s2_0_fresh)
abbrev items3 : List (List (HloOp τ sig (Elt F))) := [s3_0]
theorem items3_plain : Plain (items3 (F := F)) := (.cons s3_0_sub .nil s3_0_fresh)
abbrev items4 : List (List (HloOp τ sig (Elt F))) := [s4_0, s4_1, s4_2, s4_3, s4_4]
theorem items4_plain : Plain (items4 (F := F)) := (.cons s4_0_sub (.cons s4_1_sub (.cons s4_2_sub (.cons s4_3_sub (.cons s4_4_sub .nil s4_4_fresh) s4_3_fresh) s4_2_fresh) s4_1_fresh) s4_0_fresh)
theorem body0_plain : Plain ([b0] : List (List (HloOp τ sig (Elt F)))) := Plain.cons b0_sub .nil b0_fresh
theorem body1_plain : Plain ([b1] : List (List (HloOp τ sig (Elt F)))) := Plain.cons b1_sub .nil b1_fresh
theorem body2_plain : Plain ([b2] : List (List (HloOp τ sig (Elt F)))) := Plain.cons b2_sub .nil b2_fresh
theorem body3_plain : Plain ([b3] : List (List (HloOp τ sig (Elt F)))) := Plain.cons b3_sub .nil b3_fresh

end Cert.ReferenceIdeal.Hand

end
-- ==== Proof.RefRun.lean ====
/- The reference's run: `main` as stretches of host operations and four counted loops, what every buffer holds at each
   boundary, and that the run ends with the result at its final value, the arguments as they were and every counter zero. -/
module

public import proofs.«01_k».proof.Proof.RefOps
public import Idealize.ShloMosaic.Lib.Quiescent

@[expose] public section

set_option maxRecDepth 16384
set_option maxHeartbeats 4000000

noncomputable section

namespace Cert.ReferenceIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

local notation "𝕄" => MT nD τ sig Unit (Elt F) ℕ (Option PUnit) ℕ

variable (m : (ℓ : Loc nD τ sig) → Buf (Elt F) ℓ) (ρ : Dev nD → PrngReg)

/-! ## What the buffers hold at each boundary -/

/-- At launch. -/
abbrev X0 : Dev nD → Valuation τ sig (Elt F) := fun c b => m ((c : Dev nD), b)
/-- When loop 0 is entered; before its condition's `k`-th run; after the loop. -/
abbrev E0 : Dev nD → Valuation τ sig (Elt F) := fun c => afterL items0 (X0 m c)
abbrev K0 (k : ℕ) (c : Dev nD) : Valuation τ sig (Elt F) := atTrip c0 [b0] (E0 m) k c
abbrev Z0 : Dev nD → Valuation τ sig (Elt F) := fun c => after c0 (atTrip c0 [b0] (E0 m) 2048 c)
/-- When loop 1 is entered; before its condition's `k`-th run; after the loop. -/
abbrev E1 : Dev nD → Valuation τ sig (Elt F) := fun c => afterL items1 (Z0 m c)
abbrev K1 (k : ℕ) (c : Dev nD) : Valuation τ sig (Elt F) := atTrip c1 [b1] (E1 m) k c
abbrev Z1 : Dev nD → Valuation τ sig (Elt F) := fun c => after c1 (atTrip c1 [b1] (E1 m) 2047 c)
/-- When loop 2 is entered; before its condition's `k`-th run; after the loop. -/
abbrev E2 : Dev nD → Valuation τ sig (Elt F) := fun c => afterL items2 (Z1 m c)
abbrev K2 (k : ℕ) (c : Dev nD) : Valuation τ sig (Elt F) := atTrip c2 [b2] (E2 m) k c
abbrev Z2 : Dev nD → Valuation τ sig (Elt F) := fun c => after c2 (atTrip c2 [b2] (E2 m) 2048 c)
/-- When loop 3 is entered; before its condition's `k`-th run; after the loop. -/
abbrev E3 : Dev nD → Valuation τ sig (Elt F) := fun c => afterL items3 (Z2 m c)
abbrev K3 (k : ℕ) (c : Dev nD) : Valuation τ sig (Elt F) := atTrip c3 [b3] (E3 m) k c
abbrev Z3 : Dev nD → Valuation τ sig (Elt F) := fun c => after c3 (atTrip c3 [b3] (E3 m) 2047 c)
/-- At the end. -/
abbrev XF : Dev nD → Valuation τ sig (Elt F) := fun c => afterL items4 (Z3 m c)

/-! ## The arguments are never written -/

theorem items0_keep (V : Valuation τ sig (Elt F)) : ∀ a ∈ argRefs, afterL items0 V (Proc.devRef .tc a) = V (Proc.devRef .tc a) := fun a ha => by
  simp only [afterL_cons, afterL_nil]
  rw [after_of_writes_sub s0_10 _ s0_10_writes (s0_10_args a ha), after_of_writes_sub s0_9 _ s0_9_writes (s0_9_args a ha), after_of_writes_sub s0_8 _ s0_8_writes (s0_8_args a ha), after_of_writes_sub s0_7 _ s0_7_writes (s0_7_args a ha), after_of_writes_sub s0_6 _ s0_6_writes (s0_6_args a ha), after_of_writes_sub s0_5 _ s0_5_writes (s0_5_args a ha), after_of_writes_sub s0_4 _ s0_4_writes (s0_4_args a ha), after_of_writes_sub s0_3 _ s0_3_writes (s0_3_args a ha), after_of_writes_sub s0_2 _ s0_2_writes (s0_2_args a ha), after_of_writes_sub s0_1 _ s0_1_writes (s0_1_args a ha), after_of_writes_sub s0_0 _ s0_0_writes (s0_0_args a ha)]
theorem items1_keep (V : Valuation τ sig (Elt F)) : ∀ a ∈ argRefs, afterL items1 V (Proc.devRef .tc a) = V (Proc.devRef .tc a) := fun a ha => by
  simp only [afterL_cons, afterL_nil]
  rw [after_of_writes_sub s1_0 _ s1_0_writes (s1_0_args a ha)]
theorem items2_keep (V : Valuation τ sig (Elt F)) : ∀ a ∈ argRefs, afterL items2 V (Proc.devRef .tc a) = V (Proc.devRef .tc a) := fun a ha => by
  simp only [afterL_cons, afterL_nil]
  rw [after_of_writes_sub s2_6 _ s2_6_writes (s2_6_args a ha), after_of_writes_sub s2_5 _ s2_5_writes (s2_5_args a ha), after_of_writes_sub s2_4 _ s2_4_writes (s2_4_args a ha), after_of_writes_sub s2_3 _ s2_3_writes (s2_3_args a ha), after_of_writes_sub s2_2 _ s2_2_writes (s2_2_args a ha), after_of_writes_sub s2_1 _ s2_1_writes (s2_1_args a ha), after_of_writes_sub s2_0 _ s2_0_writes (s2_0_args a ha)]
theorem items3_keep (V : Valuation τ sig (Elt F)) : ∀ a ∈ argRefs, afterL items3 V (Proc.devRef .tc a) = V (Proc.devRef .tc a) := fun a ha => by
  simp only [afterL_cons, afterL_nil]
  rw [after_of_writes_sub s3_0 _ s3_0_writes (s3_0_args a ha)]
theorem items4_keep (V : Valuation τ sig (Elt F)) : ∀ a ∈ argRefs, afterL items4 V (Proc.devRef .tc a) = V (Proc.devRef .tc a) := fun a ha => by
  simp only [afterL_cons, afterL_nil]
  rw [after_of_writes_sub s4_4 _ s4_4_writes (s4_4_args a ha), after_of_writes_sub s4_3 _ s4_3_writes (s4_3_args a ha), after_of_writes_sub s4_2 _ s4_2_writes (s4_2_args a ha), after_of_writes_sub s4_1 _ s4_1_writes (s4_1_args a ha), after_of_writes_sub s4_0 _ s4_0_writes (s4_0_args a ha)]
theorem K0_args (c : Dev nD) : ∀ k, ∀ a ∈ argRefs, K0 m k c (Proc.devRef .tc a) = E0 m c (Proc.devRef .tc a)
  | 0 => fun _ _ => rfl
  | k + 1 => fun a ha => by
    rw [show K0 m (k + 1) c = afterL [b0] (after c0 (K0 m k c)) from rfl]
    simp only [afterL_cons, afterL_nil]
    rw [after_of_writes_sub b0 _ b0_writes (b0_args a ha), after_of_writes_sub c0 _ c0_writes (c0_args a ha)]
    exact K0_args c k a ha
theorem Z0_args (c : Dev nD) : ∀ a ∈ argRefs, Z0 m c (Proc.devRef .tc a) = m ((c : Thread nD τ).loc a) := fun a ha =>
  ((after_of_writes_sub c0 _ c0_writes (c0_args a ha)).trans (K0_args m c 2048 a ha)).trans
    ((items0_keep _ a ha).trans (rfl))
theorem K1_args (c : Dev nD) : ∀ k, ∀ a ∈ argRefs, K1 m k c (Proc.devRef .tc a) = E1 m c (Proc.devRef .tc a)
  | 0 => fun _ _ => rfl
  | k + 1 => fun a ha => by
    rw [show K1 m (k + 1) c = afterL [b1] (after c1 (K1 m k c)) from rfl]
    simp only [afterL_cons, afterL_nil]
    rw [after_of_writes_sub b1 _ b1_writes (b1_args a ha), after_of_writes_sub c1 _ c1_writes (c1_args a ha)]
    exact K1_args c k a ha
theorem Z1_args (c : Dev nD) : ∀ a ∈ argRefs, Z1 m c (Proc.devRef .tc a) = m ((c : Thread nD τ).loc a) := fun a ha =>
  ((after_of_writes_sub c1 _ c1_writes (c1_args a ha)).trans (K1_args m c 2047 a ha)).trans
    ((items1_keep _ a ha).trans (Z0_args m c a ha))
theorem K2_args (c : Dev nD) : ∀ k, ∀ a ∈ argRefs, K2 m k c (Proc.devRef .tc a) = E2 m c (Proc.devRef .tc a)
  | 0 => fun _ _ => rfl
  | k + 1 => fun a ha => by
    rw [show K2 m (k + 1) c = afterL [b2] (after c2 (K2 m k c)) from rfl]
    simp only [afterL_cons, afterL_nil]
    rw [after_of_writes_sub b2 _ b2_writes (b2_args a ha), after_of_writes_sub c2 _ c2_writes (c2_args a ha)]
    exact K2_args c k a ha
theorem Z2_args (c : Dev nD) : ∀ a ∈ argRefs, Z2 m c (Proc.devRef .tc a) = m ((c : Thread nD τ).loc a) := fun a ha =>
  ((after_of_writes_sub c2 _ c2_writes (c2_args a ha)).trans (K2_args m c 2048 a ha)).trans
    ((items2_keep _ a ha).trans (Z1_args m c a ha))
theorem K3_args (c : Dev nD) : ∀ k, ∀ a ∈ argRefs, K3 m k c (Proc.devRef .tc a) = E3 m c (Proc.devRef .tc a)
  | 0 => fun _ _ => rfl
  | k + 1 => fun a ha => by
    rw [show K3 m (k + 1) c = afterL [b3] (after c3 (K3 m k c)) from rfl]
    simp only [afterL_cons, afterL_nil]
    rw [after_of_writes_sub b3 _ b3_writes (b3_args a ha), after_of_writes_sub c3 _ c3_writes (c3_args a ha)]
    exact K3_args c k a ha
theorem Z3_args (c : Dev nD) : ∀ a ∈ argRefs, Z3 m c (Proc.devRef .tc a) = m ((c : Thread nD τ).loc a) := fun a ha =>
  ((after_of_writes_sub c3 _ c3_writes (c3_args a ha)).trans (K3_args m c 2047 a ha)).trans
    ((items3_keep _ a ha).trans (Z2_args m c a ha))
theorem XF_args (c : Dev nD) : ∀ a ∈ argRefs, XF m c (Proc.devRef .tc a) = m ((c : Thread nD τ).loc a) := fun a ha =>
  (items4_keep _ a ha).trans (Z3_args m c a ha)

/-! ## The four counters and conditions -/

theorem ctr0_cond (V : Valuation τ sig (Elt F)) : after c0 V (Proc.devRef .tc main_v79_2) = V (Proc.devRef .tc main_v79_2) :=
  after_of_writes_sub c0 V c0_writes (by decide)
theorem ctr0_step (X : Valuation τ sig (Elt F)) :
    after b0 X (Proc.devRef .tc main_v79_2) = addi (X (Proc.devRef .tc main_v79_2)) (constantI S_ 32 1#32) := by
  after_results
  rfl
theorem ctr0_last (X : Valuation τ sig (Elt F)) : after s0_10 X (Proc.devRef .tc main_v79_2) = fun _ => (0#32 : BitVec 32) := by
  after_results
  rfl
theorem ctr0_entry (c : Dev nD) : E0 m c (Proc.devRef .tc main_v79_2) = fun _ => (0#32 : BitVec 32) := by
  simp only [E0, afterL_cons, afterL_nil]
  exact ctr0_last _
theorem K0_ctr (c : Dev nD) : ∀ k, K0 m k c (Proc.devRef .tc main_v79_2) = fun _ => Scf.iv 0#32 1#32 k
  | 0 => by rw [show K0 m 0 c = E0 m c from rfl, ctr0_entry, Scf.iv_zero]
  | k + 1 => by
    rw [show K0 m (k + 1) c = afterL [b0] (after c0 (K0 m k c)) from rfl]
    simp only [afterL_cons, afterL_nil]
    rw [ctr0_step, ctr0_cond, K0_ctr c k, Scf.iv_succ]
    rfl

set_option backward.isDefEq.respectTransparency.types false in
/-- Loop 0's condition at the `k`-th run says whether a trip is left. -/
theorem spec0 (R : Dev nD → sProp 𝕄) : LoopCond (pcfgs (F := F)) defs₀ Variants.none loops R (main_while0_cond (F := F)) c0 [b0] (E0 m) 2048 := by
  intro k hk c bd
  have hctr := K0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K0 m k c) main_v79_2 HostLoop.idx0)
        (HloOp.result _ (K0 m k c) main_while0c_c_22 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

theorem ctr1_cond (V : Valuation τ sig (Elt F)) : after c1 V (Proc.devRef .tc main_v86_2) = V (Proc.devRef .tc main_v86_2) :=
  after_of_writes_sub c1 V c1_writes (by decide)
theorem ctr1_step (X : Valuation τ sig (Elt F)) :
    after b1 X (Proc.devRef .tc main_v86_2) = addi (X (Proc.devRef .tc main_v86_2)) (constantI S_ 32 1#32) := by
  after_results
  rfl
theorem ctr1_last (X : Valuation τ sig (Elt F)) : after s1_0 X (Proc.devRef .tc main_v86_2) = fun _ => (0#32 : BitVec 32) := by
  after_results
  rfl
theorem ctr1_entry (c : Dev nD) : E1 m c (Proc.devRef .tc main_v86_2) = fun _ => (0#32 : BitVec 32) := by
  simp only [E1, afterL_cons, afterL_nil]
  exact ctr1_last _
theorem K1_ctr (c : Dev nD) : ∀ k, K1 m k c (Proc.devRef .tc main_v86_2) = fun _ => Scf.iv 0#32 1#32 k
  | 0 => by rw [show K1 m 0 c = E1 m c from rfl, ctr1_entry, Scf.iv_zero]
  | k + 1 => by
    rw [show K1 m (k + 1) c = afterL [b1] (after c1 (K1 m k c)) from rfl]
    simp only [afterL_cons, afterL_nil]
    rw [ctr1_step, ctr1_cond, K1_ctr c k, Scf.iv_succ]
    rfl

set_option backward.isDefEq.respectTransparency.types false in
/-- Loop 1's condition at the `k`-th run says whether a trip is left. -/
theorem spec1 (R : Dev nD → sProp 𝕄) : LoopCond (pcfgs (F := F)) defs₀ Variants.none loops R (main_while1_cond (F := F)) c1 [b1] (E1 m) 2047 := by
  intro k hk c bd
  have hctr := K1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K1 m k c) main_v86_2 HostLoop.idx0)
        (HloOp.result _ (K1 m k c) main_while1c_c_22 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  isplitl [Hh]; · rw [after_cons, after_cons, after_nil]; iexact Hh
  iexact HR

theorem ctr2_cond (V : Valuation τ sig (Elt F)) : after c2 V (Proc.devRef .tc main_v98_2) = V (Proc.devRef .tc main_v98_2) :=
  after_of_writes_sub c2 V c2_writes (by decide)
theorem ctr2_step (X : Valuation τ sig (Elt F)) :
    after b2 X (Proc.devRef .tc main_v98_2) = addi (X (Proc.devRef .tc main_v98_2)) (constantI S_ 32 1#32) := by
  after_results
  rfl
theorem ctr2_last (X : Valuation τ sig (Elt F)) : after s2_6 X (Proc.devRef .tc main_v98_2) = fun _ => (0#32 : BitVec 32) := by
  after_results
  rfl
theorem ctr2_entry (c : Dev nD) : E2 m c (Proc.devRef .tc main_v98_2) = fun _ => (0#32 : BitVec 32) := by
  simp only [E2, afterL_cons, afterL_nil]
  exact ctr2_last _
theorem K2_ctr (c : Dev nD) : ∀ k, K2 m k c (Proc.devRef .tc main_v98_2) = fun _ => Scf.iv 0#32 1#32 k
  | 0 => by rw [show K2 m 0 c = E2 m c from rfl, ctr2_entry, Scf.iv_zero]
  | k + 1 => by
    rw [show K2 m (k + 1) c = afterL [b2] (after c2 (K2 m k c)) from rfl]
    simp only [afterL_cons, afterL_nil]
    rw [ctr2_step, ctr2_cond, K2_ctr c k, Scf.iv_succ]
    rfl

set_option backward.isDefEq.respectTransparency.types false in
/-- Loop 2's condition at the `k`-th run says whether a trip is left. -/
theorem spec2 (R : Dev nD → sProp 𝕄) : LoopCond (pcfgs (F := F)) defs₀ Variants.none loops R (main_while2_cond (F := F)) c2 [b2] (E2 m) 2048 := by
  intro k hk c bd
  have hctr := K2_ctr m c k
  unfold main_while2_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K2 m k c) main_v98_2 HostLoop.idx0)
        (HloOp.result _ (K2 m k c) main_while2c_c_22 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

theorem ctr3_cond (V : Valuation τ sig (Elt F)) : after c3 V (Proc.devRef .tc main_v105_2) = V (Proc.devRef .tc main_v105_2) :=
  after_of_writes_sub c3 V c3_writes (by decide)
theorem ctr3_step (X : Valuation τ sig (Elt F)) :
    after b3 X (Proc.devRef .tc main_v105_2) = addi (X (Proc.devRef .tc main_v105_2)) (constantI S_ 32 1#32) := by
  after_results
  rfl
theorem ctr3_last (X : Valuation τ sig (Elt F)) : after s3_0 X (Proc.devRef .tc main_v105_2) = fun _ => (0#32 : BitVec 32) := by
  after_results
  rfl
theorem ctr3_entry (c : Dev nD) : E3 m c (Proc.devRef .tc main_v105_2) = fun _ => (0#32 : BitVec 32) := by
  simp only [E3, afterL_cons, afterL_nil]
  exact ctr3_last _
theorem K3_ctr (c : Dev nD) : ∀ k, K3 m k c (Proc.devRef .tc main_v105_2) = fun _ => Scf.iv 0#32 1#32 k
  | 0 => by rw [show K3 m 0 c = E3 m c from rfl, ctr3_entry, Scf.iv_zero]
  | k + 1 => by
    rw [show K3 m (k + 1) c = afterL [b3] (after c3 (K3 m k c)) from rfl]
    simp only [afterL_cons, afterL_nil]
    rw [ctr3_step, ctr3_cond, K3_ctr c k, Scf.iv_succ]
    rfl

set_option backward.isDefEq.respectTransparency.types false in
/-- Loop 3's condition at the `k`-th run says whether a trip is left. -/
theorem spec3 (R : Dev nD → sProp 𝕄) : LoopCond (pcfgs (F := F)) defs₀ Variants.none loops R (main_while3_cond (F := F)) c3 [b3] (E3 m) 2047 := by
  intro k hk c bd
  have hctr := K3_ctr m c k
  unfold main_while3_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (K3 m k c) main_v105_2 HostLoop.idx0)
        (HloOp.result _ (K3 m k c) main_while3c_c_22 HostLoop.idx0) = 1#1) (k < 2047)
    rw [nullary_result_ne _ _ _ _ (by decide), nullary_result, hctr]
    exact Scf.cmpi_slt_iv_ub_iff (lb := 0#32) (ub := 2047#32) (st := 1#32) (by decide) (show k ≤ Scf.trips 0#32 2047#32 1#32 from hk)
  isplitl [Hb]; · iexact Hb
  isplitl [Hh]; · rw [after_cons, after_cons, after_nil]; iexact Hh
  iexact HR

/-! ## The segments and the run -/

/-- There is no kernel launch, so nothing is staged. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev lev : GSem nD τ sig → Finset Unit := fun _ => ∅
abbrev lvl : GSem nD τ sig → Unit → ℕ := fun _ _ => 0
theorem cells_inj : Function.Injective (Pipeline.cellOf (nD := nD) (τ := τ) (Pipeline.pin (pcfgs (F := F)) adm)) := fun k => k.1.elim0

/-- What a core carries beside its buffers: it owes nothing. -/
abbrev Owes (c : Dev nD) : sProp 𝕄 := iprop(∃ W, owes (c : Thread nD τ) (0 : CellTallies nD τ sig Unit) W)

abbrev KSeg : Type 1 := CSeg (pcfgs (F := F)) adm defs₀ Variants.none lev lvl loops tk

abbrev line0 : List (KSeg (F := F)) := segsOf _ _ _ _ _ _ _ _ Owes items0 items0_plain (X0 m)
abbrev line1 : List (KSeg (F := F)) := segsOf _ _ _ _ _ _ _ _ Owes items1 items1_plain (Z0 m)
abbrev line2 : List (KSeg (F := F)) := segsOf _ _ _ _ _ _ _ _ Owes items2 items2_plain (Z1 m)
abbrev line3 : List (KSeg (F := F)) := segsOf _ _ _ _ _ _ _ _ Owes items3 items3_plain (Z2 m)
abbrev line4 : List (KSeg (F := F)) := segsOf _ _ _ _ _ _ _ _ Owes items4 items4_plain (Z3 m)
theorem body0_chain : main_while0_body (F := F) = Pipeline.chain ([b0].map fun ops => (seq ops : Prog _ PUnit)) := by chain_rfl
abbrev loop0 : KSeg (F := F) :=
  loopSeg _ _ _ _ _ _ _ _ 0 (main_while0_cond (F := F)) (main_while0_body (F := F)) rfl c0 [b0] body0_plain body0_chain 2048 (E0 m) Owes (spec0 m Owes)
theorem body1_chain : main_while1_body (F := F) = Pipeline.chain ([b1].map fun ops => (seq ops : Prog _ PUnit)) := by chain_rfl
abbrev loop1 : KSeg (F := F) :=
  loopSeg _ _ _ _ _ _ _ _ 1 (main_while1_cond (F := F)) (main_while1_body (F := F)) rfl c1 [b1] body1_plain body1_chain 2047 (E1 m) Owes (spec1 m Owes)
theorem body2_chain : main_while2_body (F := F) = Pipeline.chain ([b2].map fun ops => (seq ops : Prog _ PUnit)) := by chain_rfl
abbrev loop2 : KSeg (F := F) :=
  loopSeg _ _ _ _ _ _ _ _ 2 (main_while2_cond (F := F)) (main_while2_body (F := F)) rfl c2 [b2] body2_plain body2_chain 2048 (E2 m) Owes (spec2 m Owes)
theorem body3_chain : main_while3_body (F := F) = Pipeline.chain ([b3].map fun ops => (seq ops : Prog _ PUnit)) := by chain_rfl
abbrev loop3 : KSeg (F := F) :=
  loopSeg _ _ _ _ _ _ _ _ 3 (main_while3_cond (F := F)) (main_while3_body (F := F)) rfl c3 [b3] body3_plain body3_chain 2047 (E3 m) Owes (spec3 m Owes)
abbrev segs : List (KSeg (F := F)) :=
  line0 m ++ loop0 m :: (line1 m ++ loop1 m :: (line2 m ++ loop2 m :: (line3 m ++ loop3 m :: line4 m)))

/-- `main` runs the segments in order. -/
theorem main_run (c : Dev nD) : main (F := F) c = CSeg.runL (segs m) := by
  unfold CSeg.runL
  simp only [segs, List.map_append, List.map_cons]
  simp only [segsOf_prog]
  show main (F := F) c = Pipeline.chain ((items0.map fun ops => (seq ops : Prog _ PUnit)) ++ HostLoop.enter 0 ::
    ((items1.map fun ops => (seq ops : Prog _ PUnit)) ++ HostLoop.enter 1 :: ((items2.map fun ops => (seq ops : Prog _ PUnit)) ++ HostLoop.enter 2 ::
    ((items3.map fun ops => (seq ops : Prog _ PUnit)) ++ HostLoop.enter 3 :: (items4.map fun ops => (seq ops : Prog _ PUnit))))))
  chain_rfl

/-- The buffers at `V`, nothing owed. -/
abbrev At (V : Dev nD → Valuation τ sig (Elt F)) (c : Dev nD) : sProp 𝕄 := iprop(held (c : Thread nD τ) (ucRefs τ sig) (V c) ∗ Owes c)

theorem segs_chain : CSeg.Chains (At (X0 m)) (segs m) (At (XF m)) :=
  CSeg.Chains.append (segsOf_chains _ _ _ _ _ _ _ _ Owes items0 items0_plain _) ⟨fun _ => .rfl,
    CSeg.Chains.append (segsOf_chains _ _ _ _ _ _ _ _ Owes items1 items1_plain _) ⟨fun _ => .rfl,
      CSeg.Chains.append (segsOf_chains _ _ _ _ _ _ _ _ Owes items2 items2_plain _) ⟨fun _ => .rfl,
        CSeg.Chains.append (segsOf_chains _ _ _ _ _ _ _ _ Owes items3 items3_plain _) ⟨fun _ => .rfl,
          segsOf_chains _ _ _ _ _ _ _ _ Owes items4 items4_plain _⟩⟩⟩⟩

theorem argRefs_unscoped : ∀ a ∈ argRefs, (Proc.devRef .tc a : DevRef τ sig).isScoped = false := by decide

/-- The run, from any memory with zero counters: the result at its final value, the arguments as they were, every counter zero. -/
theorem run : θ_run defs (onTc (τ := τ) (main (F := F))) ⟨m, fun _ => 0, ρ⟩
    (fun r => (∀ c : Dev nD, r.2.mem ((c.tc : Thread nD τ).loc main_v132) = XF m c (Proc.devRef .tc main_v132)
        ∧ ∀ a ∈ argRefs, r.2.mem ((c.tc : Thread nD τ).loc a) = m ((c.tc : Thread nD τ).loc a))
      ∧ r.2.sem = fun _ => 0) :=
  Pipeline.θ_run_regions_loop_kit (Ix := Unit) (Name := ℕ) (U := Option PUnit) (Lvl := ℕ) (J := Fin 0) (P := Fin 0) (Val := Elt F)
    (pcfgs (F := F)) adm cells_inj defs₀ Variants.none lev lvl loops tk m ρ main (segs m)
    (fun c Q => by rw [main_run m c])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := At (X0 m))
    (Tₙ := fun c => iprop(held (c : Thread nD τ) (ucRefs τ sig) (XF m c)))
    (hch := segs_chain m)
    (hinit := by
      refine Pipeline.initEach lev lvl fun c => ?_
      rw [show unscopedBufs c (fun b => m ((c : Thread nD τ).loc b)) = held (c : Thread nD τ) (ucRefs τ sig) (X0 m c) from Pipeline.unscopedBufs_held c (X0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = XF m c b)
    (hfin := fun c s' => by
      unfold held
      iintro ⟨Hh, HSI⟩
      ihave Hr := (pointsTo_read_all (ucRefs τ sig) (fun b => ((c : Dev nD), b)) (fun b => XF m c b) s') $$ [Hh HSI]
      · isplitl [Hh] <;> iassumption
      icases Hr with ⟨%h, HSI⟩
      imodintro
      isplitr; · ipureintro; exact h
      iexact HSI)
    (hQ := fun s h => ⟨fun c => ⟨h c _ (devRef_mem_ucRefs main_v132 rfl),
      fun a ha => (h c _ (devRef_mem_ucRefs a (argRefs_unscoped a ha))).trans (XF_args m c a ha)⟩,
      sem_eq_zero_of_no_sems rfl s⟩)

end Cert.ReferenceIdeal.Hand

end
-- ==== Proof.Spec.lean ====
/- The block's mathematics over the extended reals: the shared projections, the kernel's reading of the two scans and
   the reference's, and the equality of the two readings where the projections are finite. -/
module

public import Idealize.ShloMosaic.PureOps.Ideal
public import Mathlib.Data.EReal.Operations
public import Mathlib.Tactic.Ring

@[expose] public section

noncomputable section

namespace Cert.Hand

open Idealize.ShloMosaic
open scoped BigOperators

/-- The arguments, rows numbered by naturals. -/
structure In where
  X : ℕ → Fin 768 → EReal
  Wi : Fin 768 → Fin 3072 → EReal
  cw : Fin 1536 → Fin 4 → EReal
  cb : Fin 1536 → EReal
  Wx : Fin 1536 → Fin 80 → EReal
  Wd : Fin 48 → Fin 1536 → EReal
  bd : Fin 1536 → EReal
  Al : Fin 1536 → Fin 16 → EReal
  D : Fin 1536 → EReal
  Wo : Fin 1536 → Fin 768 → EReal

/-- The logistic function, and x times it. -/
def sg (x : EReal) : EReal := Ideal.div 1 (1 + Ideal.exp (-x))
def silu (x : EReal) : EReal := x * sg x
/-- Softplus. -/
def sp (x : EReal) : EReal := max x 0 + Ideal.log1p (Ideal.exp (-(max x (-x))))

/-- Channel `d` of the first half, and of the gate half, among the 3072 columns. -/
def lo (d : Fin 1536) : Fin 3072 := ⟨d.val, by omega⟩
def hi (d : Fin 1536) : Fin 3072 := ⟨1536 + d.val, by omega⟩
/-- Column `n` of the B part and of the C part, and column `r` of the step-size part, among the 80 columns. -/
def cB (n : Fin 16) : Fin 80 := ⟨48 + n.val, by omega⟩
def cC (n : Fin 16) : Fin 80 := ⟨64 + n.val, by omega⟩
def cT (r : Fin 48) : Fin 80 := ⟨r.val, by omega⟩

namespace In
variable (I : In)

def p (l : ℕ) (j : Fin 3072) : EReal := ∑ k : Fin 768, I.X l k * I.Wi k j
/-- The first half with three rows of zeros in front. -/
def xs (i : ℕ) (d : Fin 1536) : EReal := if i < 3 then 0 else I.p (i - 3) (lo d)
def cv (l : ℕ) (d : Fin 1536) : EReal :=
  I.cb d + I.cw d 0 * I.xs l d + I.cw d 1 * I.xs (l + 1) d + I.cw d 2 * I.xs (l + 2) d + I.cw d 3 * I.xs (l + 3) d
def h (l : ℕ) (d : Fin 1536) : EReal := silu (I.cv l d)
def g (l : ℕ) (d : Fin 1536) : EReal := silu (I.p l (hi d))
def sm (l : ℕ) (j : Fin 80) : EReal := ∑ d : Fin 1536, I.h l d * I.Wx d j
def dt (l : ℕ) (d : Fin 1536) : EReal := sp ((∑ r : Fin 48, I.sm l (cT r) * I.Wd r d) + I.bd d)
def B (l : ℕ) (n : Fin 16) : EReal := I.sm l (cB n)
def C (l : ℕ) (n : Fin 16) : EReal := I.sm l (cC n)
def A (n : Fin 16) (d : Fin 1536) : EReal := -(Ideal.exp (I.Al d n))
def w (l : ℕ) (n : Fin 16) (d : Fin 1536) : EReal := Ideal.exp (I.A n d * I.dt l d)
def u (l : ℕ) (d : Fin 1536) : EReal := I.dt l d * I.h l d
def f (l : ℕ) (n : Fin 16) (d : Fin 1536) : EReal := I.B l n * I.u l d

/-- The kernel's forward state before row `l`, and its backward state after `k` rows from the end. -/
def S : ℕ → Fin 16 → Fin 1536 → EReal
  | 0, _, _ => 0
  | l + 1, n, d => I.w l n d * S l n d + I.f l n d
def T : ℕ → Fin 16 → Fin 1536 → EReal
  | 0, _, _ => 0
  | k + 1, n, d => I.w (2047 - k) n d * (I.f (2047 - k) n d + T k n d)
def xb (l : ℕ) (n : Fin 16) (d : Fin 1536) : EReal := I.f l n d + I.T (2047 - l) n d

def yK (l : ℕ) (d : Fin 1536) : EReal :=
  (((21810381 / 16777216 : ℝ) : EReal) * ((∑ n : Fin 16, I.S (l + 1) n d * I.C l n) + (∑ n : Fin 16, I.xb l n d * I.C l n)
    - (∑ n : Fin 16, I.B l n * I.C l n) * I.u l d) + I.h l d * I.D d) * I.g l d
def outK (l : ℕ) (e : Fin 768) : EReal := ∑ d : Fin 1536, I.yK l d * I.Wo d e

/-- The reference's two scans: over the rows from the end, and over the rows from the start. -/
def R0 : ℕ → Fin 16 → Fin 1536 → EReal
  | 0, _, _ => 0
  | k + 1, n, d => I.w (if k = 0 then 0 else 2048 - k) n d * R0 k n d + I.f (2047 - k) n d
def R1 : ℕ → Fin 16 → Fin 1536 → EReal
  | 0, _, _ => 0
  | k + 1, n, d => I.w (k + 1) n d * (I.f k n d + R1 k n d)

def yR (l : ℕ) (d : Fin 1536) : EReal :=
  ((∑ n : Fin 16, ((I.R0 (2048 - l) n d + I.R1 l n d) * ((10066330 / 33554432 : ℝ) : EReal) + (I.R0 (2048 - l) n d + I.R1 l n d)) * I.C l n)
    + I.h l d * I.D d) * I.g l d
def outR (l : ℕ) (e : Fin 768) : EReal := ∑ d : Fin 1536, I.yR l d * I.Wo d e

theorem R0_eq (n : Fin 16) (d : Fin 1536) : ∀ k < 2048, I.R0 (k + 1) n d = I.xb (2047 - k) n d
  | 0, _ => by simp [R0, xb, T]
  | k + 1, hk => by
    have ih := R0_eq n d k (by omega)
    have e1 : 2047 - (2047 - (k + 1)) = k + 1 := by omega
    have e2 : 2047 - (2047 - k) = k := by omega
    have e3 : 2048 - (k + 1) = 2047 - k := by omega
    rw [R0, ih, if_neg (Nat.succ_ne_zero k), e3]
    simp only [xb, e1, e2, T]
    rw [add_comm]
theorem R1_eq (n : Fin 16) (d : Fin 1536) : ∀ k, I.R1 k n d = I.w k n d * I.S k n d
  | 0 => by simp [R1, S]
  | k + 1 => by rw [R1, R1_eq n d k, S, add_comm (I.f k n d)]

/-! ## Finite values -/

/-- A finite extended real. -/
def _root_.Cert.Hand.Re (x : EReal) : Prop := ∃ r : ℝ, x = (r : EReal)

end In

theorem Re.zero : Re 0 := ⟨0, rfl⟩
theorem Re.add {x y : EReal} : Re x → Re y → Re (x + y)
  | ⟨a, ha⟩, ⟨b, hb⟩ => ⟨a + b, by rw [ha, hb, EReal.coe_add]⟩
theorem Re.mul {x y : EReal} : Re x → Re y → Re (x * y)
  | ⟨a, ha⟩, ⟨b, hb⟩ => ⟨a * b, by rw [ha, hb, EReal.coe_mul]⟩
theorem Re.sum {ι : Type} [Fintype ι] {x : ι → EReal} (h : ∀ i, Re (x i)) : Re (∑ i, x i) :=
  Finset.sum_induction x Re (fun _ _ => Re.add) Re.zero fun i _ => h i
theorem coe_sum {ι : Type} [Fintype ι] (x : ι → ℝ) : ((∑ i, x i : ℝ) : EReal) = ∑ i, ((x i : ℝ) : EReal) :=
  map_sum (⟨⟨Real.toEReal, rfl⟩, EReal.coe_add⟩ : ℝ →+ EReal) x Finset.univ
theorem exp_coe (r : ℝ) : Ideal.exp (r : EReal) = ((Real.exp r : ℝ) : EReal) := rfl
theorem sg_coe (r : ℝ) : Re (sg r) := by
  refine ⟨(1 + Real.exp (-r))⁻¹, ?_⟩
  have hp : (0 : ℝ) < 1 + Real.exp (-r) := by positivity
  have e : (1 : EReal) + Ideal.exp (-(r : EReal)) = ((1 + Real.exp (-r) : ℝ) : EReal) := by
    rw [← EReal.coe_neg, exp_coe, EReal.coe_add]; rfl
  unfold sg Ideal.div
  rw [e, if_neg (by exact_mod_cast hp.ne'), one_mul, EReal.coe_inv]
theorem silu_re {x : EReal} : Re x → Re (silu x)
  | ⟨r, hr⟩ => by subst hr; exact Re.mul ⟨r, rfl⟩ (sg_coe r)
/-- Softplus of a real is a nonnegative real. -/
theorem sp_coe (r : ℝ) : ∃ s : ℝ, 0 ≤ s ∧ sp r = (s : EReal) := by
  refine ⟨max r 0 + Real.log (1 + Real.exp (-(max r (-r)))), ?_, ?_⟩
  · have : (0 : ℝ) ≤ Real.log (1 + Real.exp (-(max r (-r)))) := Real.log_nonneg (by have := Real.exp_pos (-(max r (-r))); linarith)
    have := le_max_right r 0; linarith
  · have hp : (0 : ℝ) < 1 + Real.exp (-(max r (-r))) := by positivity
    have e0 : max (r : EReal) (-(r : EReal)) = ((max r (-r) : ℝ) : EReal) := by
      rw [← EReal.coe_neg]; exact (EReal.coe_strictMono.monotone.map_max).symm
    have e1 : max (r : EReal) 0 = ((max r 0 : ℝ) : EReal) := (EReal.coe_strictMono.monotone.map_max (a := r) (b := 0)).symm
    have e : (1 : EReal) + ((Real.exp (-(max r (-r))) : ℝ) : EReal) = ((1 + Real.exp (-(max r (-r))) : ℝ) : EReal) := by
      rw [EReal.coe_add]; rfl
    unfold sp Ideal.log1p
    rw [e0, e1, ← EReal.coe_neg, exp_coe, e, EReal.coe_add]
    exact congrArg _ (if_neg (not_le.2 hp))
/-- The exponential of a number at most zero is a real. -/
theorem exp_re {x : EReal} (h : x ≤ 0) : Re (Ideal.exp x) := by
  induction x using EReal.rec with
  | bot => exact Re.zero
  | coe r => exact ⟨_, rfl⟩
  | top => exact absurd h (by simp)
theorem exp_nonneg (x : EReal) : 0 ≤ Ideal.exp x := by
  induction x using EReal.rec with
  | bot => exact le_refl _
  | coe r => exact EReal.coe_nonneg.2 (Real.exp_pos r).le
  | top => exact le_top

namespace In
variable (I : In)

/-- The arguments that feed the projections are finite. -/
structure Ok : Prop where
  X : ∀ l k, Re (I.X l k)
  Wi : ∀ k j, Re (I.Wi k j)
  cw : ∀ d k, Re (I.cw d k)
  cb : ∀ d, Re (I.cb d)
  Wx : ∀ d j, Re (I.Wx d j)
  Wd : ∀ r d, Re (I.Wd r d)
  bd : ∀ d, Re (I.bd d)

variable {I} (F : I.Ok)
include F

theorem p_re (l j) : Re (I.p l j) := Re.sum fun k => (F.X l k).mul (F.Wi k j)
theorem xs_re (i d) : Re (I.xs i d) := by unfold xs; split; exacts [Re.zero, p_re F _ _]
theorem cv_re (l d) : Re (I.cv l d) :=
  ((((F.cb d).add ((F.cw d 0).mul (xs_re F _ _))).add ((F.cw d 1).mul (xs_re F _ _))).add ((F.cw d 2).mul (xs_re F _ _))).add
    ((F.cw d 3).mul (xs_re F _ _))
theorem h_re (l d) : Re (I.h l d) := silu_re (cv_re F l d)
theorem sm_re (l j) : Re (I.sm l j) := Re.sum fun d => (h_re F l d).mul (F.Wx d j)
theorem dt_re (l d) : ∃ s : ℝ, 0 ≤ s ∧ I.dt l d = (s : EReal) := by
  obtain ⟨r, hr⟩ := (Re.sum fun r => (sm_re F l (cT r)).mul (F.Wd r d)).add (F.bd d)
  unfold dt; rw [hr]; exact sp_coe r
theorem u_re (l d) : Re (I.u l d) := by
  obtain ⟨s, -, hs⟩ := dt_re F l d
  exact Re.mul ⟨s, hs⟩ (h_re F l d)
theorem f_re (l n d) : Re (I.f l n d) := (sm_re F l (cB n)).mul (u_re F l d)
theorem w_re (l n d) : Re (I.w l n d) := by
  obtain ⟨s, h0, hs⟩ := dt_re F l d
  refine exp_re ?_
  rw [hs, A, EReal.neg_mul, EReal.neg_le_zero]
  exact mul_nonneg (exp_nonneg _) (EReal.coe_nonneg.2 h0)
theorem S_re (n d) : ∀ l, Re (I.S l n d)
  | 0 => Re.zero
  | l + 1 => ((w_re F l n d).mul (S_re n d l)).add (f_re F l n d)
theorem T_re (n d) : ∀ k, Re (I.T k n d)
  | 0 => Re.zero
  | k + 1 => (w_re F _ n d).mul ((f_re F _ n d).add (T_re n d k))

/-- The two readings agree. -/
theorem yK_eq (l : ℕ) (hl : l < 2048) (d : Fin 1536) : I.yK l d = I.yR l d := by
  have e0 : ∀ n, I.R0 (2048 - l) n d = I.xb l n d := fun n => by
    have := I.R0_eq n d (2047 - l) (by omega)
    rwa [show 2047 - l + 1 = 2048 - l by omega, show 2047 - (2047 - l) = l by omega] at this
  obtain ⟨u, hu⟩ := u_re F l d
  choose b hb using fun n => sm_re F l (cB n)
  choose c hc using fun n => sm_re F l (cC n)
  choose x hx using fun n => (f_re F l n d).add (T_re F n d (2047 - l))
  choose r hr using fun n => (w_re F l n d).mul (S_re F n d l)
  have eS : ∀ n, I.S (l + 1) n d = ((r n + b n * u : ℝ) : EReal) := fun n => by
    rw [S, hr, f, B, hb, hu, EReal.coe_add, EReal.coe_mul]
  have key : (((21810381 / 16777216 : ℝ) : EReal) * ((∑ n : Fin 16, I.S (l + 1) n d * I.C l n) + (∑ n : Fin 16, I.xb l n d * I.C l n)
      - (∑ n : Fin 16, I.B l n * I.C l n) * I.u l d))
      = ∑ n : Fin 16, ((I.R0 (2048 - l) n d + I.R1 l n d) * ((10066330 / 33554432 : ℝ) : EReal) + (I.R0 (2048 - l) n d + I.R1 l n d)) * I.C l n := by
    simp only [e0, R1_eq, eS, hr, xb, hx, B, C, hb, hc, hu, ← EReal.coe_add, ← EReal.coe_mul, ← coe_sum, ← EReal.coe_sub]
    refine congrArg Real.toEReal ?_
    rw [Finset.sum_mul, ← Finset.sum_add_distrib, ← Finset.sum_sub_distrib, Finset.mul_sum]
    exact Finset.sum_congr rfl fun n _ => by ring
  unfold yK yR
  rw [key]

theorem outK_eq (l : ℕ) (hl : l < 2048) (e : Fin 768) : I.outK l e = I.outR l e :=
  Finset.sum_congr rfl fun d _ => by rw [yK_eq F l hl d]

end In

end Cert.Hand

end
-- ==== Proof.KernelIdealPt.lean ====
/- What one block of each of the ideal kernel's two regions computes, at an index, in terms of the mathematics. -/
module

public import proofs.«01_k».proof.Proof.KernelIdealFwdFn
public import proofs.«01_k».proof.Proof.KernelIdealBwdFn
public import proofs.«01_k».proof.Proof.Spec
public import Idealize.ShloMosaic.Lib.Pointwise
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Cert.KernelIdeal.Gen Cert.Hand

theorem pay7_at (x0 : Vec Ideal S256x768 .f32) (x1 : Vec Ideal S768x3072 .f32) (r : Fin 256) (j : Fin 3072) :
    k0_pay7 x0 x1 (ix2 r j) = ∑ k : Fin 768, x0 (ix2 r k) * x1 (ix2 k j) := by
  unfold k0_pay7
  pointwise
theorem pay8_at (x0 : Vec Ideal S256x768 .f32) (x1 : Vec Ideal S768x3072 .f32) (r : Fin 256) (d : Fin 1536) :
    k0_pay8 x0 x1 (ix2 r d) = k0_pay7 x0 x1 (ix2 r (lo d)) := by
  unfold k0_pay8
  pointwise
  rfl
theorem pay9_at (x0 : Vec Ideal S256x768 .f32) (x1 : Vec Ideal S768x3072 .f32) (r : Fin 256) (d : Fin 1536) :
    k0_pay9 x0 x1 (ix2 r d) = k0_pay7 x0 x1 (ix2 r (hi d)) := by
  unfold k0_pay9
  pointwise
  rfl
theorem pay10_at (i : Fin 3) (d : Fin 1536) : k0_pay10 (F := Ideal) (ix2 i d) = 0 := by
  unfold k0_pay10
  pointwise
theorem pay11_at (n : Fin 16) (d : Fin 1536) : k0_pay11 (F := Ideal) (ix2 n d) = 0 := by
  unfold k0_pay11
  pointwise
theorem pay12_at (x0 : Vec Ideal S256x768 .f32) (x1 : Vec Ideal S768x3072 .f32) (cr : Vec Ideal S3x1536 .f32) (b t0 t1 t2 t3 : Vec Ideal S1x1536 .f32) (r : Fin 256) (d : Fin 1536) :
    k0_pay12 x0 x1 cr b t0 t1 t2 t3 (ix2 r d) =
      (((b (ix2 0 d) + t0 (ix2 0 d) * if h : r.val < 3 then cr (ix2 ⟨r.val, h⟩ d) else k0_pay8 x0 x1 (ix2 ⟨r.val - 3, by omega⟩ d)) +
          t1 (ix2 0 d) * if h : 1 + r.val < 3 then cr (ix2 ⟨1 + r.val, h⟩ d) else k0_pay8 x0 x1 (ix2 ⟨1 + r.val - 3, by omega⟩ d)) +
        t2 (ix2 0 d) * if h : 2 + r.val < 3 then cr (ix2 ⟨2 + r.val, h⟩ d) else k0_pay8 x0 x1 (ix2 ⟨2 + r.val - 3, by omega⟩ d)) +
      t3 (ix2 0 d) * k0_pay8 x0 x1 (ix2 r d) := by
  unfold k0_pay12
  generalize k0_pay8 x0 x1 = P
  pointwise
theorem pay13_at (v : FVec Ideal S256x1536 .f32) (i : Fin 3) (d : Fin 1536) : k0_pay13 v (ix2 i d) = v (ix2 ⟨253 + i.val, by omega⟩ d) := by
  unfold k0_pay13
  pointwise
theorem pay14_at (v : FVec Ideal S256x1536 .f32) (r : Fin 256) (d : Fin 1536) : k0_pay14 v (ix2 r d) = silu (v (ix2 r d)) := by
  unfold k0_pay14
  pointwise
  rfl
theorem pay17_at (v : FVec Ideal S256x1536 .f32) (r : Fin 256) (d : Fin 1536) : k0_pay17 v (ix2 r d) = silu (v (ix2 r d)) := by
  unfold k0_pay17
  pointwise
  rfl
theorem pay15_at (v : FVec Ideal S256x1536 .f32) (x4 : Vec Ideal S1536x80 .f32) (r : Fin 256) (j : Fin 80) :
    k0_pay15 v x4 (ix2 r j) = ∑ d : Fin 1536, k0_pay14 v (ix2 r d) * x4 (ix2 d j) := by
  unfold k0_pay15
  generalize k0_pay14 v = P
  pointwise
theorem pay2_at (v : FVec Ideal S256x80 .f32) (r : Fin 256) (j : Fin 32) : k0_pay2 v (ix2 r j) = v (ix2 r ⟨48 + j.val, by omega⟩) := by
  unfold k0_pay2
  pointwise
theorem pay16_at (v38 : FVec Ideal S256x1536 .f32) (v45 : Vec Ideal S1536x80 .f32) (v48 : Vec Ideal S48x1536 .f32) (v50 : Vec Ideal S1x1536 .f32) (r : Fin 256) (d : Fin 1536) :
    k0_pay16 v38 v45 v48 v50 (ix2 r d) = sp ((∑ q : Fin 48, k0_pay15 v38 v45 (ix2 r (cT q)) * v48 (ix2 q d)) + v50 (ix2 0 d)) := by
  unfold k0_pay16
  generalize k0_pay15 v38 v45 = P
  pointwise
  rw [if_neg (by simp), zero_sub]
  rfl
theorem pay18_at (v38 : FVec Ideal S256x1536 .f32) (v45 : Vec Ideal S1536x80 .f32) (v48 : Vec Ideal S48x1536 .f32) (v50 : Vec Ideal S1x1536 .f32) (r : Fin 256) (d : Fin 1536) :
    k0_pay1 (k0_pay18 v38 v45 v48 v50) (ix2 r d) = k0_pay16 v38 v45 v48 v50 (ix2 r d) * k0_pay14 v38 (ix2 r d) := by
  unfold k0_pay1 k0_pay18
  generalize k0_pay16 v38 v45 v48 v50 = P
  generalize k0_pay14 v38 = Q
  pointwise
theorem pay4_at (A s : Vec Ideal S16x1536 .f32) (a b : Vec Ideal S1x1536 .f32) (bc : Vec Ideal S1x32 .f32) (n : Fin 16) (d : Fin 1536) :
    k0_pay4 A s a b bc (ix2 n d) = Ideal.exp (A (ix2 n d) * a (ix2 0 d)) * s (ix2 n d) + bc (ix2 0 ⟨n.val, by omega⟩) * b (ix2 0 d) := by
  unfold k0_pay4 k0_pay3
  pointwise
theorem pay5_at (A s : Vec Ideal S16x1536 .f32) (a b : Vec Ideal S1x1536 .f32) (bc : Vec Ideal S1x32 .f32) (d : Fin 1536) :
    k0_pay5 A s a b bc (ix2 0 d) = ∑ n : Fin 16, k0_pay4 A s a b bc (ix2 n d) * bc (ix2 0 ⟨16 + n.val, by omega⟩) := by
  unfold k0_pay5 k0_pay3
  generalize k0_pay4 A s a b bc = P
  pointwise
theorem pay6_at (v : Vec Ideal S16x1536 .f32) (n : Fin 16) (d : Fin 1536) : k0_pay6 v (ix2 n d) = v (ix2 n d) := by
  unfold k0_pay6
  pointwise

theorem qay1_at (v25 : FVec Ideal S256x1 .f32) (v29 v30 : FVec Ideal S256x1536 .f32) (v36 : Vec Ideal S256x1536 .f32) (v38 : Vec Ideal S1x1536 .f32) (v43 : Vec Ideal S256x1536 .f32) (v46 : Vec Ideal S1536x768 .f32) (r : Fin 256) (e : Fin 768) :
    k1_pay1 v25 v29 v30 v36 v38 v43 v46 (ix2 r e) = ∑ d : Fin 1536,
      (((21810381 / 16777216 : ℝ) : EReal) * (v29 (ix2 r d) - v25 (ix2 r 0) * v30 (ix2 r d)) + v36 (ix2 r d) * v38 (ix2 0 d)) * v43 (ix2 r d) * v46 (ix2 d e) := by
  unfold k1_pay1
  pointwise
  rfl
theorem qay2_at (n : Fin 16) (d : Fin 1536) : k1_pay2 (F := Ideal) (ix2 n d) = 0 := by
  unfold k1_pay2
  pointwise
theorem qay3_at (v w : Vec Ideal S256x1536 .f32) (r : Fin 256) (d : Fin 1536) : k1_pay3 v w (ix2 r d) = v (ix2 r d) * w (ix2 r d) := by
  unfold k1_pay3
  pointwise
theorem qay5_at (s : Vec Ideal S16x1536 .f32) (b : Vec Ideal S1x1536 .f32) (bc : Vec Ideal S1x32 .f32) (n : Fin 16) (d : Fin 1536) :
    k1_pay5 s b bc (ix2 n d) = bc (ix2 0 ⟨n.val, by omega⟩) * b (ix2 0 d) + s (ix2 n d) := by
  unfold k1_pay5 k1_pay4
  pointwise
theorem qay6_at (s : Vec Ideal S16x1536 .f32) (b : Vec Ideal S1x1536 .f32) (bc : Vec Ideal S1x32 .f32) (d : Fin 1536) :
    k1_pay6 s b bc (ix2 0 d) = ∑ n : Fin 16, k1_pay5 s b bc (ix2 n d) * bc (ix2 0 ⟨16 + n.val, by omega⟩) := by
  unfold k1_pay6 k1_pay4
  generalize k1_pay5 s b bc = P
  pointwise
theorem qay7_at (A s : Vec Ideal S16x1536 .f32) (a b : Vec Ideal S1x1536 .f32) (bc : Vec Ideal S1x32 .f32) (n : Fin 16) (d : Fin 1536) :
    k1_pay7 A s a b bc (ix2 n d) = Ideal.exp (A (ix2 n d) * a (ix2 0 d)) * k1_pay5 s b bc (ix2 n d) := by
  unfold k1_pay7
  generalize k1_pay5 s b bc = P
  pointwise
theorem qay8_at (v : Vec Ideal S16x1536 .f32) (n : Fin 16) (d : Fin 1536) : k1_pay8 v (ix2 n d) = v (ix2 n d) := by
  unfold k1_pay8
  pointwise
theorem qay9_at (v : Vec Ideal S256x32 .f32) (r : Fin 256) :
    k1_pay9 v (ix2 r 0) = ∑ n : Fin 16, v (ix2 r ⟨n.val, by omega⟩) * v (ix2 r ⟨16 + n.val, by omega⟩) := by
  unfold k1_pay9
  pointwise
theorem qay10_at (v : Vec Ideal S256x1536 .f32) (w : Vec Ideal S256x1536 .f32) (r : Fin 256) (d : Fin 1536) : k1_pay10 v w (ix2 r d) = v (ix2 r d) + w (ix2 r d) := by
  unfold k1_pay10
  pointwise

/-! ## A block of the forward region -/

section Fwd
variable (I : In) (o : ℕ) (x0 : Vec Ideal S256x768 .f32) (x1 : Vec Ideal S768x3072 .f32) (x2 : Vec Ideal S4x1536 .f32) (x3 : Vec Ideal S1x1536 .f32)
  (x4 : Vec Ideal S1536x80 .f32) (x5 : Vec Ideal S48x1536 .f32) (x6 : Vec Ideal S1x1536 .f32) (x7 : Vec Ideal S16x1536 .f32)
  (cr : Vec Ideal S3x1536 .f32) (s : Vec Ideal S16x1536 .f32)

/-- The block that starts at row `o` finds these. -/
structure FwdIn : Prop where
  h0 : ∀ (r : Fin 256) (k : Fin 768), x0 (ix2 r k) = I.X (o + r.val) k
  h1 : ∀ (k : Fin 768) (j : Fin 3072), x1 (ix2 k j) = I.Wi k j
  h2 : ∀ (k : Fin 4) (d : Fin 1536), x2 (ix2 k d) = I.cw d k
  h3 : ∀ d : Fin 1536, x3 (ix2 0 d) = I.cb d
  h4 : ∀ (d : Fin 1536) (j : Fin 80), x4 (ix2 d j) = I.Wx d j
  h5 : ∀ (q : Fin 48) (d : Fin 1536), x5 (ix2 q d) = I.Wd q d
  h6 : ∀ d : Fin 1536, x6 (ix2 0 d) = I.bd d
  h7 : ∀ (n : Fin 16) (d : Fin 1536), x7 (ix2 n d) = I.A n d
  hc : ∀ (i : Fin 3) (d : Fin 1536), cr (ix2 i d) = I.xs (o + i.val) d
  hs : ∀ (n : Fin 16) (d : Fin 1536), s (ix2 n d) = I.S o n d

variable {I o x0 x1 x2 x3 x4 x5 x6 x7 cr s} (H : FwdIn I o x0 x1 x2 x3 x4 x5 x6 x7 cr s)
include H

theorem FwdIn.p7 (r : Fin 256) (j : Fin 3072) : k0_pay7 x0 x1 (ix2 r j) = I.p (o + r.val) j := by
  rw [pay7_at]; unfold In.p; exact Finset.sum_congr rfl fun k _ => by rw [H.h0, H.h1]
theorem FwdIn.xs8 (r : Fin 256) (d : Fin 1536) : k0_pay8 x0 x1 (ix2 r d) = I.xs (o + r.val + 3) d := by
  rw [pay8_at, H.p7]; unfold In.xs; rw [if_neg (by omega)]; rfl
theorem FwdIn.win (k : ℕ) (r : Fin 256) (d : Fin 1536) (hk : k < 3) :
    (if h : k + r.val < 3 then cr (ix2 ⟨k + r.val, h⟩ d) else k0_pay8 x0 x1 (ix2 ⟨k + r.val - 3, by omega⟩ d)) = I.xs (o + r.val + k) d := by
  split
  · rename_i h; rw [H.hc]; congr 1; simp only []; omega
  · rename_i h; rw [H.xs8]; congr 1; simp only []; omega
theorem FwdIn.conv (r : Fin 256) (d : Fin 1536) : bConv x0 x1 x2 x3 cr (ix2 r d) = I.cv (o + r.val) d := by
  have e0 := H.win 0 r d (by omega)
  simp only [Nat.zero_add, Nat.add_zero] at e0
  rw [bConv, pay12_at, H.win 1 r d (by omega), H.win 2 r d (by omega), e0, H.xs8, H.h3]
  have t : ∀ k, tap x2 k (ix2 0 d) = I.cw d k := fun k => H.h2 k d
  rw [t, t, t, t]
  rfl
theorem FwdIn.bH_at (r : Fin 256) (d : Fin 1536) : bH x0 x1 x2 x3 cr (ix2 r d) = I.h (o + r.val) d := by
  rw [bH, pay14_at, H.conv]; rfl
theorem FwdIn.bG_at (r : Fin 256) (d : Fin 1536) : bG x0 x1 (ix2 r d) = I.g (o + r.val) d := by
  rw [bG, pay17_at, pay9_at, H.p7]; rfl
theorem FwdIn.p15 (r : Fin 256) (j : Fin 80) : k0_pay15 (bConv x0 x1 x2 x3 cr) x4 (ix2 r j) = I.sm (o + r.val) j := by
  rw [pay15_at]; unfold In.sm; exact Finset.sum_congr rfl fun d _ => by rw [H.h4]; exact congrArg (· * _) (H.bH_at r d)
theorem FwdIn.bDt_at (r : Fin 256) (d : Fin 1536) : bDt x0 x1 x2 x3 x4 x5 x6 cr (ix2 r d) = I.dt (o + r.val) d := by
  rw [bDt, pay16_at, H.h6]; unfold In.dt
  exact congrArg (fun z => sp (z + I.bd d)) (Finset.sum_congr rfl fun q _ => by rw [H.p15, H.h5])
theorem FwdIn.bBc_at (r : Fin 256) (j : Fin 32) : bBc x0 x1 x2 x3 x4 cr (ix2 r j) = I.sm (o + r.val) ⟨48 + j.val, by omega⟩ := by
  rw [bBc, pay2_at, H.p15]
theorem FwdIn.bU_at (r : Fin 256) (d : Fin 1536) : bU x0 x1 x2 x3 x4 x5 x6 cr (ix2 r d) = I.u (o + r.val) d := by
  rw [bU, pay18_at]; exact congrArg₂ (· * ·) (H.bDt_at r d) (H.bH_at r d)
theorem FwdIn.step (k : Fin 256) (q : Vec Ideal S16x1536 .f32) (hq : ∀ n d, q (ix2 n d) = I.S (o + k.val) n d) (n : Fin 16) (d : Fin 1536) :
    k0_pay4 x7 q (row (bDt x0 x1 x2 x3 x4 x5 x6 cr) k) (row (bU x0 x1 x2 x3 x4 x5 x6 cr) k) (row32 (bBc x0 x1 x2 x3 x4 cr) k) (ix2 n d) = I.S (o + k.val + 1) n d := by
  rw [pay4_at, hq, H.h7]
  have e1 : row (bDt x0 x1 x2 x3 x4 x5 x6 cr) k (ix2 0 d) = I.dt (o + k.val) d := H.bDt_at k d
  have e2 : row (bU x0 x1 x2 x3 x4 x5 x6 cr) k (ix2 0 d) = I.u (o + k.val) d := H.bU_at k d
  have e3 : row32 (bBc x0 x1 x2 x3 x4 cr) k (ix2 0 ⟨n.val, by omega⟩) = I.B (o + k.val) n := H.bBc_at k _
  rw [e1, e2, e3]; rfl
theorem FwdIn.fwd_at : ∀ k ≤ 256, ∀ (n : Fin 16) (d : Fin 1536),
    fwd x7 (bDt x0 x1 x2 x3 x4 x5 x6 cr) (bU x0 x1 x2 x3 x4 x5 x6 cr) (bBc x0 x1 x2 x3 x4 cr) s k (ix2 n d) = I.S (o + k) n d
  | 0, _, n, d => H.hs n d
  | k + 1, hk, n, d => by
    rw [fwd, dif_pos (by omega : k < 256)]
    exact H.step ⟨k, by omega⟩ _ (FwdIn.fwd_at k (by omega)) n d
theorem FwdIn.bS_at (r : Fin 256) (d : Fin 1536) : bS x0 x1 x2 x3 x4 x5 x6 x7 cr s (ix2 r d) = ∑ n : Fin 16, I.S (o + r.val + 1) n d * I.C (o + r.val) n := by
  have e : bS x0 x1 x2 x3 x4 x5 x6 x7 cr s (ix2 r d) = k0_pay5 x7 (fwd x7 (bDt x0 x1 x2 x3 x4 x5 x6 cr) (bU x0 x1 x2 x3 x4 x5 x6 cr) (bBc x0 x1 x2 x3 x4 cr) s r.val)
      (row (bDt x0 x1 x2 x3 x4 x5 x6 cr) r) (row (bU x0 x1 x2 x3 x4 x5 x6 cr) r) (row32 (bBc x0 x1 x2 x3 x4 cr) r) (ix2 0 d) := rfl
  rw [e, pay5_at]
  refine Finset.sum_congr rfl fun n _ => ?_
  rw [H.step r _ (H.fwd_at r.val (by omega)) n d]
  have e3 : row32 (bBc x0 x1 x2 x3 x4 cr) r (ix2 0 ⟨16 + n.val, by omega⟩) = I.C (o + r.val) n := by
    refine (H.bBc_at r _).trans (congrArg (I.sm (o + r.val)) (Fin.ext ?_))
    show 48 + (16 + n.val) = 64 + n.val
    omega
  rw [e3]
theorem FwdIn.bCr_at (i : Fin 3) (d : Fin 1536) : bCr x0 x1 (ix2 i d) = I.xs (o + 256 + i.val) d := by
  rw [bCr, pay13_at, H.xs8]; congr 1; simp only []; omega
theorem FwdIn.bSt_at (n : Fin 16) (d : Fin 1536) : bSt x0 x1 x2 x3 x4 x5 x6 x7 cr s (ix2 n d) = I.S (o + 256) n d := by
  rw [bSt, pay6_at, H.fwd_at 256 le_rfl]

end Fwd

/-! ## A block of the backward region -/

section Bwd
variable (I : In) (o : ℕ) (x0 : Vec Ideal S256x1536 .f32) (x1 : Vec Ideal S256x32 .f32) (x2 x3 x4 : Vec Ideal S256x1536 .f32)
  (x5 : Vec Ideal S16x1536 .f32) (x6 : Vec Ideal S1x1536 .f32) (x7 : Vec Ideal S1536x768 .f32) (s : Vec Ideal S16x1536 .f32)

/-- The block that starts at row `o` finds these. -/
structure BwdIn : Prop where
  ho : o + 256 ≤ 2048
  h0 : ∀ (r : Fin 256) (d : Fin 1536), x0 (ix2 r d) = I.dt (o + r.val) d
  h1 : ∀ (r : Fin 256) (j : Fin 32), x1 (ix2 r j) = I.sm (o + r.val) ⟨48 + j.val, by omega⟩
  h2 : ∀ (r : Fin 256) (d : Fin 1536), x2 (ix2 r d) = ∑ n : Fin 16, I.S (o + r.val + 1) n d * I.C (o + r.val) n
  h3 : ∀ (r : Fin 256) (d : Fin 1536), x3 (ix2 r d) = I.h (o + r.val) d
  h4 : ∀ (r : Fin 256) (d : Fin 1536), x4 (ix2 r d) = I.g (o + r.val) d
  h5 : ∀ (n : Fin 16) (d : Fin 1536), x5 (ix2 n d) = I.A n d
  h6 : ∀ d : Fin 1536, x6 (ix2 0 d) = I.D d
  h7 : ∀ (d : Fin 1536) (e : Fin 768), x7 (ix2 d e) = I.Wo d e
  hs : ∀ (n : Fin 16) (d : Fin 1536), s (ix2 n d) = I.T (2048 - (o + 256)) n d

variable {I o x0 x1 x2 x3 x4 x5 x6 x7 s} (H : BwdIn I o x0 x1 x2 x3 x4 x5 x6 x7 s)
include H

theorem BwdIn.u_at (r : Fin 256) (d : Fin 1536) : oU x0 x3 (ix2 r d) = I.u (o + r.val) d := by
  rw [oU, qay3_at, H.h0, H.h3]; rfl
theorem BwdIn.b_at (r : Fin 256) (n : Fin 16) : row32 x1 r (ix2 0 ⟨n.val, by omega⟩) = I.B (o + r.val) n := H.h1 r _
theorem BwdIn.c_at (r : Fin 256) (n : Fin 16) : row32 x1 r (ix2 0 ⟨16 + n.val, by omega⟩) = I.C (o + r.val) n := by
  refine (H.h1 r _).trans (congrArg (I.sm (o + r.val)) (Fin.ext ?_))
  show 48 + (16 + n.val) = 64 + n.val
  omega
theorem BwdIn.p5 (r : Fin 256) (q : Vec Ideal S16x1536 .f32) (hq : ∀ n d, q (ix2 n d) = I.T (2047 - (o + r.val)) n d) (n : Fin 16) (d : Fin 1536) :
    k1_pay5 q (row (oU x0 x3) r) (row32 x1 r) (ix2 n d) = I.xb (o + r.val) n d := by
  have e2 : row (oU x0 x3) r (ix2 0 d) = I.u (o + r.val) d := H.u_at r d
  rw [qay5_at, hq, H.b_at, e2]; rfl
theorem BwdIn.bwd_at : ∀ k ≤ 256, ∀ (n : Fin 16) (d : Fin 1536), bwd x5 x0 (oU x0 x3) x1 s k (ix2 n d) = I.T (2048 - (o + 256) + k) n d
  | 0, _, n, d => H.hs n d
  | k + 1, hk, n, d => by
    have ho := H.ho
    have hr : (Fin.ofNat 256 (255 - k)).val = 255 - k := Nat.mod_eq_of_lt (by omega)
    have ih := BwdIn.bwd_at k (by omega)
    rw [bwd, qay7_at, H.p5 (Fin.ofNat 256 (255 - k)) _ (fun n d => by rw [ih, hr]; congr 1; omega) n d, H.h5]
    have e1 : row x0 (Fin.ofNat 256 (255 - k)) (ix2 0 d) = I.dt (o + (Fin.ofNat 256 (255 - k)).val) d := H.h0 _ d
    rw [e1, hr, show 2048 - (o + 256) + (k + 1) = (2047 - (o + (255 - k))) + 1 by omega, In.T,
      show 2047 - (2047 - (o + (255 - k))) = o + (255 - k) by omega]
    rfl
theorem BwdIn.sums_at (r : Fin 256) (d : Fin 1536) : bwdSums x5 x0 (oU x0 x3) x1 s (ix2 r d) = ∑ n : Fin 16, I.xb (o + r.val) n d * I.C (o + r.val) n := by
  have e : bwdSums x5 x0 (oU x0 x3) x1 s (ix2 r d) = k1_pay6 (bwd x5 x0 (oU x0 x3) x1 s (255 - r.val)) (row (oU x0 x3) r) (row32 x1 r) (ix2 0 d) := rfl
  have ho := H.ho
  rw [e, qay6_at]
  refine Finset.sum_congr rfl fun n _ => ?_
  rw [H.p5 r _ (fun n d => by rw [H.bwd_at _ (by omega)]; congr 1; omega) n d, H.c_at]
theorem BwdIn.oOut_at (r : Fin 256) (e : Fin 768) : oOut x0 x1 x2 x3 x4 x5 x6 x7 s (ix2 r e) = I.outK (o + r.val) e := by
  rw [oOut, qay1_at]; unfold In.outK
  refine Finset.sum_congr rfl fun d _ => ?_
  rw [qay10_at, qay9_at, H.h2, H.sums_at, H.u_at, H.h3, H.h6, H.h4, H.h7]
  have ec : (∑ n : Fin 16, x1 (ix2 r ⟨n.val, by omega⟩) * x1 (ix2 r ⟨16 + n.val, by omega⟩)) = ∑ n : Fin 16, I.B (o + r.val) n * I.C (o + r.val) n :=
    Finset.sum_congr rfl fun n _ => congrArg₂ (· * ·) (H.b_at r n) (H.c_at r n)
  rw [ec]; rfl
theorem BwdIn.oSt_at (n : Fin 16) (d : Fin 1536) : oSt x0 x1 x3 x5 s (ix2 n d) = I.T (2048 - o) n d := by
  have ho := H.ho
  rw [oSt, qay8_at, H.bwd_at 256 le_rfl]; congr 1; omega

end Bwd

end Cert.KernelIdeal.Hand
-- ==== Proof.KernelIdealVal.lean ====
/- What the ideal kernel's buffers hold after each of its stretches and regions, and its result, at an index. -/
module

public import proofs.«01_k».proof.Proof.KernelIdealPt
public import proofs.«01_k».proof.Proof.KernelIdealRun
public import Idealize.ShloMosaic.Lib.Pipeline.ValueKit
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Tactic Idealize.ShloMosaic.StableHlo
open Cert.KernelIdeal.Gen Cert.Hand

/-- Row `r` of the 256 rows of block `t`, among the 2048. -/
def brow (t : ℕ) (ht : t < 8) (r : Fin 256) : Fin 2048 := ⟨256 * t + r.val, by omega⟩

section Blk
variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)
theorem idx1 : ∀ t : Fin cfg1.N, win1_0.index t = ![7 - t.val, 0] ∧ win1_1.index t = ![7 - t.val, 0] ∧ win1_2.index t = ![7 - t.val, 0] ∧ win1_3.index t = ![7 - t.val, 0] ∧ win1_4.index t = ![7 - t.val, 0] ∧ win1_5.index t = ![0, 0] ∧ win1_6.index t = ![0, 0] ∧ win1_7.index t = ![0, 0] ∧ win1_8.index t = ![7 - t.val, 0] :=
  (by decide +kernel : ∀ t : Fin grid1.N, _)
theorem blk0_0 (t : Fin cfg0.N) (r : Fin 256) (k : Fin 768) : blk0 V c 0 t (ix2 r k) = V c main_v0 (ix2 (brow (t.val) (by have := t.isLt; have : cfg0.N = 8 := rfl; omega) r) k) := by
  have e := idx0 t
  have := t.isLt
  have : cfg0.N = 8 := rfl
  unfold brow
  blk_ext [blk0, e]
theorem blk0_1 (t : Fin cfg0.N) (r : Fin 768) (k : Fin 3072) : blk0 V c 1 t (ix2 r k) = V c main_arg2 (ix2 r k) := by
  have e := idx0 t
  have := t.isLt
  have : cfg0.N = 8 := rfl
  blk_ext [blk0, e]
theorem blk0_2 (t : Fin cfg0.N) (r : Fin 4) (k : Fin 1536) : blk0 V c 2 t (ix2 r k) = V c main_v1 (ix2 r k) := by
  have e := idx0 t
  have := t.isLt
  have : cfg0.N = 8 := rfl
  blk_ext [blk0, e]
theorem blk0_3 (t : Fin cfg0.N) (r : Fin 1) (k : Fin 1536) : blk0 V c 3 t (ix2 r k) = V c main_v5 (ix2 r k) := by
  have e := idx0 t
  have := t.isLt
  have : cfg0.N = 8 := rfl
  blk_ext [blk0, e]
theorem blk0_4 (t : Fin cfg0.N) (r : Fin 1536) (k : Fin 80) : blk0 V c 4 t (ix2 r k) = V c main_arg5 (ix2 r k) := by
  have e := idx0 t
  have := t.isLt
  have : cfg0.N = 8 := rfl
  blk_ext [blk0, e]
theorem blk0_5 (t : Fin cfg0.N) (r : Fin 48) (k : Fin 1536) : blk0 V c 5 t (ix2 r k) = V c main_arg6 (ix2 r k) := by
  have e := idx0 t
  have := t.isLt
  have : cfg0.N = 8 := rfl
  blk_ext [blk0, e]
theorem blk0_6 (t : Fin cfg0.N) (r : Fin 1) (k : Fin 1536) : blk0 V c 6 t (ix2 r k) = V c main_v6 (ix2 r k) := by
  have e := idx0 t
  have := t.isLt
  have : cfg0.N = 8 := rfl
  blk_ext [blk0, e]
theorem blk0_7 (t : Fin cfg0.N) (r : Fin 16) (k : Fin 1536) : blk0 V c 7 t (ix2 r k) = V c main_v4 (ix2 r k) := by
  have e := idx0 t
  have := t.isLt
  have : cfg0.N = 8 := rfl
  blk_ext [blk0, e]
theorem blk1_0 (t : Fin cfg1.N) (r : Fin 256) (k : Fin 1536) : blk1 V c 0 t (ix2 r k) = V c main_v7_2 (ix2 (brow (7 - t.val) (by have := t.isLt; have : cfg1.N = 8 := rfl; omega) r) k) := by
  have e := idx1 t
  have := t.isLt
  have : cfg1.N = 8 := rfl
  unfold brow
  blk_ext [blk1, e]
theorem blk1_1 (t : Fin cfg1.N) (r : Fin 256) (k : Fin 32) : blk1 V c 1 t (ix2 r k) = V c main_v7_3 (ix2 (brow (7 - t.val) (by have := t.isLt; have : cfg1.N = 8 := rfl; omega) r) k) := by
  have e := idx1 t
  have := t.isLt
  have : cfg1.N = 8 := rfl
  unfold brow
  blk_ext [blk1, e]
theorem blk1_2 (t : Fin cfg1.N) (r : Fin 256) (k : Fin 1536) : blk1 V c 2 t (ix2 r k) = V c main_v7_4 (ix2 (brow (7 - t.val) (by have := t.isLt; have : cfg1.N = 8 := rfl; omega) r) k) := by
  have e := idx1 t
  have := t.isLt
  have : cfg1.N = 8 := rfl
  unfold brow
  blk_ext [blk1, e]
theorem blk1_3 (t : Fin cfg1.N) (r : Fin 256) (k : Fin 1536) : blk1 V c 3 t (ix2 r k) = V c main_v7_0 (ix2 (brow (7 - t.val) (by have := t.isLt; have : cfg1.N = 8 := rfl; omega) r) k) := by
  have e := idx1 t
  have := t.isLt
  have : cfg1.N = 8 := rfl
  unfold brow
  blk_ext [blk1, e]
theorem blk1_4 (t : Fin cfg1.N) (r : Fin 256) (k : Fin 1536) : blk1 V c 4 t (ix2 r k) = V c main_v7_1 (ix2 (brow (7 - t.val) (by have := t.isLt; have : cfg1.N = 8 := rfl; omega) r) k) := by
  have e := idx1 t
  have := t.isLt
  have : cfg1.N = 8 := rfl
  unfold brow
  blk_ext [blk1, e]
theorem blk1_5 (t : Fin cfg1.N) (r : Fin 16) (k : Fin 1536) : blk1 V c 5 t (ix2 r k) = V c main_v4 (ix2 r k) := by
  have e := idx1 t
  have := t.isLt
  have : cfg1.N = 8 := rfl
  blk_ext [blk1, e]
theorem blk1_6 (t : Fin cfg1.N) (r : Fin 1) (k : Fin 1536) : blk1 V c 6 t (ix2 r k) = V c main_v8 (ix2 r k) := by
  have e := idx1 t
  have := t.isLt
  have : cfg1.N = 8 := rfl
  blk_ext [blk1, e]
theorem blk1_7 (t : Fin cfg1.N) (r : Fin 1536) (k : Fin 768) : blk1 V c 7 t (ix2 r k) = V c main_arg10 (ix2 r k) := by
  have e := idx1 t
  have := t.isLt
  have : cfg1.N = 8 := rfl
  blk_ext [blk1, e]
theorem out0_8 (G : Buf (Elt Ideal) ((c : Thread nD τ).loc main_v7_0)) (h : ∀ (t : Fin cfg0.N) (r : Fin 256) (d : Fin 1536), (dat0 V c).after 8 t (ix2 r d) = G (ix2 (brow (t.val) (by have := t.isLt; have : cfg0.N = 8 := rfl; omega) r) d)) :
    (dat0 V c).arrAt 8 cfg0.N = G := by
  refine (dat0 V c).arrAt_eq_of_covers 8 _ (by decide +kernel) fun t hf y => ?_
  have e := idx0 t
  have := t.isLt
  have : cfg0.N = 8 := rfl
  blk_simp
  obtain ⟨r, d, rfl⟩ : ∃ (r : Fin 256) (d : Fin 1536), y = ix2 r d := ⟨y 0, y 1, eq_ix2 y⟩
  refine (h t r d).trans ?_
  unfold brow
  blk_ext [e]
theorem out0_9 (G : Buf (Elt Ideal) ((c : Thread nD τ).loc main_v7_1)) (h : ∀ (t : Fin cfg0.N) (r : Fin 256) (d : Fin 1536), (dat0 V c).after 9 t (ix2 r d) = G (ix2 (brow (t.val) (by have := t.isLt; have : cfg0.N = 8 := rfl; omega) r) d)) :
    (dat0 V c).arrAt 9 cfg0.N = G := by
  refine (dat0 V c).arrAt_eq_of_covers 9 _ (by decide +kernel) fun t hf y => ?_
  have e := idx0 t
  have := t.isLt
  have : cfg0.N = 8 := rfl
  blk_simp
  obtain ⟨r, d, rfl⟩ : ∃ (r : Fin 256) (d : Fin 1536), y = ix2 r d := ⟨y 0, y 1, eq_ix2 y⟩
  refine (h t r d).trans ?_
  unfold brow
  blk_ext [e]
theorem out0_10 (G : Buf (Elt Ideal) ((c : Thread nD τ).loc main_v7_2)) (h : ∀ (t : Fin cfg0.N) (r : Fin 256) (d : Fin 1536), (dat0 V c).after 10 t (ix2 r d) = G (ix2 (brow (t.val) (by have := t.isLt; have : cfg0.N = 8 := rfl; omega) r) d)) :
    (dat0 V c).arrAt 10 cfg0.N = G := by
  refine (dat0 V c).arrAt_eq_of_covers 10 _ (by decide +kernel) fun t hf y => ?_
  have e := idx0 t
  have := t.isLt
  have : cfg0.N = 8 := rfl
  blk_simp
  obtain ⟨r, d, rfl⟩ : ∃ (r : Fin 256) (d : Fin 1536), y = ix2 r d := ⟨y 0, y 1, eq_ix2 y⟩
  refine (h t r d).trans ?_
  unfold brow
  blk_ext [e]
theorem out0_11 (G : Buf (Elt Ideal) ((c : Thread nD τ).loc main_v7_3)) (h : ∀ (t : Fin cfg0.N) (r : Fin 256) (d : Fin 32), (dat0 V c).after 11 t (ix2 r d) = G (ix2 (brow (t.val) (by have := t.isLt; have : cfg0.N = 8 := rfl; omega) r) d)) :
    (dat0 V c).arrAt 11 cfg0.N = G := by
  refine (dat0 V c).arrAt_eq_of_covers 11 _ (by decide +kernel) fun t hf y => ?_
  have e := idx0 t
  have := t.isLt
  have : cfg0.N = 8 := rfl
  blk_simp
  obtain ⟨r, d, rfl⟩ : ∃ (r : Fin 256) (d : Fin 32), y = ix2 r d := ⟨y 0, y 1, eq_ix2 y⟩
  refine (h t r d).trans ?_
  unfold brow
  blk_ext [e]
theorem out0_12 (G : Buf (Elt Ideal) ((c : Thread nD τ).loc main_v7_4)) (h : ∀ (t : Fin cfg0.N) (r : Fin 256) (d : Fin 1536), (dat0 V c).after 12 t (ix2 r d) = G (ix2 (brow (t.val) (by have := t.isLt; have : cfg0.N = 8 := rfl; omega) r) d)) :
    (dat0 V c).arrAt 12 cfg0.N = G := by
  refine (dat0 V c).arrAt_eq_of_covers 12 _ (by decide +kernel) fun t hf y => ?_
  have e := idx0 t
  have := t.isLt
  have : cfg0.N = 8 := rfl
  blk_simp
  obtain ⟨r, d, rfl⟩ : ∃ (r : Fin 256) (d : Fin 1536), y = ix2 r d := ⟨y 0, y 1, eq_ix2 y⟩
  refine (h t r d).trans ?_
  unfold brow
  blk_ext [e]
theorem out1_8 (G : Buf (Elt Ideal) ((c : Thread nD τ).loc main_v9)) (h : ∀ (t : Fin cfg1.N) (r : Fin 256) (d : Fin 768), (dat1 V c).after 8 t (ix2 r d) = G (ix2 (brow (7 - t.val) (by have := t.isLt; have : cfg1.N = 8 := rfl; omega) r) d)) :
    (dat1 V c).arrAt 8 cfg1.N = G := by
  refine (dat1 V c).arrAt_eq_of_covers 8 _ (by decide +kernel) fun t hf y => ?_
  have e := idx1 t
  have := t.isLt
  have : cfg1.N = 8 := rfl
  blk_simp
  obtain ⟨r, d, rfl⟩ : ∃ (r : Fin 256) (d : Fin 768), y = ix2 r d := ⟨y 0, y 1, eq_ix2 y⟩
  refine (h t r d).trans ?_
  unfold brow
  blk_ext [e]

end Blk

variable (m : (ℓ : Loc nD τ sig) → Buf (Elt Ideal) ℓ) (ρ : Dev nD → PrngReg) (c : Dev nD)

/-- An argument's contents. -/
abbrev arg (r : Ref sig .tc) : Buf (Elt Ideal) ((c.tc : Thread nD τ).loc r) := m ((c.tc : Thread nD τ).loc r)

/-- The arguments as the mathematics takes them. -/
def kIn : In where
  X l k := if h : l < 2048 then arg m c main_arg0 (ix3 0 ⟨l, h⟩ k) else 0
  Wi k j := arg m c main_arg2 (ix2 k j)
  cw d k := arg m c main_arg3 (ix2 d k)
  cb d := arg m c main_arg4 (ix1 d)
  Wx d j := arg m c main_arg5 (ix2 d j)
  Wd q d := arg m c main_arg6 (ix2 q d)
  bd d := arg m c main_arg7 (ix1 d)
  Al d n := arg m c main_arg8 (ix2 d n)
  D d := arg m c main_arg9 (ix1 d)
  Wo d e := arg m c main_arg10 (ix2 d e)

theorem v0_at (l : Fin 2048) (k : Fin 768) : W1 m ρ c (Proc.devRef .tc main_v0) (ix2 l k) = arg m c main_arg0 (ix3 0 l k) := by
  unfold arg
  rw [← W0_args m ρ c main_arg0 (by decide)]
  unfold W1
  generalize W0 m ρ c = U
  after_reads_at
theorem v1_at (k : Fin 4) (d : Fin 1536) : W1 m ρ c (Proc.devRef .tc main_v1) (ix2 k d) = arg m c main_arg3 (ix2 d k) := by
  unfold arg
  rw [← W0_args m ρ c main_arg3 (by decide)]
  unfold W1
  generalize W0 m ρ c = U
  after_reads_at
theorem v4_at (n : Fin 16) (d : Fin 1536) : W1 m ρ c (Proc.devRef .tc main_v4) (ix2 n d) = -(Ideal.exp (arg m c main_arg8 (ix2 d n))) := by
  unfold arg
  rw [← W0_args m ρ c main_arg8 (by decide)]
  unfold W1
  generalize W0 m ρ c = U
  after_reads_at
theorem v5_at (d : Fin 1536) : W1 m ρ c (Proc.devRef .tc main_v5) (ix2 0 d) = arg m c main_arg4 (ix1 d) := by
  unfold arg
  rw [← W0_args m ρ c main_arg4 (by decide)]
  unfold W1
  generalize W0 m ρ c = U
  after_reads_at
theorem v6_at (d : Fin 1536) : W1 m ρ c (Proc.devRef .tc main_v6) (ix2 0 d) = arg m c main_arg7 (ix1 d) := by
  unfold arg
  rw [← W0_args m ρ c main_arg7 (by decide)]
  unfold W1
  generalize W0 m ρ c = U
  after_reads_at

/-- The arguments of the forward blocks. -/
theorem fwdIn : ∀ (t : ℕ) (ht : t < 8), FwdIn (kIn m c) (256 * t) (blk0 (V1 m ρ) c 0 ⟨t, ht⟩) (blk0 (V1 m ρ) c 1 ⟨t, ht⟩) (blk0 (V1 m ρ) c 2 ⟨t, ht⟩) (blk0 (V1 m ρ) c 3 ⟨t, ht⟩) (blk0 (V1 m ρ) c 4 ⟨t, ht⟩) (blk0 (V1 m ρ) c 5 ⟨t, ht⟩) (blk0 (V1 m ρ) c 6 ⟨t, ht⟩) (blk0 (V1 m ρ) c 7 ⟨t, ht⟩)
    (car0 (V1 m ρ) c t).1 (car0 (V1 m ρ) c t).2 := by
  have base : ∀ (t : ℕ) (ht : t < 8) (cr : Vec Ideal S3x1536 .f32) (s : Vec Ideal S16x1536 .f32),
      (∀ (i : Fin 3) (d : Fin 1536), cr (ix2 i d) = (kIn m c).xs (256 * t + i.val) d) → (∀ (n : Fin 16) (d : Fin 1536), s (ix2 n d) = (kIn m c).S (256 * t) n d) →
      FwdIn (kIn m c) (256 * t) (blk0 (V1 m ρ) c 0 ⟨t, ht⟩) (blk0 (V1 m ρ) c 1 ⟨t, ht⟩) (blk0 (V1 m ρ) c 2 ⟨t, ht⟩) (blk0 (V1 m ρ) c 3 ⟨t, ht⟩) (blk0 (V1 m ρ) c 4 ⟨t, ht⟩) (blk0 (V1 m ρ) c 5 ⟨t, ht⟩) (blk0 (V1 m ρ) c 6 ⟨t, ht⟩) (blk0 (V1 m ρ) c 7 ⟨t, ht⟩) cr s := by
    intro t ht cr s hc hs
    refine ⟨fun r k => ?_, fun k j => ?_, fun k d => ?_, fun d => ?_, fun d j => ?_, fun q d => ?_, fun d => ?_, fun n d => ?_, hc, hs⟩
    · refine (blk0_0 (V1 m ρ) c ⟨t, ht⟩ r k).trans ((v0_at m ρ c _ k).trans ?_)
      have hh : 256 * t + r.val < 2048 := by have := r.isLt; omega
      show _ = (if h : 256 * t + r.val < 2048 then arg m c main_arg0 (ix3 0 ⟨256 * t + r.val, h⟩ k) else (0 : EReal) : EReal)
      rw [dif_pos hh]
      rfl
    · exact (blk0_1 (V1 m ρ) c ⟨t, ht⟩ k j).trans (congrFun (W1_args m ρ c main_arg2 (by decide)) _)
    · exact (blk0_2 (V1 m ρ) c ⟨t, ht⟩ k d).trans (v1_at m ρ c k d)
    · exact (blk0_3 (V1 m ρ) c ⟨t, ht⟩ 0 d).trans (v5_at m ρ c d)
    · exact (blk0_4 (V1 m ρ) c ⟨t, ht⟩ d j).trans (congrFun (W1_args m ρ c main_arg5 (by decide)) _)
    · exact (blk0_5 (V1 m ρ) c ⟨t, ht⟩ q d).trans (congrFun (W1_args m ρ c main_arg6 (by decide)) _)
    · exact (blk0_6 (V1 m ρ) c ⟨t, ht⟩ 0 d).trans (v6_at m ρ c d)
    · exact (blk0_7 (V1 m ρ) c ⟨t, ht⟩ n d).trans (v4_at m ρ c n d)
  intro t
  induction t with
  | zero =>
    intro ht
    refine base 0 ht _ _ (fun i d => ?_) (fun n d => pay11_at n d)
    refine (pay10_at i d).trans (if_pos ?_).symm
    have := i.isLt; omega
  | succ t ih =>
    intro ht
    have H := ih (by omega)
    have e := car0_succ (V1 m ρ) c ⟨t, (by omega : t < 8)⟩
    refine base (t + 1) ht _ _ (fun i d => ?_) (fun n d => ?_)
    · exact (congrFun (congrArg Prod.fst e) _).trans (H.bCr_at i d)
    · exact (congrFun (congrArg Prod.snd e) _).trans (H.bSt_at n d)

theorem v7_0_at (l : Fin 2048) (d : Fin 1536) : W2 m ρ c (Proc.devRef .tc main_v7_0) (ix2 l d) = (kIn m c).h l.val d := by
  have e : W2 m ρ c (Proc.devRef .tc main_v7_0) = _ := (W2_arr m ρ c 8).trans (out0_8 (V1 m ρ) c (fun j : S2048x1536.Idx => let l := (j 0).val; let d : Fin 1536 := j 1; (kIn m c).h l d) fun t r d => by
    rw [after0_8]
    exact (fwdIn m ρ c t.val t.isLt).bH_at r d)
  exact congrFun e _
theorem v7_1_at (l : Fin 2048) (d : Fin 1536) : W2 m ρ c (Proc.devRef .tc main_v7_1) (ix2 l d) = (kIn m c).g l.val d := by
  have e : W2 m ρ c (Proc.devRef .tc main_v7_1) = _ := (W2_arr m ρ c 9).trans (out0_9 (V1 m ρ) c (fun j : S2048x1536.Idx => let l := (j 0).val; let d : Fin 1536 := j 1; (kIn m c).g l d) fun t r d => by
    rw [after0_9]
    exact (fwdIn m ρ c t.val t.isLt).bG_at r d)
  exact congrFun e _
theorem v7_2_at (l : Fin 2048) (d : Fin 1536) : W2 m ρ c (Proc.devRef .tc main_v7_2) (ix2 l d) = (kIn m c).dt l.val d := by
  have e : W2 m ρ c (Proc.devRef .tc main_v7_2) = _ := (W2_arr m ρ c 10).trans (out0_10 (V1 m ρ) c (fun j : S2048x1536.Idx => let l := (j 0).val; let d : Fin 1536 := j 1; (kIn m c).dt l d) fun t r d => by
    rw [after0_10]
    exact (fwdIn m ρ c t.val t.isLt).bDt_at r d)
  exact congrFun e _
theorem v7_3_at (l : Fin 2048) (d : Fin 32) : W2 m ρ c (Proc.devRef .tc main_v7_3) (ix2 l d) = (kIn m c).sm l.val ⟨48 + d.val, by omega⟩ := by
  have e : W2 m ρ c (Proc.devRef .tc main_v7_3) = _ := (W2_arr m ρ c 11).trans (out0_11 (V1 m ρ) c (fun j : S2048x32.Idx => let l := (j 0).val; let d : Fin 32 := j 1; (kIn m c).sm l ⟨48 + d.val, by omega⟩) fun t r d => by
    rw [after0_11]
    exact (fwdIn m ρ c t.val t.isLt).bBc_at r d)
  exact congrFun e _
theorem v7_4_at (l : Fin 2048) (d : Fin 1536) : W2 m ρ c (Proc.devRef .tc main_v7_4) (ix2 l d) = (∑ n : Fin 16, (kIn m c).S (l.val + 1) n d * (kIn m c).C l.val n : EReal) := by
  have e : W2 m ρ c (Proc.devRef .tc main_v7_4) = _ := (W2_arr m ρ c 12).trans (out0_12 (V1 m ρ) c (fun j : S2048x1536.Idx => let l := (j 0).val; let d : Fin 1536 := j 1; (∑ n : Fin 16, (kIn m c).S (l + 1) n d * (kIn m c).C l n : EReal)) fun t r d => by
    rw [after0_12]
    exact (fwdIn m ρ c t.val t.isLt).bS_at r d)
  exact congrFun e _
theorem v8_at (d : Fin 1536) : W3 m ρ c (Proc.devRef .tc main_v8) (ix2 0 d) = arg m c main_arg9 (ix1 d) := by
  unfold arg
  rw [← W2_args m ρ c main_arg9 (by decide)]
  unfold W3
  generalize W2 m ρ c = U
  after_reads_at

/-- The arguments of the backward blocks. -/
theorem bwdIn : ∀ (t : ℕ) (ht : t < 8), BwdIn (kIn m c) (256 * (7 - t)) (blk1 (V3 m ρ) c 0 ⟨t, ht⟩) (blk1 (V3 m ρ) c 1 ⟨t, ht⟩) (blk1 (V3 m ρ) c 2 ⟨t, ht⟩) (blk1 (V3 m ρ) c 3 ⟨t, ht⟩) (blk1 (V3 m ρ) c 4 ⟨t, ht⟩) (blk1 (V3 m ρ) c 5 ⟨t, ht⟩) (blk1 (V3 m ρ) c 6 ⟨t, ht⟩) (blk1 (V3 m ρ) c 7 ⟨t, ht⟩)
    (car1 (V3 m ρ) c t) := by
  have base : ∀ (t : ℕ) (ht : t < 8) (s : Vec Ideal S16x1536 .f32),
      (∀ (n : Fin 16) (d : Fin 1536), s (ix2 n d) = (kIn m c).T (2048 - (256 * (7 - t) + 256)) n d) →
      BwdIn (kIn m c) (256 * (7 - t)) (blk1 (V3 m ρ) c 0 ⟨t, ht⟩) (blk1 (V3 m ρ) c 1 ⟨t, ht⟩) (blk1 (V3 m ρ) c 2 ⟨t, ht⟩) (blk1 (V3 m ρ) c 3 ⟨t, ht⟩) (blk1 (V3 m ρ) c 4 ⟨t, ht⟩) (blk1 (V3 m ρ) c 5 ⟨t, ht⟩) (blk1 (V3 m ρ) c 6 ⟨t, ht⟩) (blk1 (V3 m ρ) c 7 ⟨t, ht⟩) s := by
    intro t ht s hs
    refine ⟨by omega, fun r d => ?_, fun r j => ?_, fun r d => ?_, fun r d => ?_, fun r d => ?_, fun n d => ?_, fun d => ?_, fun d e => ?_, hs⟩
    · exact (blk1_0 (V3 m ρ) c ⟨t, ht⟩ r d).trans ((congrFun (W3_of m ρ c main_v7_2 (by decide +kernel)) _).trans (v7_2_at m ρ c _ d))
    · exact (blk1_1 (V3 m ρ) c ⟨t, ht⟩ r j).trans ((congrFun (W3_of m ρ c main_v7_3 (by decide +kernel)) _).trans (v7_3_at m ρ c _ j))
    · exact (blk1_2 (V3 m ρ) c ⟨t, ht⟩ r d).trans ((congrFun (W3_of m ρ c main_v7_4 (by decide +kernel)) _).trans (v7_4_at m ρ c _ d))
    · exact (blk1_3 (V3 m ρ) c ⟨t, ht⟩ r d).trans ((congrFun (W3_of m ρ c main_v7_0 (by decide +kernel)) _).trans (v7_0_at m ρ c _ d))
    · exact (blk1_4 (V3 m ρ) c ⟨t, ht⟩ r d).trans ((congrFun (W3_of m ρ c main_v7_1 (by decide +kernel)) _).trans (v7_1_at m ρ c _ d))
    · exact (blk1_5 (V3 m ρ) c ⟨t, ht⟩ n d).trans ((congrFun (W3_of m ρ c main_v4 (by decide +kernel)) _).trans
        ((congrFun (W2_of m ρ c main_v4 (by decide +kernel)) _).trans (v4_at m ρ c n d)))
    · exact (blk1_6 (V3 m ρ) c ⟨t, ht⟩ 0 d).trans (v8_at m ρ c d)
    · exact (blk1_7 (V3 m ρ) c ⟨t, ht⟩ d e).trans (congrFun (W3_args m ρ c main_arg10 (by decide)) _)
  intro t
  induction t with
  | zero => intro ht; exact base 0 ht _ (fun n d => qay2_at n d)
  | succ t ih =>
    intro ht
    have H := ih (by omega)
    have e := car1_succ (V3 m ρ) c ⟨t, (by omega : t < 8)⟩
    refine base (t + 1) ht _ (fun n d => (congrFun e _).trans ((H.oSt_at n d).trans ?_))
    rw [show 2048 - (256 * (7 - (t + 1)) + 256) = 2048 - 256 * (7 - t) by omega]

theorem v9_at (l : Fin 2048) (e : Fin 768) : W4 m ρ c (Proc.devRef .tc main_v9) (ix2 l e) = (kIn m c).outK l.val e := by
  have h : W4 m ρ c (Proc.devRef .tc main_v9) = _ := (W4_arr m ρ c 8).trans (out1_8 (V3 m ρ) c (fun j : S2048x768.Idx => (kIn m c).outK (j 0).val (j 1)) fun t r d => by
    rw [after1_8]
    exact (bwdIn m ρ c t.val t.isLt).oOut_at r d)
  exact congrFun h _

/-- The ideal kernel's result. -/
theorem v10_at (l : Fin 2048) (e : Fin 768) : W5 m ρ c (Proc.devRef .tc main_v10) (ix3 0 l e) = (kIn m c).outK l.val e := by
  rw [← v9_at m ρ c l e]
  unfold W5
  generalize W4 m ρ c = U
  after_reads_at

end Cert.KernelIdeal.Hand
-- ==== Proof.RefRead.lean ====
/- What each part of the reference's stretches writes, read at an index off what it found. -/
module

public import proofs.«01_k».proof.Proof.RefRun
public import proofs.«01_k».proof.Proof.Spec
public import Idealize.ShloMosaic.Lib.Pipeline.ValueKit
public import Idealize.ShloMosaic.Lib.StableHlo.ReadAt
@[expose] public section

set_option maxRecDepth 16384

noncomputable section

namespace Cert.ReferenceIdeal.Hand

open Idealize.ShloMosaic Idealize.ShloMosaic.TcCoe Idealize.ShloMosaic.Tactic Idealize.ShloMosaic.StableHlo
open Cert.ReferenceIdeal.Facts₀ Cert.ReferenceIdeal.Facts
open Cert.Hand

/-- An element, as an extended real. -/
abbrev E (x : EReal) : EReal := x

/-- Channel `d`'s state `n` among the 24576 rows. -/
def row (d : Fin 1536) (n : Fin 16) : Fin 24576 := ⟨d.val * 16 + n.val, by omega⟩

/-- The bias of the reference's sum of directions. -/
theorem c03 : Ideal.ofBits FTy.f32 1050253722#32 = ((10066330 / 33554432 : ℝ) : EReal) := by
  simp [Ideal.ofBits, Ideal.ieee, -EReal.coe_mul]; norm_num

variable (V : Valuation τ sig (Elt Ideal))

theorem r_v3 (d : Fin 1536) (l : Fin 2048) :
    (E ((after s0_0 V) (Proc.devRef .tc main_v3) (ix3 0 d l))) = (∑ k : Fin 768, (E (V (Proc.devRef .tc main_arg0) (ix3 0 l k))) * (E (V (Proc.devRef .tc main_arg2) (ix2 k (hi d)))) : EReal) := by
  unfold E
  unfold hi
  after_reads_at

theorem r_v4 (d : Fin 1536) (i : Fin 2051) :
    (E ((after s0_0 V) (Proc.devRef .tc main_v4) (ix3 0 d i))) = (if i.val < 3 then 0 else ∑ k : Fin 768, (E (V (Proc.devRef .tc main_arg0) (ix3 0 ⟨i.val - 3, by omega⟩ k))) * (E (V (Proc.devRef .tc main_arg2) (ix2 k (lo d)))) : EReal) := by
  unfold E
  unfold lo
  after_reads_at
  have z : (FloatOps.sitofp (F := Ideal) FTy.f32 0#32 : EReal) = 0 := by
    show (((BitVec.toInt 0#32 : ℤ) : ℝ) : EReal) = 0
    simp
  by_cases hi : i.val < 3
  · rw [dif_neg (by omega), if_pos hi]
    exact z
  · rw [dif_pos ⟨by omega, by omega⟩, if_neg hi]

theorem r_v20 (d : Fin 1536) (l : Fin 2048) :
    (E ((after s0_1 V) (Proc.devRef .tc main_v20) (ix3 0 d l))) = (((E (V (Proc.devRef .tc main_arg4) (ix1 d))) + (E (V (Proc.devRef .tc main_arg3) (ix2 d 0))) * (E (V (Proc.devRef .tc main_v4) (ix3 0 d ⟨l.val, by omega⟩)))) + (E (V (Proc.devRef .tc main_arg3) (ix2 d 1))) * (E (V (Proc.devRef .tc main_v4) (ix3 0 d ⟨1 + l.val, by omega⟩))) : EReal) := by
  unfold E
  after_reads_at

theorem r_v34 (d : Fin 1536) (l : Fin 2048) :
    (E ((after s0_2 V) (Proc.devRef .tc main_v34) (ix3 0 d l))) = (((E (V (Proc.devRef .tc main_v20) (ix3 0 d l))) + (E (V (Proc.devRef .tc main_arg3) (ix2 d 2))) * (E (V (Proc.devRef .tc main_v4) (ix3 0 d ⟨2 + l.val, by omega⟩)))) + (E (V (Proc.devRef .tc main_arg3) (ix2 d 3))) * (E (V (Proc.devRef .tc main_v4) (ix3 0 d ⟨3 + l.val, by omega⟩))) : EReal) := by
  unfold E
  after_reads_at

theorem r_v41 (d : Fin 1536) (l : Fin 2048) :
    (E ((after s0_3 V) (Proc.devRef .tc main_v41) (ix3 0 d l))) = (silu (E (V (Proc.devRef .tc main_v34) (ix3 0 d l))) : EReal) := by
  unfold E
  unfold silu sg
  after_reads_at

theorem r_v49 (l : Fin 2048) (d : Fin 1536) :
    (E ((after s0_4 V) (Proc.devRef .tc main_v49) (ix3 0 l d))) = ((∑ q : Fin 48, (∑ d : Fin 1536, (E (V (Proc.devRef .tc main_v41) (ix3 0 d l))) * (E (V (Proc.devRef .tc main_arg5) (ix2 d (⟨q.val, by omega⟩ : Fin 80))))) * (E (V (Proc.devRef .tc main_arg6) (ix2 q d)))) + (E (V (Proc.devRef .tc main_arg7) (ix1 d))) : EReal) := by
  unfold E
  after_reads_at

theorem r_v44 (l : Fin 2048) (n : Fin 16) :
    (E ((after s0_4 V) (Proc.devRef .tc main_v44) (ix3 0 l n))) = (∑ d : Fin 1536, (E (V (Proc.devRef .tc main_v41) (ix3 0 d l))) * (E (V (Proc.devRef .tc main_arg5) (ix2 d (⟨48 + n.val, by omega⟩ : Fin 80)))) : EReal) := by
  unfold E
  after_reads_at

theorem r_v45 (l : Fin 2048) (n : Fin 16) :
    (E ((after s0_4 V) (Proc.devRef .tc main_v45) (ix3 0 l n))) = (∑ d : Fin 1536, (E (V (Proc.devRef .tc main_v41) (ix3 0 d l))) * (E (V (Proc.devRef .tc main_arg5) (ix2 d (⟨64 + n.val, by omega⟩ : Fin 80)))) : EReal) := by
  unfold E
  after_reads_at

theorem r_v51 (l : Fin 2048) (d : Fin 1536) :
    (E ((after s0_5 V) (Proc.devRef .tc main_v51) (ix3 0 d l))) = (sp (E (V (Proc.devRef .tc main_v49) (ix3 0 l d))) : EReal) := by
  unfold E
  unfold sp
  after_reads_at
  exact if_neg (fun h => h rfl)

theorem r_v59 (d : Fin 1536) (l : Fin 2048) (n : Fin 16) :
    (E ((after s0_6 V) (Proc.devRef .tc main_v59) (ix4 0 d l n))) = (Ideal.exp (-(Ideal.exp (E (V (Proc.devRef .tc main_arg8) (ix2 d n)))) * (E (V (Proc.devRef .tc main_v51) (ix3 0 d l)))) : EReal) := by
  unfold E
  after_reads_at

theorem r_v67 (d : Fin 1536) (l : Fin 2048) (n : Fin 16) :
    (E ((after s0_6 V) (Proc.devRef .tc main_v67) (ix4 0 d l n))) = (((E (V (Proc.devRef .tc main_v51) (ix3 0 d l))) * (E (V (Proc.devRef .tc main_v44) (ix3 0 l n)))) * (E (V (Proc.devRef .tc main_v41) (ix3 0 d l))) : EReal) := by
  unfold E
  after_reads_at

theorem r_v72 (d : Fin 1536) (l : Fin 2048) (n : Fin 16) :
    (E ((after s0_7 V) (Proc.devRef .tc main_v72) (ix3 0 (row d n) l))) = ((E (V (Proc.devRef .tc main_v67) (ix4 0 d l.rev n))) : EReal) := by
  unfold E
  unfold row
  have h1 : (d.val * 16 + n.val) / 16 = d.val := by omega
  have h2 : (d.val * 16 + n.val) % 16 = n.val := by omega
  after_reads_at
  simp [h1, h2]

theorem r_v73 (d : Fin 1536) (l : Fin 2048) (n : Fin 16) :
    (E ((after s0_7 V) (Proc.devRef .tc main_v73) (ix3 0 (row d n) l))) = ((E (V (Proc.devRef .tc main_v59) (ix4 0 d l.rev n))) : EReal) := by
  unfold E
  unfold row
  have h1 : (d.val * 16 + n.val) / 16 = d.val := by omega
  have h2 : (d.val * 16 + n.val) % 16 = n.val := by omega
  after_reads_at
  simp [h1, h2]

theorem r_call4_v0 (e : Fin 24576) :
    (E ((after s0_8 V) (Proc.devRef .tc main_call4_v0) (ix3 0 e 0))) = ((E (V (Proc.devRef .tc main_v73) (ix3 0 e 2047))) : EReal) := by
  unfold E
  after_reads_at

theorem r_call4_v1 (e : Fin 24576) (l : Fin 2047) :
    (E ((after s0_8 V) (Proc.devRef .tc main_call4_v1) (ix3 0 e l))) = ((E (V (Proc.devRef .tc main_v73) (ix3 0 e ⟨l.val, by omega⟩))) : EReal) := by
  unfold E
  after_reads_at

theorem r_v74 (e : Fin 24576) (l : Fin 2048) :
    (E ((after s0_9 V) (Proc.devRef .tc main_v74) (ix3 0 e l))) = (if h : l.val < 1 then (E (V (Proc.devRef .tc main_call4_v0) (ix3 0 e ⟨l.val, h⟩))) else (E (V (Proc.devRef .tc main_call4_v1) (ix3 0 e ⟨l.val - 1, by omega⟩))) : EReal) := by
  unfold E
  after_reads_at

theorem r_v76 (e : Fin 24576) (l : Fin 2048) :
    (E ((after s0_9 V) (Proc.devRef .tc main_v76) (ix3 l 0 e))) = (if h : l.val < 1 then (E (V (Proc.devRef .tc main_call4_v0) (ix3 0 e ⟨l.val, h⟩))) else (E (V (Proc.devRef .tc main_call4_v1) (ix3 0 e ⟨l.val - 1, by omega⟩))) : EReal) := by
  unfold E
  after_reads_at
  rfl

theorem r_v75 (e : Fin 24576) (l : Fin 2048) :
    (E ((after s0_9 V) (Proc.devRef .tc main_v75) (ix3 l 0 e))) = ((E (V (Proc.devRef .tc main_v72) (ix3 0 e l))) : EReal) := by
  unfold E
  after_reads_at

theorem r_v77 (e : Fin 24576) :
    (E ((after s0_9 V) (Proc.devRef .tc main_v77) (ix2 0 e))) = (0 : EReal) := by
  unfold E
  after_reads_at

theorem r_v78 (e : Fin 24576) (l : Fin 2048) :
    (E ((after s0_9 V) (Proc.devRef .tc main_v78) (ix3 l 0 e))) = (0 : EReal) := by
  unfold E
  after_reads_at

theorem r_v79_0 : after s0_10 V (Proc.devRef .tc main_v79_0) = V (Proc.devRef .tc main_v76) := by
  after_results
  rfl

theorem r_v79_1 : after s0_10 V (Proc.devRef .tc main_v79_1) = V (Proc.devRef .tc main_v75) := by
  after_results
  rfl

theorem r_v79_3 : after s0_10 V (Proc.devRef .tc main_v79_3) = V (Proc.devRef .tc main_v77) := by
  after_results
  rfl

theorem r_v79_4 : after s0_10 V (Proc.devRef .tc main_v79_4) = V (Proc.devRef .tc main_v78) := by
  after_results
  rfl

theorem r_v86_0 (e : Fin 24576) (l : Fin 2047) :
    (E ((after s1_0 V) (Proc.devRef .tc main_v86_0) (ix3 l 0 e))) = ((E (V (Proc.devRef .tc main_v76) (ix3 ⟨1 + l.rev.val, by omega⟩ 0 e))) : EReal) := by
  unfold E
  after_reads_simp
  try simp -implicitDefEqProofs only [StableHlo.TRef.toBuf, StableHlo.TRef.ofBuf, cast_cast, cast_eq]
  try simp only [id_eq]
  clean_types
  pointwise
  simp

theorem r_v86_1 (e : Fin 24576) (l : Fin 2047) :
    (E ((after s1_0 V) (Proc.devRef .tc main_v86_1) (ix3 l 0 e))) = ((E (V (Proc.devRef .tc main_v75) (ix3 ⟨1 + l.rev.val, by omega⟩ 0 e))) : EReal) := by
  unfold E
  after_reads_simp
  try simp -implicitDefEqProofs only [StableHlo.TRef.toBuf, StableHlo.TRef.ofBuf, cast_cast, cast_eq]
  try simp only [id_eq]
  clean_types
  pointwise
  simp

theorem r_v86_3 (e : Fin 24576) :
    (E ((after s1_0 V) (Proc.devRef .tc main_v86_3) (ix2 0 e))) = (0 : EReal) := by
  unfold E
  after_reads_simp
  try simp -implicitDefEqProofs only [StableHlo.TRef.toBuf, StableHlo.TRef.ofBuf, cast_cast, cast_eq]
  try simp only [id_eq]
  clean_types
  pointwise

theorem r_v86_4 (e : Fin 24576) (l : Fin 2047) :
    (E ((after s1_0 V) (Proc.devRef .tc main_v86_4) (ix3 l 0 e))) = (0 : EReal) := by
  unfold E
  after_reads_simp
  try simp -implicitDefEqProofs only [StableHlo.TRef.toBuf, StableHlo.TRef.ofBuf, cast_cast, cast_eq]
  try simp only [id_eq]
  clean_types
  pointwise

theorem r_v105_0 (e : Fin 24576) (l : Fin 2047) :
    (E ((after s3_0 V) (Proc.devRef .tc main_v105_0) (ix3 l 0 e))) = ((E (V (Proc.devRef .tc main_v95) (ix3 ⟨1 + l.rev.val, by omega⟩ 0 e))) : EReal) := by
  unfold E
  after_reads_simp
  try simp -implicitDefEqProofs only [StableHlo.TRef.toBuf, StableHlo.TRef.ofBuf, cast_cast, cast_eq]
  try simp only [id_eq]
  clean_types
  pointwise
  simp

theorem r_v105_1 (e : Fin 24576) (l : Fin 2047) :
    (E ((after s3_0 V) (Proc.devRef .tc main_v105_1) (ix3 l 0 e))) = ((E (V (Proc.devRef .tc main_v94) (ix3 ⟨1 + l.rev.val, by omega⟩ 0 e))) : EReal) := by
  unfold E
  after_reads_simp
  try simp -implicitDefEqProofs only [StableHlo.TRef.toBuf, StableHlo.TRef.ofBuf, cast_cast, cast_eq]
  try simp only [id_eq]
  clean_types
  pointwise
  simp

theorem r_v105_3 (e : Fin 24576) :
    (E ((after s3_0 V) (Proc.devRef .tc main_v105_3) (ix2 0 e))) = (0 : EReal) := by
  unfold E
  after_reads_simp
  try simp -implicitDefEqProofs only [StableHlo.TRef.toBuf, StableHlo.TRef.ofBuf, cast_cast, cast_eq]
  try simp only [id_eq]
  clean_types
  pointwise

theorem r_v105_4 (e : Fin 24576) (l : Fin 2047) :
    (E ((after s3_0 V) (Proc.devRef .tc main_v105_4) (ix3 l 0 e))) = (0 : EReal) := by
  unfold E
  after_reads_simp
  try simp -implicitDefEqProofs only [StableHlo.TRef.toBuf, StableHlo.TRef.ofBuf, cast_cast, cast_eq]
  try simp only [id_eq]
  clean_types
  pointwise

theorem r_v87 (e : Fin 24576) (l : Fin 2047) :
    (E ((after s2_0 V) (Proc.devRef .tc main_v87) (ix3 l 0 e))) = ((E (V (Proc.devRef .tc main_v86_4) (ix3 l.rev 0 e))) : EReal) := by
  unfold E
  after_reads_at
  simp

theorem r_v88 (e : Fin 24576) :
    (E ((after s2_0 V) (Proc.devRef .tc main_v88) (ix3 0 0 e))) = (0 : EReal) := by
  unfold E
  after_reads_at

theorem r_v106 (e : Fin 24576) (l : Fin 2047) :
    (E ((after s4_0 V) (Proc.devRef .tc main_v106) (ix3 l 0 e))) = ((E (V (Proc.devRef .tc main_v105_4) (ix3 l.rev 0 e))) : EReal) := by
  unfold E
  after_reads_at
  simp

theorem r_v107 (e : Fin 24576) :
    (E ((after s4_0 V) (Proc.devRef .tc main_v107) (ix3 0 0 e))) = (0 : EReal) := by
  unfold E
  after_reads_at

theorem r_v91 (e : Fin 24576) (l : Fin 2048) :
    (E ((after s2_1 V) (Proc.devRef .tc main_v91) (ix3 0 e l))) = ((E (V (Proc.devRef .tc main_v79_4) (ix3 l 0 e))) + (if h : l.val < 2047 then (E (V (Proc.devRef .tc main_v87) (ix3 ⟨l.val, h⟩ 0 e))) else (E (V (Proc.devRef .tc main_v88) (ix3 ⟨l.val - 2047, by omega⟩ 0 e)))) : EReal) := by
  unfold E
  after_reads_at
  rfl

theorem r_v113 (e : Fin 24576) (l : Fin 2048) :
    (E ((after s4_1 V) (Proc.devRef .tc main_v113) (ix3 0 e l))) = (((E (V (Proc.devRef .tc main_v98_4) (ix3 l 0 e))) + (if h : l.val < 2047 then (E (V (Proc.devRef .tc main_v106) (ix3 ⟨l.val, h⟩ 0 e))) else (E (V (Proc.devRef .tc main_v107) (ix3 ⟨l.val - 2047, by omega⟩ 0 e))))) * ((10066330 / 33554432 : ℝ) : EReal) + (E (V (Proc.devRef .tc main_v91) (ix3 0 e l))) : EReal) := by
  unfold E
  after_reads_at
  rw [c03]
  rfl

theorem r_v122 (d : Fin 1536) (l : Fin 2048) :
    (E ((after s4_2 V) (Proc.devRef .tc main_v122) (ix3 0 d l))) = ((∑ n : Fin 16, (E (V (Proc.devRef .tc main_v113) (ix3 0 (row d n) l.rev))) * (E (V (Proc.devRef .tc main_v45) (ix3 0 l n)))) + (E (V (Proc.devRef .tc main_v41) (ix3 0 d l))) * (E (V (Proc.devRef .tc main_arg9) (ix1 d))) : EReal) := by
  unfold E
  unfold row
  after_reads_at
  simp

theorem r_v130 (d : Fin 1536) (l : Fin 2048) :
    (E ((after s4_3 V) (Proc.devRef .tc main_v130) (ix3 0 d l))) = ((E (V (Proc.devRef .tc main_v122) (ix3 0 d l))) * silu (E (V (Proc.devRef .tc main_v3) (ix3 0 d l))) : EReal) := by
  unfold E
  unfold silu sg
  after_reads_at

theorem r_v132 (l : Fin 2048) (e : Fin 768) :
    (E ((after s4_4 V) (Proc.devRef .tc main_v132) (ix3 0 l e))) = (∑ d : Fin 1536, (E (V (Proc.devRef .tc main_v130) (ix3 0 d l))) * (E (V (Proc.devRef .tc main_arg10) (ix2 d e))) : EReal) := by
  unfold E
  after_reads_at

theorem r_v94 (e : Fin 24576) (l : Fin 2048) :
    (E ((after s2_6 V) (Proc.devRef .tc main_v94) (ix3 l 0 e))) = ((E (V (Proc.devRef .tc main_v72) (ix3 0 e l))) : EReal) := by
  unfold E
  after_reads_at

theorem r_v95 (e : Fin 24576) (l : Fin 2048) :
    (E ((after s2_6 V) (Proc.devRef .tc main_v95) (ix3 l 0 e))) = ((E (V (Proc.devRef .tc main_v93) (ix3 0 e l))) : EReal) := by
  unfold E
  after_reads_at

theorem r_v98_0 (e : Fin 24576) (l : Fin 2048) :
    (E ((after s2_6 V) (Proc.devRef .tc main_v98_0) (ix3 l 0 e))) = ((E (V (Proc.devRef .tc main_v93) (ix3 0 e l))) : EReal) := by
  unfold E
  after_reads_simp
  try simp -implicitDefEqProofs only [StableHlo.TRef.toBuf, StableHlo.TRef.ofBuf, cast_cast, cast_eq]
  try simp only [id_eq]
  clean_types
  pointwise

theorem r_v98_1 (e : Fin 24576) (l : Fin 2048) :
    (E ((after s2_6 V) (Proc.devRef .tc main_v98_1) (ix3 l 0 e))) = ((E (V (Proc.devRef .tc main_v72) (ix3 0 e l))) : EReal) := by
  unfold E
  after_reads_simp
  try simp -implicitDefEqProofs only [StableHlo.TRef.toBuf, StableHlo.TRef.ofBuf, cast_cast, cast_eq]
  try simp only [id_eq]
  clean_types
  pointwise

theorem r_v98_3 (e : Fin 24576) :
    (E ((after s2_6 V) (Proc.devRef .tc main_v98_3) (ix2 0 e))) = (0 : EReal) := by
  unfold E
  after_reads_simp
  try simp -implicitDefEqProofs only [StableHlo.TRef.toBuf, StableHlo.TRef.ofBuf, cast_cast, cast_eq]
  try simp only [id_eq]
  clean_types
  pointwise

theorem r_v98_4 (e : Fin 24576) (l : Fin 2048) :
    (E ((after s2_6 V) (Proc.devRef .tc main_v98_4) (ix3 l 0 e))) = (0 : EReal) := by
  unfold E
  after_reads_simp
  try simp -implicitDefEqProofs only [StableHlo.TRef.toBuf, StableHlo.TRef.ofBuf, cast_cast, cast_eq]
  try simp only [id_eq]
  clean_types
  pointwise

end Cert.ReferenceIdeal.Hand
-- ==== Proof.RefStep.lean ====
/- The reference's loops trip by trip at an index, and its re-indexing of the weights by the positions in order. -/
module

public import proofs.«01_k».proof.Proof.RefRead
public import Idealize.ShloMosaic.Lib.Pipeline.ValueKit
public import Idealize.ShloMosaic.Lib.StableHlo.ReadAt
public import Idealize.ShloMosaic.Lib.DynamicIndex

@[expose] public section

set_option maxRecDepth 16384

noncomputable section

namespace Cert.ReferenceIdeal.Hand

open Idealize.ShloMosaic Idealize.ShloMosaic.TcCoe Idealize.ShloMosaic.Tactic Idealize.ShloMosaic.StableHlo
open Cert.ReferenceIdeal.Facts₀ Cert.ReferenceIdeal.Facts
open Cert.Hand

/-- A counter from zero, read signed. -/
theorem toInt_iv01 (k : ℕ) (hk : k < 2048) : (Scf.iv 0#32 1#32 k).toInt = (k : Int) := by
  simp only [Scf.iv, BitVec.mul_one, BitVec.zero_add]
  exact toInt_ofNat_of_lt (by omega)

/-- One row of a stack, read at a row number. -/
theorem ds_row {n : ℕ} (x : (⟨3, ![n, 1, 24576]⟩ : Shape).Idx → EReal) (st : Fin 3 → Int) (h) (k : ℕ) (hk : k < n) (h0 : st 0 = (k : Int)) (h1 : st 1 = 0) (h2 : st 2 = 0) :
    Host.dynamicSlice S1x1x24576 x st h = fun i => x (ix3 ⟨k, hk⟩ 0 (i 2)) := by
  have hs : ∀ a : Fin 3, st a = ((![k, 0, 0] : Fin 3 → ℕ) a : Int) := by
    intro a
    fin_cases a
    · exact h0
    · exact h1
    · exact h2
  rw [Host.dynamicSlice_eq_extractStridedSlice S1x1x24576 x st ![k, 0, 0] h ⟨rfl, by intro a; fin_cases a <;> simp <;> omega⟩ hs]
  funext i
  obtain ⟨a, b, c, rfl⟩ : ∃ (a : Fin 1) (b : Fin 1) (c : Fin 24576), i = ix3 a b c := ⟨i 0, i 1, i 2, eq_ix3 i⟩
  obtain rfl : a = 0 := Subsingleton.elim _ _
  obtain rfl : b = 0 := Subsingleton.elim _ _
  unfold extractStridedSlice
  congr 1
  funext q
  fin_cases q <;> simp

/-- One row of a stack written at a row number. -/
theorem dus_row {n : ℕ} (x : (⟨3, ![n, 1, 24576]⟩ : Shape).Idx → EReal) (u : S1x1x24576.Idx → EReal) (st : Fin 3 → Int) (h) (k : ℕ) (hk : k < n) (h0 : st 0 = (k : Int)) (h1 : st 1 = 0) (h2 : st 2 = 0) :
    Host.dynamicUpdateSlice x u st h = fun i => if (i 0).val = k then u (ix3 0 0 (i 2)) else x i := by
  rw [Host.dynamicUpdateSlice_eq_updateSlice x u st h ![k, 0, 0] (by
    intro a
    fin_cases a
    · simp [h0]; omega
    · simp [h1]
    · simp [h2]) ⟨rfl, by intro a; fin_cases a <;> simp <;> omega⟩]
  funext i
  obtain ⟨a, b, c, rfl⟩ : ∃ (a : Fin n) (b : Fin 1) (c : Fin 24576), i = ix3 a b c := ⟨i 0, i 1, i 2, eq_ix3 i⟩
  obtain rfl : b = 0 := Subsingleton.elim _ _
  by_cases ha : a.val = k
  · subst ha
    unfold updateSlice
    rw [dif_pos (by intro q; fin_cases q <;> simp)]
    simp
    congr 1
    funext q
    fin_cases q <;> simp
  · unfold updateSlice
    rw [dif_neg (by intro hq; have := hq 0; simp at this; omega)]
    simp [ha]

variable (V : Valuation τ sig (Elt Ideal))
/-- A gather of the positions in order reads the operand where it is. -/
theorem gather_at (x : S1x24576x2048.Idx → EReal) (idx : IVec S2048x1 32) (e : Fin 24576) (l : Fin 2048) (h : idx (ix2 l 0) = BitVec.ofNat 32 l.val) :
    Host.gather gather_S1x24576x2048_S2048x1_S1x24576x2048_01_2_n_n_2_1_1245761 x idx (ix3 0 e l) = x (ix3 0 e l) := by
  unfold Host.gather
  congr 1
  have hi : gather_S1x24576x2048_S2048x1_S1x24576x2048_01_2_n_n_2_1_1245761.siIdx (ix3 0 e l) ⟨0, by decide⟩ = ix2 l 0 := by
    funext q
    fin_cases q
    · rfl
    · rfl
  have ht : (BitVec.ofNat 32 l.val).toInt = (l.val : Int) := toInt_ofNat_of_lt (by have := l.isLt; omega)
  funext a
  apply Fin.ext
  fin_cases a
  · rfl
  · show 0 + 0 + e.val = e.val
    omega
  · show min (idx (gather_S1x24576x2048_S2048x1_S1x24576x2048_01_2_n_n_2_1_1245761.siIdx (ix3 0 e l) ⟨0, by decide⟩)).toInt.toNat (2048 - 1) + 0 + 0 = l.val
    rw [hi, h, ht]
    have := l.isLt
    omega

theorem w_slt : ∀ l : Fin 2048, IntOp.cmpi CmpIPredicate.slt (BitVec.ofNat 32 l.val) 0#32 = 0#1 := by decide +kernel
theorem w_sge : ∀ l : Fin 2048, IntOp.cmpi CmpIPredicate.sge (BitVec.ofNat 32 l.val) 0#32 = 1#1 := by decide +kernel
theorem w_sle : ∀ l : Fin 2048, IntOp.cmpi CmpIPredicate.sle (BitVec.ofNat 32 l.val) 2047#32 = 1#1 := by decide +kernel

theorem r_t5 (l : Fin 2048) : after s2_2 V (Proc.devRef .tc main_call14_v5) (ix2 l 0) = BitVec.ofNat 32 l.val := by
  after_reads_at
  rw [w_slt]
  rfl
theorem r_t11 (l : Fin 2048) : after s2_2 V (Proc.devRef .tc main_call14_v11) (ix2 l 0) = 1#1 := by
  after_reads_at
  rw [w_slt]
  show IntOp.andi (IntOp.cmpi CmpIPredicate.sge (BitVec.ofNat 32 l.val) 0#32) (IntOp.cmpi CmpIPredicate.sle (BitVec.ofNat 32 l.val) 2047#32) = 1#1
  rw [w_sge, w_sle]
  rfl
theorem r_t12 (l : Fin 2048) (h : ∀ l : Fin 2048, V (Proc.devRef .tc main_call14_v11) (ix2 l 0) = 1#1) : after s2_3 V (Proc.devRef .tc main_call14_v12) (ix1 l) = 1#1 := by
  after_reads_at
  have u : (Finset.univ : Finset (Fin 1)) = {0} := rfl
  rw [u, Finset.fold_singleton, h l]
  rfl
theorem r_t13 (e : Fin 24576) (l : Fin 2048) (h : ∀ l : Fin 2048, V (Proc.devRef .tc main_call14_v5) (ix2 l 0) = BitVec.ofNat 32 l.val) :
     after s2_4 V (Proc.devRef .tc main_call14_v13) (ix3 0 e l) = V (Proc.devRef .tc main_v74) (ix3 0 e l) := by
  after_reads_simp
  exact gather_at _ _ e l (h l)
theorem r_t93 (e : Fin 24576) (l : Fin 2048) (h : ∀ l : Fin 2048, V (Proc.devRef .tc main_call14_v12) (ix1 l) = 1#1) :
     after s2_5 V (Proc.devRef .tc main_v93) (ix3 0 e l) = V (Proc.devRef .tc main_call14_v13) (ix3 0 e l) := by
  after_reads_at
  rw [h l]
  rfl

/-! ## Loop 0 -/

theorem state0 (X : Valuation τ sig (Elt Ideal)) (k : ℕ) (hk : k < 2048) (hc : X (Proc.devRef .tc main_v79_2) = fun _ => Scf.iv 0#32 1#32 k) (e : Fin 24576) :
    after b0 X (Proc.devRef .tc main_v79_3) (ix2 0 e) = (E (X (Proc.devRef .tc main_v79_0) (ix3 ⟨k, hk⟩ 0 e)) * E (X (Proc.devRef .tc main_v79_3) (ix2 0 e)) + E (X (Proc.devRef .tc main_v79_1) (ix3 ⟨k, hk⟩ 0 e)) : EReal) := by
  unfold E
  after_reads_simp [unaryIndexed_result_read, indexContents_tref_cons, indexContents_tref_empty]
  simp -implicitDefEqProofs only [StableHlo.TRef.toBuf, StableHlo.TRef.ofBuf, cast_cast, cast_eq, id_eq, hc]
  clean_types
  rw [ds_row _ _ _ k hk (toInt_iv01 k hk) rfl rfl, ds_row _ _ _ k hk (toInt_iv01 k hk) rfl rfl]
  pointwise
theorem stack0 (X : Valuation τ sig (Elt Ideal)) (k : ℕ) (hk : k < 2048) (hc : X (Proc.devRef .tc main_v79_2) = fun _ => Scf.iv 0#32 1#32 k) (e : Fin 24576) (j : Fin 2048) :
    after b0 X (Proc.devRef .tc main_v79_4) (ix3 j 0 e) = (if j.val = k then E (X (Proc.devRef .tc main_v79_0) (ix3 ⟨k, hk⟩ 0 e)) * E (X (Proc.devRef .tc main_v79_3) (ix2 0 e)) + E (X (Proc.devRef .tc main_v79_1) (ix3 ⟨k, hk⟩ 0 e)) else E (X (Proc.devRef .tc main_v79_4) (ix3 j 0 e)) : EReal) := by
  unfold E
  after_reads_simp [unaryIndexed_result_read, binaryIndexed_result_read, indexContents_tref_cons, indexContents_tref_empty]
  simp -implicitDefEqProofs only [StableHlo.TRef.toBuf, StableHlo.TRef.ofBuf, cast_cast, cast_eq, id_eq, hc]
  clean_types
  rw [ds_row _ _ _ k hk (toInt_iv01 k hk) rfl rfl, ds_row _ _ _ k hk (toInt_iv01 k hk) rfl rfl, dus_row _ _ _ _ k hk (toInt_iv01 k hk) rfl rfl]
  pointwise

section
variable (m : (ℓ : Loc nD τ sig) → Buf (Elt Ideal) ℓ) (c : Dev nD) (w f R : ℕ → Fin 24576 → EReal)
  (hw : ∀ (j : Fin 2048) (e : Fin 24576), E0 m c (Proc.devRef .tc main_v79_0) (ix3 j 0 e) = w j.val e)
  (hf : ∀ (j : Fin 2048) (e : Fin 24576), E0 m c (Proc.devRef .tc main_v79_1) (ix3 j 0 e) = f j.val e)
  (h0 : ∀ e : Fin 24576, E0 m c (Proc.devRef .tc main_v79_3) (ix2 0 e) = R 0 e)
  (hR : ∀ k e, R (k + 1) e = w k e * R k e + f k e)
include hw hf h0 hR

/-- Before trip `k`: the stacks read are as at entry, the state is the `k`-th, and the rows before `k` of the stack written are done. -/
theorem inv0 : ∀ k, k ≤ 2048 → (∀ (j : Fin 2048) (e : Fin 24576), K0 m k c (Proc.devRef .tc main_v79_0) (ix3 j 0 e) = w j.val e) ∧
    (∀ (j : Fin 2048) (e : Fin 24576), K0 m k c (Proc.devRef .tc main_v79_1) (ix3 j 0 e) = f j.val e) ∧
    (∀ e : Fin 24576, K0 m k c (Proc.devRef .tc main_v79_3) (ix2 0 e) = R k e) ∧
    (∀ (j : Fin 2048) (e : Fin 24576), j.val < k → K0 m k c (Proc.devRef .tc main_v79_4) (ix3 j 0 e) = R (j.val + 1) e) := by
  intro k
  induction k with
  | zero => exact fun _ => ⟨hw, hf, h0, fun j e h => absurd h (Nat.not_lt_zero _)⟩
  | succ k ih =>
    intro hk
    have hk' : k < 2048 := hk
    obtain ⟨i0, i1, i3, i4⟩ := ih (Nat.le_of_lt hk')
    have hn : K0 m (k + 1) c = after b0 (after c0 (K0 m k c)) := rfl
    rw [hn]
    have q : ∀ r, r ∉ c0_W → after c0 (K0 m k c) (Proc.devRef .tc r) = K0 m k c (Proc.devRef .tc r) := fun r h => after_of_writes_sub c0 _ c0_writes h
    have hc : after c0 (K0 m k c) (Proc.devRef .tc main_v79_2) = fun _ => Scf.iv 0#32 1#32 k := (q _ (by decide)).trans (K0_ctr m c k)
    have q0 := q main_v79_0 (by decide)
    have q1 := q main_v79_1 (by decide)
    have q3 := q main_v79_3 (by decide)
    have q4 := q main_v79_4 (by decide)
    generalize after c0 (K0 m k c) = X at *
    have new : ∀ e : Fin 24576, (E (X (Proc.devRef .tc main_v79_0) (ix3 ⟨k, hk⟩ 0 e)) * E (X (Proc.devRef .tc main_v79_3) (ix2 0 e)) + E (X (Proc.devRef .tc main_v79_1) (ix3 ⟨k, hk⟩ 0 e)) : EReal) = R (k + 1) e := by
      intro e
      rw [q0, q1, q3]
      unfold E
      rw [i0 ⟨k, hk'⟩ e, i1 ⟨k, hk'⟩ e, i3 e, hR]
    refine ⟨fun j e => ?_, fun j e => ?_, fun e => ?_, fun j e hj => ?_⟩
    · rw [after_of_writes_sub b0 X b0_writes (by decide), q0]; exact i0 j e
    · rw [after_of_writes_sub b0 X b0_writes (by decide), q1]; exact i1 j e
    · exact (state0 X k hk' hc e).trans (new e)
    · refine (stack0 X k hk' hc e j).trans ?_
      by_cases h : j.val = k
      · rw [if_pos h, new e, h]
      · rw [if_neg h, q4]
        exact i4 j e (by omega)

theorem done0 (j : Fin 2048) (e : Fin 24576) : Z0 m c (Proc.devRef .tc main_v79_4) (ix3 j 0 e) = R (j.val + 1) e := by
  have hz : Z0 m c (Proc.devRef .tc main_v79_4) = K0 m 2048 c (Proc.devRef .tc main_v79_4) := after_of_writes_sub c0 _ c0_writes (by decide)
  rw [hz]
  exact (inv0 m c w f R hw hf h0 hR 2048 (Nat.le_refl _)).2.2.2 j e j.isLt
end

/-- What the loop does not write it leaves. -/
theorem Z0_of (m : (ℓ : Loc nD τ sig) → Buf (Elt Ideal) ℓ) (c : Dev nD) (r : Ref sig .tc) (hc : r ∉ c0_W) (hb : r ∉ b0_W) : Z0 m c (Proc.devRef .tc r) = E0 m c (Proc.devRef .tc r) := by
  have hK : ∀ k, K0 m k c (Proc.devRef .tc r) = E0 m c (Proc.devRef .tc r) := by
    intro k
    induction k with
    | zero => rfl
    | succ k ih =>
      have hn : K0 m (k + 1) c = after b0 (after c0 (K0 m k c)) := rfl
      rw [hn, after_of_writes_sub b0 _ b0_writes hb, after_of_writes_sub c0 _ c0_writes hc, ih]
  exact (after_of_writes_sub c0 _ c0_writes hc).trans (hK 2048)

/-! ## Loop 1 -/

theorem state1 (X : Valuation τ sig (Elt Ideal)) (k : ℕ) (hk : k < 2047) (hc : X (Proc.devRef .tc main_v86_2) = fun _ => Scf.iv 0#32 1#32 k) (e : Fin 24576) :
    after b1 X (Proc.devRef .tc main_v86_3) (ix2 0 e) = (E (X (Proc.devRef .tc main_v86_0) (ix3 ⟨k, hk⟩ 0 e)) * (E (X (Proc.devRef .tc main_v86_1) (ix3 ⟨k, hk⟩ 0 e)) + E (X (Proc.devRef .tc main_v86_3) (ix2 0 e))) : EReal) := by
  unfold E
  after_reads_simp [unaryIndexed_result_read, indexContents_tref_cons, indexContents_tref_empty]
  simp -implicitDefEqProofs only [StableHlo.TRef.toBuf, StableHlo.TRef.ofBuf, cast_cast, cast_eq, id_eq, hc]
  clean_types
  rw [ds_row _ _ _ k hk (toInt_iv01 k (by omega)) rfl rfl, ds_row _ _ _ k hk (toInt_iv01 k (by omega)) rfl rfl]
  pointwise
theorem stack1 (X : Valuation τ sig (Elt Ideal)) (k : ℕ) (hk : k < 2047) (hc : X (Proc.devRef .tc main_v86_2) = fun _ => Scf.iv 0#32 1#32 k) (e : Fin 24576) (j : Fin 2047) :
    after b1 X (Proc.devRef .tc main_v86_4) (ix3 j 0 e) = (if j.val = k then E (X (Proc.devRef .tc main_v86_0) (ix3 ⟨k, hk⟩ 0 e)) * (E (X (Proc.devRef .tc main_v86_1) (ix3 ⟨k, hk⟩ 0 e)) + E (X (Proc.devRef .tc main_v86_3) (ix2 0 e))) else E (X (Proc.devRef .tc main_v86_4) (ix3 j 0 e)) : EReal) := by
  unfold E
  after_reads_simp [unaryIndexed_result_read, binaryIndexed_result_read, indexContents_tref_cons, indexContents_tref_empty]
  simp -implicitDefEqProofs only [StableHlo.TRef.toBuf, StableHlo.TRef.ofBuf, cast_cast, cast_eq, id_eq, hc]
  clean_types
  rw [ds_row _ _ _ k hk (toInt_iv01 k (by omega)) rfl rfl, ds_row _ _ _ k hk (toInt_iv01 k (by omega)) rfl rfl, dus_row _ _ _ _ k hk (toInt_iv01 k (by omega)) rfl rfl]
  pointwise

section
variable (m : (ℓ : Loc nD τ sig) → Buf (Elt Ideal) ℓ) (c : Dev nD) (w f R : ℕ → Fin 24576 → EReal)
  (hw : ∀ (j : Fin 2047) (e : Fin 24576), E1 m c (Proc.devRef .tc main_v86_0) (ix3 j 0 e) = w j.val e)
  (hf : ∀ (j : Fin 2047) (e : Fin 24576), E1 m c (Proc.devRef .tc main_v86_1) (ix3 j 0 e) = f j.val e)
  (h0 : ∀ e : Fin 24576, E1 m c (Proc.devRef .tc main_v86_3) (ix2 0 e) = R 0 e)
  (hR : ∀ k e, R (k + 1) e = w k e * (f k e + R k e))
include hw hf h0 hR

/-- Before trip `k`: the stacks read are as at entry, the state is the `k`-th, and the rows before `k` of the stack written are done. -/
theorem inv1 : ∀ k, k ≤ 2047 → (∀ (j : Fin 2047) (e : Fin 24576), K1 m k c (Proc.devRef .tc main_v86_0) (ix3 j 0 e) = w j.val e) ∧
    (∀ (j : Fin 2047) (e : Fin 24576), K1 m k c (Proc.devRef .tc main_v86_1) (ix3 j 0 e) = f j.val e) ∧
    (∀ e : Fin 24576, K1 m k c (Proc.devRef .tc main_v86_3) (ix2 0 e) = R k e) ∧
    (∀ (j : Fin 2047) (e : Fin 24576), j.val < k → K1 m k c (Proc.devRef .tc main_v86_4) (ix3 j 0 e) = R (j.val + 1) e) := by
  intro k
  induction k with
  | zero => exact fun _ => ⟨hw, hf, h0, fun j e h => absurd h (Nat.not_lt_zero _)⟩
  | succ k ih =>
    intro hk
    have hk' : k < 2047 := hk
    obtain ⟨i0, i1, i3, i4⟩ := ih (Nat.le_of_lt hk')
    have hn : K1 m (k + 1) c = after b1 (after c1 (K1 m k c)) := rfl
    rw [hn]
    have q : ∀ r, r ∉ c1_W → after c1 (K1 m k c) (Proc.devRef .tc r) = K1 m k c (Proc.devRef .tc r) := fun r h => after_of_writes_sub c1 _ c1_writes h
    have hc : after c1 (K1 m k c) (Proc.devRef .tc main_v86_2) = fun _ => Scf.iv 0#32 1#32 k := (q _ (by decide)).trans (K1_ctr m c k)
    have q0 := q main_v86_0 (by decide)
    have q1 := q main_v86_1 (by decide)
    have q3 := q main_v86_3 (by decide)
    have q4 := q main_v86_4 (by decide)
    generalize after c1 (K1 m k c) = X at *
    have new : ∀ e : Fin 24576, (E (X (Proc.devRef .tc main_v86_0) (ix3 ⟨k, hk⟩ 0 e)) * (E (X (Proc.devRef .tc main_v86_1) (ix3 ⟨k, hk⟩ 0 e)) + E (X (Proc.devRef .tc main_v86_3) (ix2 0 e))) : EReal) = R (k + 1) e := by
      intro e
      rw [q0, q1, q3]
      unfold E
      rw [i0 ⟨k, hk'⟩ e, i1 ⟨k, hk'⟩ e, i3 e, hR]
    refine ⟨fun j e => ?_, fun j e => ?_, fun e => ?_, fun j e hj => ?_⟩
    · rw [after_of_writes_sub b1 X b1_writes (by decide), q0]; exact i0 j e
    · rw [after_of_writes_sub b1 X b1_writes (by decide), q1]; exact i1 j e
    · exact (state1 X k hk' hc e).trans (new e)
    · refine (stack1 X k hk' hc e j).trans ?_
      by_cases h : j.val = k
      · rw [if_pos h, new e, h]
      · rw [if_neg h, q4]
        exact i4 j e (by omega)

theorem done1 (j : Fin 2047) (e : Fin 24576) : Z1 m c (Proc.devRef .tc main_v86_4) (ix3 j 0 e) = R (j.val + 1) e := by
  have hz : Z1 m c (Proc.devRef .tc main_v86_4) = K1 m 2047 c (Proc.devRef .tc main_v86_4) := after_of_writes_sub c1 _ c1_writes (by decide)
  rw [hz]
  exact (inv1 m c w f R hw hf h0 hR 2047 (Nat.le_refl _)).2.2.2 j e j.isLt
end

/-- What the loop does not write it leaves. -/
theorem Z1_of (m : (ℓ : Loc nD τ sig) → Buf (Elt Ideal) ℓ) (c : Dev nD) (r : Ref sig .tc) (hc : r ∉ c1_W) (hb : r ∉ b1_W) : Z1 m c (Proc.devRef .tc r) = E1 m c (Proc.devRef .tc r) := by
  have hK : ∀ k, K1 m k c (Proc.devRef .tc r) = E1 m c (Proc.devRef .tc r) := by
    intro k
    induction k with
    | zero => rfl
    | succ k ih =>
      have hn : K1 m (k + 1) c = after b1 (after c1 (K1 m k c)) := rfl
      rw [hn, after_of_writes_sub b1 _ b1_writes hb, after_of_writes_sub c1 _ c1_writes hc, ih]
  exact (after_of_writes_sub c1 _ c1_writes hc).trans (hK 2047)

/-! ## Loop 2 -/

theorem state2 (X : Valuation τ sig (Elt Ideal)) (k : ℕ) (hk : k < 2048) (hc : X (Proc.devRef .tc main_v98_2) = fun _ => Scf.iv 0#32 1#32 k) (e : Fin 24576) :
    after b2 X (Proc.devRef .tc main_v98_3) (ix2 0 e) = (E (X (Proc.devRef .tc main_v98_0) (ix3 ⟨k, hk⟩ 0 e)) * E (X (Proc.devRef .tc main_v98_3) (ix2 0 e)) + E (X (Proc.devRef .tc main_v98_1) (ix3 ⟨k, hk⟩ 0 e)) : EReal) := by
  unfold E
  after_reads_simp [unaryIndexed_result_read, indexContents_tref_cons, indexContents_tref_empty]
  simp -implicitDefEqProofs only [StableHlo.TRef.toBuf, StableHlo.TRef.ofBuf, cast_cast, cast_eq, id_eq, hc]
  clean_types
  rw [ds_row _ _ _ k hk (toInt_iv01 k hk) rfl rfl, ds_row _ _ _ k hk (toInt_iv01 k hk) rfl rfl]
  pointwise
theorem stack2 (X : Valuation τ sig (Elt Ideal)) (k : ℕ) (hk : k < 2048) (hc : X (Proc.devRef .tc main_v98_2) = fun _ => Scf.iv 0#32 1#32 k) (e : Fin 24576) (j : Fin 2048) :
    after b2 X (Proc.devRef .tc main_v98_4) (ix3 j 0 e) = (if j.val = k then E (X (Proc.devRef .tc main_v98_0) (ix3 ⟨k, hk⟩ 0 e)) * E (X (Proc.devRef .tc main_v98_3) (ix2 0 e)) + E (X (Proc.devRef .tc main_v98_1) (ix3 ⟨k, hk⟩ 0 e)) else E (X (Proc.devRef .tc main_v98_4) (ix3 j 0 e)) : EReal) := by
  unfold E
  after_reads_simp [unaryIndexed_result_read, binaryIndexed_result_read, indexContents_tref_cons, indexContents_tref_empty]
  simp -implicitDefEqProofs only [StableHlo.TRef.toBuf, StableHlo.TRef.ofBuf, cast_cast, cast_eq, id_eq, hc]
  clean_types
  rw [ds_row _ _ _ k hk (toInt_iv01 k hk) rfl rfl, ds_row _ _ _ k hk (toInt_iv01 k hk) rfl rfl, dus_row _ _ _ _ k hk (toInt_iv01 k hk) rfl rfl]
  pointwise

section
variable (m : (ℓ : Loc nD τ sig) → Buf (Elt Ideal) ℓ) (c : Dev nD) (w f R : ℕ → Fin 24576 → EReal)
  (hw : ∀ (j : Fin 2048) (e : Fin 24576), E2 m c (Proc.devRef .tc main_v98_0) (ix3 j 0 e) = w j.val e)
  (hf : ∀ (j : Fin 2048) (e : Fin 24576), E2 m c (Proc.devRef .tc main_v98_1) (ix3 j 0 e) = f j.val e)
  (h0 : ∀ e : Fin 24576, E2 m c (Proc.devRef .tc main_v98_3) (ix2 0 e) = R 0 e)
  (hR : ∀ k e, R (k + 1) e = w k e * R k e + f k e)
include hw hf h0 hR

/-- Before trip `k`: the stacks read are as at entry, the state is the `k`-th, and the rows before `k` of the stack written are done. -/
theorem inv2 : ∀ k, k ≤ 2048 → (∀ (j : Fin 2048) (e : Fin 24576), K2 m k c (Proc.devRef .tc main_v98_0) (ix3 j 0 e) = w j.val e) ∧
    (∀ (j : Fin 2048) (e : Fin 24576), K2 m k c (Proc.devRef .tc main_v98_1) (ix3 j 0 e) = f j.val e) ∧
    (∀ e : Fin 24576, K2 m k c (Proc.devRef .tc main_v98_3) (ix2 0 e) = R k e) ∧
    (∀ (j : Fin 2048) (e : Fin 24576), j.val < k → K2 m k c (Proc.devRef .tc main_v98_4) (ix3 j 0 e) = R (j.val + 1) e) := by
  intro k
  induction k with
  | zero => exact fun _ => ⟨hw, hf, h0, fun j e h => absurd h (Nat.not_lt_zero _)⟩
  | succ k ih =>
    intro hk
    have hk' : k < 2048 := hk
    obtain ⟨i0, i1, i3, i4⟩ := ih (Nat.le_of_lt hk')
    have hn : K2 m (k + 1) c = after b2 (after c2 (K2 m k c)) := rfl
    rw [hn]
    have q : ∀ r, r ∉ c2_W → after c2 (K2 m k c) (Proc.devRef .tc r) = K2 m k c (Proc.devRef .tc r) := fun r h => after_of_writes_sub c2 _ c2_writes h
    have hc : after c2 (K2 m k c) (Proc.devRef .tc main_v98_2) = fun _ => Scf.iv 0#32 1#32 k := (q _ (by decide)).trans (K2_ctr m c k)
    have q0 := q main_v98_0 (by decide)
    have q1 := q main_v98_1 (by decide)
    have q3 := q main_v98_3 (by decide)
    have q4 := q main_v98_4 (by decide)
    generalize after c2 (K2 m k c) = X at *
    have new : ∀ e : Fin 24576, (E (X (Proc.devRef .tc main_v98_0) (ix3 ⟨k, hk⟩ 0 e)) * E (X (Proc.devRef .tc main_v98_3) (ix2 0 e)) + E (X (Proc.devRef .tc main_v98_1) (ix3 ⟨k, hk⟩ 0 e)) : EReal) = R (k + 1) e := by
      intro e
      rw [q0, q1, q3]
      unfold E
      rw [i0 ⟨k, hk'⟩ e, i1 ⟨k, hk'⟩ e, i3 e, hR]
    refine ⟨fun j e => ?_, fun j e => ?_, fun e => ?_, fun j e hj => ?_⟩
    · rw [after_of_writes_sub b2 X b2_writes (by decide), q0]; exact i0 j e
    · rw [after_of_writes_sub b2 X b2_writes (by decide), q1]; exact i1 j e
    · exact (state2 X k hk' hc e).trans (new e)
    · refine (stack2 X k hk' hc e j).trans ?_
      by_cases h : j.val = k
      · rw [if_pos h, new e, h]
      · rw [if_neg h, q4]
        exact i4 j e (by omega)

theorem done2 (j : Fin 2048) (e : Fin 24576) : Z2 m c (Proc.devRef .tc main_v98_4) (ix3 j 0 e) = R (j.val + 1) e := by
  have hz : Z2 m c (Proc.devRef .tc main_v98_4) = K2 m 2048 c (Proc.devRef .tc main_v98_4) := after_of_writes_sub c2 _ c2_writes (by decide)
  rw [hz]
  exact (inv2 m c w f R hw hf h0 hR 2048 (Nat.le_refl _)).2.2.2 j e j.isLt
end

/-- What the loop does not write it leaves. -/
theorem Z2_of (m : (ℓ : Loc nD τ sig) → Buf (Elt Ideal) ℓ) (c : Dev nD) (r : Ref sig .tc) (hc : r ∉ c2_W) (hb : r ∉ b2_W) : Z2 m c (Proc.devRef .tc r) = E2 m c (Proc.devRef .tc r) := by
  have hK : ∀ k, K2 m k c (Proc.devRef .tc r) = E2 m c (Proc.devRef .tc r) := by
    intro k
    induction k with
    | zero => rfl
    | succ k ih =>
      have hn : K2 m (k + 1) c = after b2 (after c2 (K2 m k c)) := rfl
      rw [hn, after_of_writes_sub b2 _ b2_writes hb, after_of_writes_sub c2 _ c2_writes hc, ih]
  exact (after_of_writes_sub c2 _ c2_writes hc).trans (hK 2048)

/-! ## Loop 3 -/

theorem state3 (X : Valuation τ sig (Elt Ideal)) (k : ℕ) (hk : k < 2047) (hc : X (Proc.devRef .tc main_v105_2) = fun _ => Scf.iv 0#32 1#32 k) (e : Fin 24576) :
    after b3 X (Proc.devRef .tc main_v105_3) (ix2 0 e) = (E (X (Proc.devRef .tc main_v105_0) (ix3 ⟨k, hk⟩ 0 e)) * (E (X (Proc.devRef .tc main_v105_1) (ix3 ⟨k, hk⟩ 0 e)) + E (X (Proc.devRef .tc main_v105_3) (ix2 0 e))) : EReal) := by
  unfold E
  after_reads_simp [unaryIndexed_result_read, indexContents_tref_cons, indexContents_tref_empty]
  simp -implicitDefEqProofs only [StableHlo.TRef.toBuf, StableHlo.TRef.ofBuf, cast_cast, cast_eq, id_eq, hc]
  clean_types
  rw [ds_row _ _ _ k hk (toInt_iv01 k (by omega)) rfl rfl, ds_row _ _ _ k hk (toInt_iv01 k (by omega)) rfl rfl]
  pointwise
theorem stack3 (X : Valuation τ sig (Elt Ideal)) (k : ℕ) (hk : k < 2047) (hc : X (Proc.devRef .tc main_v105_2) = fun _ => Scf.iv 0#32 1#32 k) (e : Fin 24576) (j : Fin 2047) :
    after b3 X (Proc.devRef .tc main_v105_4) (ix3 j 0 e) = (if j.val = k then E (X (Proc.devRef .tc main_v105_0) (ix3 ⟨k, hk⟩ 0 e)) * (E (X (Proc.devRef .tc main_v105_1) (ix3 ⟨k, hk⟩ 0 e)) + E (X (Proc.devRef .tc main_v105_3) (ix2 0 e))) else E (X (Proc.devRef .tc main_v105_4) (ix3 j 0 e)) : EReal) := by
  unfold E
  after_reads_simp [unaryIndexed_result_read, binaryIndexed_result_read, indexContents_tref_cons, indexContents_tref_empty]
  simp -implicitDefEqProofs only [StableHlo.TRef.toBuf, StableHlo.TRef.ofBuf, cast_cast, cast_eq, id_eq, hc]
  clean_types
  rw [ds_row _ _ _ k hk (toInt_iv01 k (by omega)) rfl rfl, ds_row _ _ _ k hk (toInt_iv01 k (by omega)) rfl rfl, dus_row _ _ _ _ k hk (toInt_iv01 k (by omega)) rfl rfl]
  pointwise

section
variable (m : (ℓ : Loc nD τ sig) → Buf (Elt Ideal) ℓ) (c : Dev nD) (w f R : ℕ → Fin 24576 → EReal)
  (hw : ∀ (j : Fin 2047) (e : Fin 24576), E3 m c (Proc.devRef .tc main_v105_0) (ix3 j 0 e) = w j.val e)
  (hf : ∀ (j : Fin 2047) (e : Fin 24576), E3 m c (Proc.devRef .tc main_v105_1) (ix3 j 0 e) = f j.val e)
  (h0 : ∀ e : Fin 24576, E3 m c (Proc.devRef .tc main_v105_3) (ix2 0 e) = R 0 e)
  (hR : ∀ k e, R (k + 1) e = w k e * (f k e + R k e))
include hw hf h0 hR

/-- Before trip `k`: the stacks read are as at entry, the state is the `k`-th, and the rows before `k` of the stack written are done. -/
theorem inv3 : ∀ k, k ≤ 2047 → (∀ (j : Fin 2047) (e : Fin 24576), K3 m k c (Proc.devRef .tc main_v105_0) (ix3 j 0 e) = w j.val e) ∧
    (∀ (j : Fin 2047) (e : Fin 24576), K3 m k c (Proc.devRef .tc main_v105_1) (ix3 j 0 e) = f j.val e) ∧
    (∀ e : Fin 24576, K3 m k c (Proc.devRef .tc main_v105_3) (ix2 0 e) = R k e) ∧
    (∀ (j : Fin 2047) (e : Fin 24576), j.val < k → K3 m k c (Proc.devRef .tc main_v105_4) (ix3 j 0 e) = R (j.val + 1) e) := by
  intro k
  induction k with
  | zero => exact fun _ => ⟨hw, hf, h0, fun j e h => absurd h (Nat.not_lt_zero _)⟩
  | succ k ih =>
    intro hk
    have hk' : k < 2047 := hk
    obtain ⟨i0, i1, i3, i4⟩ := ih (Nat.le_of_lt hk')
    have hn : K3 m (k + 1) c = after b3 (after c3 (K3 m k c)) := rfl
    rw [hn]
    have q : ∀ r, r ∉ c3_W → after c3 (K3 m k c) (Proc.devRef .tc r) = K3 m k c (Proc.devRef .tc r) := fun r h => after_of_writes_sub c3 _ c3_writes h
    have hc : after c3 (K3 m k c) (Proc.devRef .tc main_v105_2) = fun _ => Scf.iv 0#32 1#32 k := (q _ (by decide)).trans (K3_ctr m c k)
    have q0 := q main_v105_0 (by decide)
    have q1 := q main_v105_1 (by decide)
    have q3 := q main_v105_3 (by decide)
    have q4 := q main_v105_4 (by decide)
    generalize after c3 (K3 m k c) = X at *
    have new : ∀ e : Fin 24576, (E (X (Proc.devRef .tc main_v105_0) (ix3 ⟨k, hk⟩ 0 e)) * (E (X (Proc.devRef .tc main_v105_1) (ix3 ⟨k, hk⟩ 0 e)) + E (X (Proc.devRef .tc main_v105_3) (ix2 0 e))) : EReal) = R (k + 1) e := by
      intro e
      rw [q0, q1, q3]
      unfold E
      rw [i0 ⟨k, hk'⟩ e, i1 ⟨k, hk'⟩ e, i3 e, hR]
    refine ⟨fun j e => ?_, fun j e => ?_, fun e => ?_, fun j e hj => ?_⟩
    · rw [after_of_writes_sub b3 X b3_writes (by decide), q0]; exact i0 j e
    · rw [after_of_writes_sub b3 X b3_writes (by decide), q1]; exact i1 j e
    · exact (state3 X k hk' hc e).trans (new e)
    · refine (stack3 X k hk' hc e j).trans ?_
      by_cases h : j.val = k
      · rw [if_pos h, new e, h]
      · rw [if_neg h, q4]
        exact i4 j e (by omega)

theorem done3 (j : Fin 2047) (e : Fin 24576) : Z3 m c (Proc.devRef .tc main_v105_4) (ix3 j 0 e) = R (j.val + 1) e := by
  have hz : Z3 m c (Proc.devRef .tc main_v105_4) = K3 m 2047 c (Proc.devRef .tc main_v105_4) := after_of_writes_sub c3 _ c3_writes (by decide)
  rw [hz]
  exact (inv3 m c w f R hw hf h0 hR 2047 (Nat.le_refl _)).2.2.2 j e j.isLt
end

/-- What the loop does not write it leaves. -/
theorem Z3_of (m : (ℓ : Loc nD τ sig) → Buf (Elt Ideal) ℓ) (c : Dev nD) (r : Ref sig .tc) (hc : r ∉ c3_W) (hb : r ∉ b3_W) : Z3 m c (Proc.devRef .tc r) = E3 m c (Proc.devRef .tc r) := by
  have hK : ∀ k, K3 m k c (Proc.devRef .tc r) = E3 m c (Proc.devRef .tc r) := by
    intro k
    induction k with
    | zero => rfl
    | succ k ih =>
      have hn : K3 m (k + 1) c = after b3 (after c3 (K3 m k c)) := rfl
      rw [hn, after_of_writes_sub b3 _ b3_writes hb, after_of_writes_sub c3 _ c3_writes hc, ih]
  exact (after_of_writes_sub c3 _ c3_writes hc).trans (hK 2047)

end Cert.ReferenceIdeal.Hand
-- ==== Proof.RefVal.lean ====
/- What the reference's buffers hold through its run, and its result, at an index. -/
module

public import proofs.«01_k».proof.Proof.RefStep
@[expose] public section

set_option maxRecDepth 16384

noncomputable section

namespace Cert.ReferenceIdeal.Hand

open Idealize.ShloMosaic Idealize.ShloMosaic.TcCoe Idealize.ShloMosaic.Tactic Idealize.ShloMosaic.StableHlo
open Cert.ReferenceIdeal.Facts₀ Cert.ReferenceIdeal.Facts
open Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-- The arguments as the mathematics takes them. -/
def rIn : In where
  X l k := if h : l < 2048 then arg m c main_arg0 (ix3 0 ⟨l, h⟩ k) else (0 : EReal)
  Wi k j := arg m c main_arg2 (ix2 k j)
  cw d k := arg m c main_arg3 (ix2 d k)
  cb d := arg m c main_arg4 (ix1 d)
  Wx d j := arg m c main_arg5 (ix2 d j)
  Wd q d := arg m c main_arg6 (ix2 q d)
  bd d := arg m c main_arg7 (ix1 d)
  Al d n := arg m c main_arg8 (ix2 d n)
  D d := arg m c main_arg9 (ix1 d)
  Wo d e := arg m c main_arg10 (ix2 d e)

theorem rX (l : ℕ) (h : l < 2048) (k : Fin 768) : (rIn m c).X l k = arg m c main_arg0 (ix3 0 ⟨l, h⟩ k) := dif_pos h

/-- A row's channel and its state. -/
def dd (e : Fin 24576) : Fin 1536 := ⟨e.val / 16, by omega⟩
def nn (e : Fin 24576) : Fin 16 := ⟨e.val % 16, by omega⟩
theorem row_dn (e : Fin 24576) : row (dd e) (nn e) = e := by
  apply Fin.ext
  show e.val / 16 * 16 + e.val % 16 = e.val
  omega
theorem dd_row (d : Fin 1536) (n : Fin 16) : dd (row d n) = d := by
  apply Fin.ext
  show (d.val * 16 + n.val) / 16 = d.val
  omega
theorem nn_row (d : Fin 1536) (n : Fin 16) : nn (row d n) = n := by
  apply Fin.ext
  show (d.val * 16 + n.val) % 16 = n.val
  omega

/-! ## The stages -/

abbrev P0 : Valuation τ sig (Elt Ideal) := X0 m c
abbrev P1 : Valuation τ sig (Elt Ideal) := after s0_0 (P0 m c)
theorem P1_of (r : Ref sig .tc) (h : r ∉ s0_0_W) : P1 m c (Proc.devRef .tc r) = P0 m c (Proc.devRef .tc r) := after_of_writes_sub s0_0 _ s0_0_writes h
abbrev P2 : Valuation τ sig (Elt Ideal) := after s0_1 (P1 m c)
theorem P2_of (r : Ref sig .tc) (h : r ∉ s0_1_W) : P2 m c (Proc.devRef .tc r) = P1 m c (Proc.devRef .tc r) := after_of_writes_sub s0_1 _ s0_1_writes h
abbrev P3 : Valuation τ sig (Elt Ideal) := after s0_2 (P2 m c)
theorem P3_of (r : Ref sig .tc) (h : r ∉ s0_2_W) : P3 m c (Proc.devRef .tc r) = P2 m c (Proc.devRef .tc r) := after_of_writes_sub s0_2 _ s0_2_writes h
abbrev P4 : Valuation τ sig (Elt Ideal) := after s0_3 (P3 m c)
theorem P4_of (r : Ref sig .tc) (h : r ∉ s0_3_W) : P4 m c (Proc.devRef .tc r) = P3 m c (Proc.devRef .tc r) := after_of_writes_sub s0_3 _ s0_3_writes h
abbrev P5 : Valuation τ sig (Elt Ideal) := after s0_4 (P4 m c)
theorem P5_of (r : Ref sig .tc) (h : r ∉ s0_4_W) : P5 m c (Proc.devRef .tc r) = P4 m c (Proc.devRef .tc r) := after_of_writes_sub s0_4 _ s0_4_writes h
abbrev P6 : Valuation τ sig (Elt Ideal) := after s0_5 (P5 m c)
theorem P6_of (r : Ref sig .tc) (h : r ∉ s0_5_W) : P6 m c (Proc.devRef .tc r) = P5 m c (Proc.devRef .tc r) := after_of_writes_sub s0_5 _ s0_5_writes h
abbrev P7 : Valuation τ sig (Elt Ideal) := after s0_6 (P6 m c)
theorem P7_of (r : Ref sig .tc) (h : r ∉ s0_6_W) : P7 m c (Proc.devRef .tc r) = P6 m c (Proc.devRef .tc r) := after_of_writes_sub s0_6 _ s0_6_writes h
abbrev P8 : Valuation τ sig (Elt Ideal) := after s0_7 (P7 m c)
theorem P8_of (r : Ref sig .tc) (h : r ∉ s0_7_W) : P8 m c (Proc.devRef .tc r) = P7 m c (Proc.devRef .tc r) := after_of_writes_sub s0_7 _ s0_7_writes h
abbrev P9 : Valuation τ sig (Elt Ideal) := after s0_8 (P8 m c)
theorem P9_of (r : Ref sig .tc) (h : r ∉ s0_8_W) : P9 m c (Proc.devRef .tc r) = P8 m c (Proc.devRef .tc r) := after_of_writes_sub s0_8 _ s0_8_writes h
abbrev P10 : Valuation τ sig (Elt Ideal) := after s0_9 (P9 m c)
theorem P10_of (r : Ref sig .tc) (h : r ∉ s0_9_W) : P10 m c (Proc.devRef .tc r) = P9 m c (Proc.devRef .tc r) := after_of_writes_sub s0_9 _ s0_9_writes h
abbrev P11 : Valuation τ sig (Elt Ideal) := after s0_10 (P10 m c)
theorem P11_of (r : Ref sig .tc) (h : r ∉ s0_10_W) : P11 m c (Proc.devRef .tc r) = P10 m c (Proc.devRef .tc r) := after_of_writes_sub s0_10 _ s0_10_writes h
abbrev P12 : Valuation τ sig (Elt Ideal) := Z0 m c
theorem P12_of (r : Ref sig .tc) (h : r ∉ c0_W ∧ r ∉ b0_W) : P12 m c (Proc.devRef .tc r) = P11 m c (Proc.devRef .tc r) := Z0_of m c r h.1 h.2
abbrev P13 : Valuation τ sig (Elt Ideal) := after s1_0 (P12 m c)
theorem P13_of (r : Ref sig .tc) (h : r ∉ s1_0_W) : P13 m c (Proc.devRef .tc r) = P12 m c (Proc.devRef .tc r) := after_of_writes_sub s1_0 _ s1_0_writes h
abbrev P14 : Valuation τ sig (Elt Ideal) := Z1 m c
theorem P14_of (r : Ref sig .tc) (h : r ∉ c1_W ∧ r ∉ b1_W) : P14 m c (Proc.devRef .tc r) = P13 m c (Proc.devRef .tc r) := Z1_of m c r h.1 h.2
abbrev P15 : Valuation τ sig (Elt Ideal) := after s2_0 (P14 m c)
theorem P15_of (r : Ref sig .tc) (h : r ∉ s2_0_W) : P15 m c (Proc.devRef .tc r) = P14 m c (Proc.devRef .tc r) := after_of_writes_sub s2_0 _ s2_0_writes h
abbrev P16 : Valuation τ sig (Elt Ideal) := after s2_1 (P15 m c)
theorem P16_of (r : Ref sig .tc) (h : r ∉ s2_1_W) : P16 m c (Proc.devRef .tc r) = P15 m c (Proc.devRef .tc r) := after_of_writes_sub s2_1 _ s2_1_writes h
abbrev P17 : Valuation τ sig (Elt Ideal) := after s2_2 (P16 m c)
theorem P17_of (r : Ref sig .tc) (h : r ∉ s2_2_W) : P17 m c (Proc.devRef .tc r) = P16 m c (Proc.devRef .tc r) := after_of_writes_sub s2_2 _ s2_2_writes h
abbrev P18 : Valuation τ sig (Elt Ideal) := after s2_3 (P17 m c)
theorem P18_of (r : Ref sig .tc) (h : r ∉ s2_3_W) : P18 m c (Proc.devRef .tc r) = P17 m c (Proc.devRef .tc r) := after_of_writes_sub s2_3 _ s2_3_writes h
abbrev P19 : Valuation τ sig (Elt Ideal) := after s2_4 (P18 m c)
theorem P19_of (r : Ref sig .tc) (h : r ∉ s2_4_W) : P19 m c (Proc.devRef .tc r) = P18 m c (Proc.devRef .tc r) := after_of_writes_sub s2_4 _ s2_4_writes h
abbrev P20 : Valuation τ sig (Elt Ideal) := after s2_5 (P19 m c)
theorem P20_of (r : Ref sig .tc) (h : r ∉ s2_5_W) : P20 m c (Proc.devRef .tc r) = P19 m c (Proc.devRef .tc r) := after_of_writes_sub s2_5 _ s2_5_writes h
abbrev P21 : Valuation τ sig (Elt Ideal) := after s2_6 (P20 m c)
theorem P21_of (r : Ref sig .tc) (h : r ∉ s2_6_W) : P21 m c (Proc.devRef .tc r) = P20 m c (Proc.devRef .tc r) := after_of_writes_sub s2_6 _ s2_6_writes h
abbrev P22 : Valuation τ sig (Elt Ideal) := Z2 m c
theorem P22_of (r : Ref sig .tc) (h : r ∉ c2_W ∧ r ∉ b2_W) : P22 m c (Proc.devRef .tc r) = P21 m c (Proc.devRef .tc r) := Z2_of m c r h.1 h.2
abbrev P23 : Valuation τ sig (Elt Ideal) := after s3_0 (P22 m c)
theorem P23_of (r : Ref sig .tc) (h : r ∉ s3_0_W) : P23 m c (Proc.devRef .tc r) = P22 m c (Proc.devRef .tc r) := after_of_writes_sub s3_0 _ s3_0_writes h
abbrev P24 : Valuation τ sig (Elt Ideal) := Z3 m c
theorem P24_of (r : Ref sig .tc) (h : r ∉ c3_W ∧ r ∉ b3_W) : P24 m c (Proc.devRef .tc r) = P23 m c (Proc.devRef .tc r) := Z3_of m c r h.1 h.2
abbrev P25 : Valuation τ sig (Elt Ideal) := after s4_0 (P24 m c)
theorem P25_of (r : Ref sig .tc) (h : r ∉ s4_0_W) : P25 m c (Proc.devRef .tc r) = P24 m c (Proc.devRef .tc r) := after_of_writes_sub s4_0 _ s4_0_writes h
abbrev P26 : Valuation τ sig (Elt Ideal) := after s4_1 (P25 m c)
theorem P26_of (r : Ref sig .tc) (h : r ∉ s4_1_W) : P26 m c (Proc.devRef .tc r) = P25 m c (Proc.devRef .tc r) := after_of_writes_sub s4_1 _ s4_1_writes h
abbrev P27 : Valuation τ sig (Elt Ideal) := after s4_2 (P26 m c)
theorem P27_of (r : Ref sig .tc) (h : r ∉ s4_2_W) : P27 m c (Proc.devRef .tc r) = P26 m c (Proc.devRef .tc r) := after_of_writes_sub s4_2 _ s4_2_writes h
abbrev P28 : Valuation τ sig (Elt Ideal) := after s4_3 (P27 m c)
theorem P28_of (r : Ref sig .tc) (h : r ∉ s4_3_W) : P28 m c (Proc.devRef .tc r) = P27 m c (Proc.devRef .tc r) := after_of_writes_sub s4_3 _ s4_3_writes h
abbrev P29 : Valuation τ sig (Elt Ideal) := after s4_4 (P28 m c)
theorem P29_of (r : Ref sig .tc) (h : r ∉ s4_4_W) : P29 m c (Proc.devRef .tc r) = P28 m c (Proc.devRef .tc r) := after_of_writes_sub s4_4 _ s4_4_writes h
theorem last_eq : XF m c = P29 m c := rfl

theorem v3_val (d : Fin 1536) (l : Fin 2048) : P1 m c (Proc.devRef .tc main_v3) (ix3 0 d l) = (rIn m c).p l.val (hi d) := by
  refine (r_v3 (P0 m c) d l).trans (Finset.sum_congr rfl fun k _ => ?_)
  rw [rX m c l.val l.isLt]
  rfl

theorem v4_val (d : Fin 1536) (i : ℕ) (h : i < 2051) : P1 m c (Proc.devRef .tc main_v4) (ix3 0 d ⟨i, h⟩) = (rIn m c).xs i d := by
  refine (r_v4 (P0 m c) d ⟨i, h⟩).trans ?_
  unfold In.xs
  by_cases hi : i < 3
  · rw [if_pos hi, if_pos hi]
  · rw [if_neg hi, if_neg hi]
    refine Finset.sum_congr rfl fun k _ => ?_
    rw [rX m c (i - 3) (by omega)]
    rfl

theorem k_arg4_1 : P1 m c (Proc.devRef .tc main_arg4) = arg m c main_arg4 := (P1_of m c main_arg4 (by decide))
theorem k_arg3_1 : P1 m c (Proc.devRef .tc main_arg3) = arg m c main_arg3 := (P1_of m c main_arg3 (by decide))
theorem v20_val (d : Fin 1536) (l : Fin 2048) : P2 m c (Proc.devRef .tc main_v20) (ix3 0 d l) = (rIn m c).cb d + (rIn m c).cw d 0 * (rIn m c).xs l.val d + (rIn m c).cw d 1 * (rIn m c).xs (l.val + 1) d := by
  refine (r_v20 (P1 m c) d l).trans ?_
  unfold E
  rw [k_arg4_1, k_arg3_1, v4_val, v4_val, Nat.add_comm 1]
  rfl

theorem k_arg3_2 : P2 m c (Proc.devRef .tc main_arg3) = arg m c main_arg3 := (P2_of m c main_arg3 (by decide)).trans ((P1_of m c main_arg3 (by decide)))
theorem k_v4_2 : P2 m c (Proc.devRef .tc main_v4) = P1 m c (Proc.devRef .tc main_v4) := (P2_of m c main_v4 (by decide))
theorem v34_val (d : Fin 1536) (l : Fin 2048) : P3 m c (Proc.devRef .tc main_v34) (ix3 0 d l) = (rIn m c).cv l.val d := by
  refine (r_v34 (P2 m c) d l).trans ?_
  unfold E
  rw [k_arg3_2, k_v4_2, v20_val, v4_val, v4_val, Nat.add_comm 2, Nat.add_comm 3]
  rfl

theorem v41_val (d : Fin 1536) (l : Fin 2048) : P4 m c (Proc.devRef .tc main_v41) (ix3 0 d l) = (rIn m c).h l.val d := by
  exact (r_v41 (P3 m c) d l).trans (congrArg silu (v34_val m c d l))

theorem k_arg5_4 : P4 m c (Proc.devRef .tc main_arg5) = arg m c main_arg5 := (P4_of m c main_arg5 (by decide)).trans ((P3_of m c main_arg5 (by decide)).trans ((P2_of m c main_arg5 (by decide)).trans ((P1_of m c main_arg5 (by decide)))))
theorem k_arg6_4 : P4 m c (Proc.devRef .tc main_arg6) = arg m c main_arg6 := (P4_of m c main_arg6 (by decide)).trans ((P3_of m c main_arg6 (by decide)).trans ((P2_of m c main_arg6 (by decide)).trans ((P1_of m c main_arg6 (by decide)))))
theorem k_arg7_4 : P4 m c (Proc.devRef .tc main_arg7) = arg m c main_arg7 := (P4_of m c main_arg7 (by decide)).trans ((P3_of m c main_arg7 (by decide)).trans ((P2_of m c main_arg7 (by decide)).trans ((P1_of m c main_arg7 (by decide)))))
theorem v44_val (l : Fin 2048) (n : Fin 16) : P5 m c (Proc.devRef .tc main_v44) (ix3 0 l n) = (rIn m c).B l.val n := by
  refine (r_v44 (P4 m c) l n).trans ?_
  unfold In.B In.sm E
  refine Finset.sum_congr rfl fun d _ => ?_
  rw [v41_val, k_arg5_4]
  rfl

theorem v45_val (l : Fin 2048) (n : Fin 16) : P5 m c (Proc.devRef .tc main_v45) (ix3 0 l n) = (rIn m c).C l.val n := by
  refine (r_v45 (P4 m c) l n).trans ?_
  unfold In.C In.sm E
  refine Finset.sum_congr rfl fun d _ => ?_
  rw [v41_val, k_arg5_4]
  rfl

theorem v49_val (l : Fin 2048) (d : Fin 1536) : P5 m c (Proc.devRef .tc main_v49) (ix3 0 l d) = (∑ r : Fin 48, (rIn m c).sm l.val (cT r) * (rIn m c).Wd r d) + (rIn m c).bd d := by
  refine (r_v49 (P4 m c) l d).trans ?_
  unfold E
  rw [k_arg6_4, k_arg7_4, k_arg5_4]
  refine congrArg (· + (rIn m c).bd d) (Finset.sum_congr rfl fun q _ => congrArg (· * (rIn m c).Wd q d) ?_)
  refine Finset.sum_congr rfl fun k _ => ?_
  rw [v41_val]
  rfl

theorem v51_val (d : Fin 1536) (l : Fin 2048) : P6 m c (Proc.devRef .tc main_v51) (ix3 0 d l) = (rIn m c).dt l.val d := by
  exact (r_v51 (P5 m c) l d).trans (congrArg sp (v49_val m c l d))

theorem k_arg8_6 : P6 m c (Proc.devRef .tc main_arg8) = arg m c main_arg8 := (P6_of m c main_arg8 (by decide)).trans ((P5_of m c main_arg8 (by decide)).trans ((P4_of m c main_arg8 (by decide)).trans ((P3_of m c main_arg8 (by decide)).trans ((P2_of m c main_arg8 (by decide)).trans ((P1_of m c main_arg8 (by decide)))))))
theorem k_v44_6 : P6 m c (Proc.devRef .tc main_v44) = P5 m c (Proc.devRef .tc main_v44) := (P6_of m c main_v44 (by decide))
theorem k_v41_6 : P6 m c (Proc.devRef .tc main_v41) = P4 m c (Proc.devRef .tc main_v41) := (P6_of m c main_v41 (by decide)).trans ((P5_of m c main_v41 (by decide)))
theorem v59_val (d : Fin 1536) (l : Fin 2048) (n : Fin 16) : P7 m c (Proc.devRef .tc main_v59) (ix4 0 d l n) = (rIn m c).w l.val n d := by
  refine (r_v59 (P6 m c) d l n).trans ?_
  unfold E
  rw [k_arg8_6, v51_val]
  rfl

theorem v67_val (d : Fin 1536) (l : Fin 2048) (n : Fin 16) : P7 m c (Proc.devRef .tc main_v67) (ix4 0 d l n) = (rIn m c).f l.val n d := by
  refine (r_v67 (P6 m c) d l n).trans ?_
  unfold E
  rw [v51_val, k_v44_6, v44_val, k_v41_6, v41_val]
  unfold In.f In.u
  rw [mul_comm ((rIn m c).dt l.val d) ((rIn m c).B l.val n), mul_assoc]

theorem v72_val (e : Fin 24576) (l : Fin 2048) : P8 m c (Proc.devRef .tc main_v72) (ix3 0 e l) = (rIn m c).f (2047 - l.val) (nn e) (dd e) := by
  have h := (r_v72 (P7 m c) (dd e) l (nn e)).trans (v67_val m c (dd e) l.rev (nn e))
  rw [row_dn, Fin.val_rev, show 2048 - (l.val + 1) = 2047 - l.val by omega] at h
  exact h

theorem v73_val (e : Fin 24576) (l : Fin 2048) : P8 m c (Proc.devRef .tc main_v73) (ix3 0 e l) = (rIn m c).w (2047 - l.val) (nn e) (dd e) := by
  have h := (r_v73 (P7 m c) (dd e) l (nn e)).trans (v59_val m c (dd e) l.rev (nn e))
  rw [row_dn, Fin.val_rev, show 2048 - (l.val + 1) = 2047 - l.val by omega] at h
  exact h

theorem c0_val (e : Fin 24576) : P9 m c (Proc.devRef .tc main_call4_v0) (ix3 0 e 0) = (rIn m c).w 0 (nn e) (dd e) := by
  exact (r_call4_v0 (P8 m c) e).trans (v73_val m c e 2047)

theorem c1_val (e : Fin 24576) (l : Fin 2047) : P9 m c (Proc.devRef .tc main_call4_v1) (ix3 0 e l) = (rIn m c).w (2047 - l.val) (nn e) (dd e) := by
  exact (r_call4_v1 (P8 m c) e l).trans (v73_val m c e _)

theorem v74_val (e : Fin 24576) (l : Fin 2048) : P10 m c (Proc.devRef .tc main_v74) (ix3 0 e l) = (rIn m c).w (if l.val = 0 then 0 else 2048 - l.val) (nn e) (dd e) := by
  refine (r_v74 (P9 m c) e l).trans ?_
  unfold E
  by_cases h : l.val < 1
  · rw [dif_pos h, if_pos (by omega)]
    have h0 : (⟨l.val, h⟩ : Fin 1) = 0 := Subsingleton.elim _ _
    rw [h0]
    exact c0_val m c e
  · rw [dif_neg h, if_neg (by omega), c1_val]
    show (rIn m c).w (2047 - (l.val - 1)) (nn e) (dd e) = _
    rw [show 2047 - (l.val - 1) = 2048 - l.val by omega]

theorem v76_val (e : Fin 24576) (l : Fin 2048) : P10 m c (Proc.devRef .tc main_v76) (ix3 l 0 e) = (rIn m c).w (if l.val = 0 then 0 else 2048 - l.val) (nn e) (dd e) := by
  refine (r_v76 (P9 m c) e l).trans ?_
  unfold E
  by_cases h : l.val < 1
  · rw [dif_pos h, if_pos (by omega)]
    have h0 : (⟨l.val, h⟩ : Fin 1) = 0 := Subsingleton.elim _ _
    rw [h0]
    exact c0_val m c e
  · rw [dif_neg h, if_neg (by omega), c1_val]
    show (rIn m c).w (2047 - (l.val - 1)) (nn e) (dd e) = _
    rw [show 2047 - (l.val - 1) = 2048 - l.val by omega]

theorem k_v72_9 : P9 m c (Proc.devRef .tc main_v72) = P8 m c (Proc.devRef .tc main_v72) := (P9_of m c main_v72 (by decide))
theorem v75_val (e : Fin 24576) (l : Fin 2048) : P10 m c (Proc.devRef .tc main_v75) (ix3 l 0 e) = (rIn m c).f (2047 - l.val) (nn e) (dd e) := by
  refine (r_v75 (P9 m c) e l).trans ?_
  unfold E
  rw [k_v72_9]
  exact v72_val m c e l

theorem first_scan (j : Fin 2048) (e : Fin 24576) : P12 m c (Proc.devRef .tc main_v79_4) (ix3 j 0 e) = (rIn m c).R0 (j.val + 1) (nn e) (dd e) :=
  done0 m c (fun l e => (rIn m c).w (if l = 0 then 0 else 2048 - l) (nn e) (dd e)) (fun l e => (rIn m c).f (2047 - l) (nn e) (dd e)) (fun k e => (rIn m c).R0 k (nn e) (dd e))
    (fun j e => (congrFun (r_v79_0 (P10 m c)) _).trans (v76_val m c e j)) (fun j e => (congrFun (r_v79_1 (P10 m c)) _).trans (v75_val m c e j))
    (fun e => (congrFun (r_v79_3 (P10 m c)) _).trans (r_v77 (P9 m c) e)) (fun k e => rfl) j e

theorem k_v75_12 : P12 m c (Proc.devRef .tc main_v75) = P10 m c (Proc.devRef .tc main_v75) := (P12_of m c main_v75 (by decide)).trans ((P11_of m c main_v75 (by decide)))
theorem k_v76_12 : P12 m c (Proc.devRef .tc main_v76) = P10 m c (Proc.devRef .tc main_v76) := (P12_of m c main_v76 (by decide)).trans ((P11_of m c main_v76 (by decide)))
theorem second_scan (j : Fin 2047) (e : Fin 24576) : P14 m c (Proc.devRef .tc main_v86_4) (ix3 j 0 e) = (rIn m c).R1 (j.val + 1) (nn e) (dd e) := by
  refine done1 m c (fun l e => (rIn m c).w (l + 1) (nn e) (dd e)) (fun l e => (rIn m c).f l (nn e) (dd e)) (fun k e => (rIn m c).R1 k (nn e) (dd e)) (fun j e => ?_) (fun j e => ?_)
    (fun e => r_v86_3 (P12 m c) e) (fun k e => rfl) j e
  · refine (r_v86_0 (P12 m c) e j).trans ?_
    unfold E
    rw [k_v76_12, v76_val]
    show (rIn m c).w (if 1 + j.rev.val = 0 then 0 else 2048 - (1 + j.rev.val)) (nn e) (dd e) = (rIn m c).w (j.val + 1) (nn e) (dd e)
    rw [Fin.val_rev, if_neg (by omega), show 2048 - (1 + (2047 - (j.val + 1))) = j.val + 1 by omega]
  · refine (r_v86_1 (P12 m c) e j).trans ?_
    unfold E
    rw [k_v75_12, v75_val]
    show (rIn m c).f (2047 - (1 + j.rev.val)) (nn e) (dd e) = (rIn m c).f j.val (nn e) (dd e)
    rw [Fin.val_rev, show 2047 - (1 + (2047 - (j.val + 1))) = j.val by omega]

theorem v87_val (e : Fin 24576) (l : Fin 2047) : P15 m c (Proc.devRef .tc main_v87) (ix3 l 0 e) = (rIn m c).R1 (2047 - l.val) (nn e) (dd e) := by
  refine (r_v87 (P14 m c) e l).trans ?_
  unfold E
  rw [second_scan, Fin.val_rev, show 2047 - (l.val + 1) + 1 = 2047 - l.val by omega]

theorem v91_tail (e : Fin 24576) (l : Fin 2048) : (if h : l.val < 2047 then E (P15 m c (Proc.devRef .tc main_v87) (ix3 ⟨l.val, h⟩ 0 e)) else E (P15 m c (Proc.devRef .tc main_v88) (ix3 ⟨l.val - 2047, by omega⟩ 0 e)) : EReal) = (rIn m c).R1 (2047 - l.val) (nn e) (dd e) := by
  unfold E
  by_cases h : l.val < 2047
  · rw [dif_pos h]
    exact v87_val m c e ⟨l.val, h⟩
  · rw [dif_neg h, show 2047 - l.val = 0 by omega]
    have h0 : (⟨l.val - 2047, by omega⟩ : Fin 1) = 0 := Subsingleton.elim _ _
    rw [h0]
    exact r_v88 (P14 m c) e

theorem k_v79_4_15 : P15 m c (Proc.devRef .tc main_v79_4) = P12 m c (Proc.devRef .tc main_v79_4) := (P15_of m c main_v79_4 (by decide)).trans ((P14_of m c main_v79_4 (by decide)).trans ((P13_of m c main_v79_4 (by decide))))
theorem v91_val (e : Fin 24576) (l : Fin 2048) : P16 m c (Proc.devRef .tc main_v91) (ix3 0 e l) = (rIn m c).R0 (l.val + 1) (nn e) (dd e) + (rIn m c).R1 (2047 - l.val) (nn e) (dd e) := by
  refine (r_v91 (P15 m c) e l).trans ?_
  rw [v91_tail, k_v79_4_15]
  unfold E
  rw [first_scan]

theorem k_call14_v5_18 : P18 m c (Proc.devRef .tc main_call14_v5) = P17 m c (Proc.devRef .tc main_call14_v5) := (P18_of m c main_call14_v5 (by decide))
theorem k_v74_18 : P18 m c (Proc.devRef .tc main_v74) = P10 m c (Proc.devRef .tc main_v74) := (P18_of m c main_v74 (by decide)).trans ((P17_of m c main_v74 (by decide)).trans ((P16_of m c main_v74 (by decide)).trans ((P15_of m c main_v74 (by decide)).trans ((P14_of m c main_v74 (by decide)).trans ((P13_of m c main_v74 (by decide)).trans ((P12_of m c main_v74 (by decide)).trans ((P11_of m c main_v74 (by decide)))))))))
theorem t12 (l : Fin 2048) : P18 m c (Proc.devRef .tc main_call14_v12) (ix1 l) = 1#1 := by
  exact r_t12 (P17 m c) l fun l => r_t11 (P16 m c) l

theorem k_call14_v12_19 : P19 m c (Proc.devRef .tc main_call14_v12) = P18 m c (Proc.devRef .tc main_call14_v12) := (P19_of m c main_call14_v12 (by decide))
theorem v93_val (e : Fin 24576) (l : Fin 2048) : P20 m c (Proc.devRef .tc main_v93) (ix3 0 e l) = (rIn m c).w (if l.val = 0 then 0 else 2048 - l.val) (nn e) (dd e) := by
  refine (r_t93 (P19 m c) e l fun l => by rw [k_call14_v12_19]; exact t12 m c l).trans ?_
  refine (r_t13 (P18 m c) e l fun l => by rw [k_call14_v5_18]; exact r_t5 (P16 m c) l).trans ?_
  rw [k_v74_18]
  exact v74_val m c e l

theorem k_v72_20 : P20 m c (Proc.devRef .tc main_v72) = P8 m c (Proc.devRef .tc main_v72) := (P20_of m c main_v72 (by decide)).trans ((P19_of m c main_v72 (by decide)).trans ((P18_of m c main_v72 (by decide)).trans ((P17_of m c main_v72 (by decide)).trans ((P16_of m c main_v72 (by decide)).trans ((P15_of m c main_v72 (by decide)).trans ((P14_of m c main_v72 (by decide)).trans ((P13_of m c main_v72 (by decide)).trans ((P12_of m c main_v72 (by decide)).trans ((P11_of m c main_v72 (by decide)).trans ((P10_of m c main_v72 (by decide)).trans ((P9_of m c main_v72 (by decide)))))))))))))
theorem v94_val (e : Fin 24576) (l : Fin 2048) : P21 m c (Proc.devRef .tc main_v94) (ix3 l 0 e) = (rIn m c).f (2047 - l.val) (nn e) (dd e) := by
  refine (r_v94 (P20 m c) e l).trans ?_
  unfold E
  rw [k_v72_20]
  exact v72_val m c e l

theorem v95_val (e : Fin 24576) (l : Fin 2048) : P21 m c (Proc.devRef .tc main_v95) (ix3 l 0 e) = (rIn m c).w (if l.val = 0 then 0 else 2048 - l.val) (nn e) (dd e) := by
  exact (r_v95 (P20 m c) e l).trans (v93_val m c e l)

theorem third_scan (j : Fin 2048) (e : Fin 24576) : P22 m c (Proc.devRef .tc main_v98_4) (ix3 j 0 e) = (rIn m c).R0 (j.val + 1) (nn e) (dd e) :=
  done2 m c (fun l e => (rIn m c).w (if l = 0 then 0 else 2048 - l) (nn e) (dd e)) (fun l e => (rIn m c).f (2047 - l) (nn e) (dd e)) (fun k e => (rIn m c).R0 k (nn e) (dd e))
    (fun j e => (r_v98_0 (P20 m c) e j).trans (v93_val m c e j))
    (fun j e => (r_v98_1 (P20 m c) e j).trans ((congrFun (k_v72_20 m c) _).trans (v72_val m c e j)))
    (fun e => r_v98_3 (P20 m c) e) (fun k e => rfl) j e

theorem k_v94_22 : P22 m c (Proc.devRef .tc main_v94) = P21 m c (Proc.devRef .tc main_v94) := (P22_of m c main_v94 (by decide))
theorem k_v95_22 : P22 m c (Proc.devRef .tc main_v95) = P21 m c (Proc.devRef .tc main_v95) := (P22_of m c main_v95 (by decide))
theorem fourth_scan (j : Fin 2047) (e : Fin 24576) : P24 m c (Proc.devRef .tc main_v105_4) (ix3 j 0 e) = (rIn m c).R1 (j.val + 1) (nn e) (dd e) := by
  refine done3 m c (fun l e => (rIn m c).w (l + 1) (nn e) (dd e)) (fun l e => (rIn m c).f l (nn e) (dd e)) (fun k e => (rIn m c).R1 k (nn e) (dd e)) (fun j e => ?_) (fun j e => ?_)
    (fun e => r_v105_3 (P22 m c) e) (fun k e => rfl) j e
  · refine (r_v105_0 (P22 m c) e j).trans ?_
    unfold E
    rw [k_v95_22, v95_val]
    show (rIn m c).w (if 1 + j.rev.val = 0 then 0 else 2048 - (1 + j.rev.val)) (nn e) (dd e) = (rIn m c).w (j.val + 1) (nn e) (dd e)
    rw [Fin.val_rev, if_neg (by omega), show 2048 - (1 + (2047 - (j.val + 1))) = j.val + 1 by omega]
  · refine (r_v105_1 (P22 m c) e j).trans ?_
    unfold E
    rw [k_v94_22, v94_val]
    show (rIn m c).f (2047 - (1 + j.rev.val)) (nn e) (dd e) = (rIn m c).f j.val (nn e) (dd e)
    rw [Fin.val_rev, show 2047 - (1 + (2047 - (j.val + 1))) = j.val by omega]

theorem v106_val (e : Fin 24576) (l : Fin 2047) : P25 m c (Proc.devRef .tc main_v106) (ix3 l 0 e) = (rIn m c).R1 (2047 - l.val) (nn e) (dd e) := by
  refine (r_v106 (P24 m c) e l).trans ?_
  unfold E
  rw [fourth_scan, Fin.val_rev, show 2047 - (l.val + 1) + 1 = 2047 - l.val by omega]

theorem v113_tail (e : Fin 24576) (l : Fin 2048) : (if h : l.val < 2047 then E (P25 m c (Proc.devRef .tc main_v106) (ix3 ⟨l.val, h⟩ 0 e)) else E (P25 m c (Proc.devRef .tc main_v107) (ix3 ⟨l.val - 2047, by omega⟩ 0 e)) : EReal) = (rIn m c).R1 (2047 - l.val) (nn e) (dd e) := by
  unfold E
  by_cases h : l.val < 2047
  · rw [dif_pos h]
    exact v106_val m c e ⟨l.val, h⟩
  · rw [dif_neg h, show 2047 - l.val = 0 by omega]
    have h0 : (⟨l.val - 2047, by omega⟩ : Fin 1) = 0 := Subsingleton.elim _ _
    rw [h0]
    exact r_v107 (P24 m c) e

theorem k_v98_4_25 : P25 m c (Proc.devRef .tc main_v98_4) = P22 m c (Proc.devRef .tc main_v98_4) := (P25_of m c main_v98_4 (by decide)).trans ((P24_of m c main_v98_4 (by decide)).trans ((P23_of m c main_v98_4 (by decide))))
theorem k_v91_25 : P25 m c (Proc.devRef .tc main_v91) = P16 m c (Proc.devRef .tc main_v91) := (P25_of m c main_v91 (by decide)).trans ((P24_of m c main_v91 (by decide)).trans ((P23_of m c main_v91 (by decide)).trans ((P22_of m c main_v91 (by decide)).trans ((P21_of m c main_v91 (by decide)).trans ((P20_of m c main_v91 (by decide)).trans ((P19_of m c main_v91 (by decide)).trans ((P18_of m c main_v91 (by decide)).trans ((P17_of m c main_v91 (by decide))))))))))
theorem v113_val (e : Fin 24576) (l : Fin 2048) : P26 m c (Proc.devRef .tc main_v113) (ix3 0 e l) = ((rIn m c).R0 (l.val + 1) (nn e) (dd e) + (rIn m c).R1 (2047 - l.val) (nn e) (dd e)) * ((10066330 / 33554432 : ℝ) : EReal) + ((rIn m c).R0 (l.val + 1) (nn e) (dd e) + (rIn m c).R1 (2047 - l.val) (nn e) (dd e)) := by
  refine (r_v113 (P25 m c) e l).trans ?_
  rw [v113_tail, k_v98_4_25, k_v91_25]
  unfold E
  rw [third_scan, v91_val]

theorem k_v45_26 : P26 m c (Proc.devRef .tc main_v45) = P5 m c (Proc.devRef .tc main_v45) := (P26_of m c main_v45 (by decide)).trans ((P25_of m c main_v45 (by decide)).trans ((P24_of m c main_v45 (by decide)).trans ((P23_of m c main_v45 (by decide)).trans ((P22_of m c main_v45 (by decide)).trans ((P21_of m c main_v45 (by decide)).trans ((P20_of m c main_v45 (by decide)).trans ((P19_of m c main_v45 (by decide)).trans ((P18_of m c main_v45 (by decide)).trans ((P17_of m c main_v45 (by decide)).trans ((P16_of m c main_v45 (by decide)).trans ((P15_of m c main_v45 (by decide)).trans ((P14_of m c main_v45 (by decide)).trans ((P13_of m c main_v45 (by decide)).trans ((P12_of m c main_v45 (by decide)).trans ((P11_of m c main_v45 (by decide)).trans ((P10_of m c main_v45 (by decide)).trans ((P9_of m c main_v45 (by decide)).trans ((P8_of m c main_v45 (by decide)).trans ((P7_of m c main_v45 (by decide)).trans ((P6_of m c main_v45 (by decide))))))))))))))))))))))
theorem k_v41_26 : P26 m c (Proc.devRef .tc main_v41) = P4 m c (Proc.devRef .tc main_v41) := (P26_of m c main_v41 (by decide)).trans ((P25_of m c main_v41 (by decide)).trans ((P24_of m c main_v41 (by decide)).trans ((P23_of m c main_v41 (by decide)).trans ((P22_of m c main_v41 (by decide)).trans ((P21_of m c main_v41 (by decide)).trans ((P20_of m c main_v41 (by decide)).trans ((P19_of m c main_v41 (by decide)).trans ((P18_of m c main_v41 (by decide)).trans ((P17_of m c main_v41 (by decide)).trans ((P16_of m c main_v41 (by decide)).trans ((P15_of m c main_v41 (by decide)).trans ((P14_of m c main_v41 (by decide)).trans ((P13_of m c main_v41 (by decide)).trans ((P12_of m c main_v41 (by decide)).trans ((P11_of m c main_v41 (by decide)).trans ((P10_of m c main_v41 (by decide)).trans ((P9_of m c main_v41 (by decide)).trans ((P8_of m c main_v41 (by decide)).trans ((P7_of m c main_v41 (by decide)).trans ((P6_of m c main_v41 (by decide)).trans ((P5_of m c main_v41 (by decide)))))))))))))))))))))))
theorem k_arg9_26 : P26 m c (Proc.devRef .tc main_arg9) = arg m c main_arg9 := (P26_of m c main_arg9 (by decide)).trans ((P25_of m c main_arg9 (by decide)).trans ((P24_of m c main_arg9 (by decide)).trans ((P23_of m c main_arg9 (by decide)).trans ((P22_of m c main_arg9 (by decide)).trans ((P21_of m c main_arg9 (by decide)).trans ((P20_of m c main_arg9 (by decide)).trans ((P19_of m c main_arg9 (by decide)).trans ((P18_of m c main_arg9 (by decide)).trans ((P17_of m c main_arg9 (by decide)).trans ((P16_of m c main_arg9 (by decide)).trans ((P15_of m c main_arg9 (by decide)).trans ((P14_of m c main_arg9 (by decide)).trans ((P13_of m c main_arg9 (by decide)).trans ((P12_of m c main_arg9 (by decide)).trans ((P11_of m c main_arg9 (by decide)).trans ((P10_of m c main_arg9 (by decide)).trans ((P9_of m c main_arg9 (by decide)).trans ((P8_of m c main_arg9 (by decide)).trans ((P7_of m c main_arg9 (by decide)).trans ((P6_of m c main_arg9 (by decide)).trans ((P5_of m c main_arg9 (by decide)).trans ((P4_of m c main_arg9 (by decide)).trans ((P3_of m c main_arg9 (by decide)).trans ((P2_of m c main_arg9 (by decide)).trans ((P1_of m c main_arg9 (by decide)))))))))))))))))))))))))))
theorem v122_val (d : Fin 1536) (l : Fin 2048) : P27 m c (Proc.devRef .tc main_v122) (ix3 0 d l) = (∑ n : Fin 16, (((rIn m c).R0 (2048 - l.val) n d + (rIn m c).R1 l.val n d) * ((10066330 / 33554432 : ℝ) : EReal) + ((rIn m c).R0 (2048 - l.val) n d + (rIn m c).R1 l.val n d)) * (rIn m c).C l.val n) + (rIn m c).h l.val d * (rIn m c).D d := by
  refine (r_v122 (P26 m c) d l).trans ?_
  unfold E
  rw [k_v45_26, k_v41_26, k_arg9_26, v41_val]
  refine congrArg (· + (rIn m c).h l.val d * (rIn m c).D d) (Finset.sum_congr rfl fun n _ => ?_)
  rw [v113_val, v45_val, dd_row, nn_row, Fin.val_rev, show 2048 - (l.val + 1) + 1 = 2048 - l.val by omega, show 2047 - (2048 - (l.val + 1)) = l.val by omega]

theorem k_v3_27 : P27 m c (Proc.devRef .tc main_v3) = P1 m c (Proc.devRef .tc main_v3) := (P27_of m c main_v3 (by decide)).trans ((P26_of m c main_v3 (by decide)).trans ((P25_of m c main_v3 (by decide)).trans ((P24_of m c main_v3 (by decide)).trans ((P23_of m c main_v3 (by decide)).trans ((P22_of m c main_v3 (by decide)).trans ((P21_of m c main_v3 (by decide)).trans ((P20_of m c main_v3 (by decide)).trans ((P19_of m c main_v3 (by decide)).trans ((P18_of m c main_v3 (by decide)).trans ((P17_of m c main_v3 (by decide)).trans ((P16_of m c main_v3 (by decide)).trans ((P15_of m c main_v3 (by decide)).trans ((P14_of m c main_v3 (by decide)).trans ((P13_of m c main_v3 (by decide)).trans ((P12_of m c main_v3 (by decide)).trans ((P11_of m c main_v3 (by decide)).trans ((P10_of m c main_v3 (by decide)).trans ((P9_of m c main_v3 (by decide)).trans ((P8_of m c main_v3 (by decide)).trans ((P7_of m c main_v3 (by decide)).trans ((P6_of m c main_v3 (by decide)).trans ((P5_of m c main_v3 (by decide)).trans ((P4_of m c main_v3 (by decide)).trans ((P3_of m c main_v3 (by decide)).trans ((P2_of m c main_v3 (by decide)))))))))))))))))))))))))))
theorem v130_val (d : Fin 1536) (l : Fin 2048) : P28 m c (Proc.devRef .tc main_v130) (ix3 0 d l) = (rIn m c).yR l.val d := by
  refine (r_v130 (P27 m c) d l).trans ?_
  unfold E
  rw [v122_val, k_v3_27, v3_val]
  rfl

theorem k_arg10_28 : P28 m c (Proc.devRef .tc main_arg10) = arg m c main_arg10 := (P28_of m c main_arg10 (by decide)).trans ((P27_of m c main_arg10 (by decide)).trans ((P26_of m c main_arg10 (by decide)).trans ((P25_of m c main_arg10 (by decide)).trans ((P24_of m c main_arg10 (by decide)).trans ((P23_of m c main_arg10 (by decide)).trans ((P22_of m c main_arg10 (by decide)).trans ((P21_of m c main_arg10 (by decide)).trans ((P20_of m c main_arg10 (by decide)).trans ((P19_of m c main_arg10 (by decide)).trans ((P18_of m c main_arg10 (by decide)).trans ((P17_of m c main_arg10 (by decide)).trans ((P16_of m c main_arg10 (by decide)).trans ((P15_of m c main_arg10 (by decide)).trans ((P14_of m c main_arg10 (by decide)).trans ((P13_of m c main_arg10 (by decide)).trans ((P12_of m c main_arg10 (by decide)).trans ((P11_of m c main_arg10 (by decide)).trans ((P10_of m c main_arg10 (by decide)).trans ((P9_of m c main_arg10 (by decide)).trans ((P8_of m c main_arg10 (by decide)).trans ((P7_of m c main_arg10 (by decide)).trans ((P6_of m c main_arg10 (by decide)).trans ((P5_of m c main_arg10 (by decide)).trans ((P4_of m c main_arg10 (by decide)).trans ((P3_of m c main_arg10 (by decide)).trans ((P2_of m c main_arg10 (by decide)).trans ((P1_of m c main_arg10 (by decide)))))))))))))))))))))))))))))
theorem v132_val (l : Fin 2048) (e : Fin 768) : P29 m c (Proc.devRef .tc main_v132) (ix3 0 l e) = (rIn m c).outR l.val e := by
  refine (r_v132 (P28 m c) l e).trans (Finset.sum_congr rfl fun d _ => ?_)
  unfold E
  rw [v130_val, k_arg10_28]
  rfl

/-- The reference's result. -/
theorem out_at (l : Fin 2048) (e : Fin 768) : XF m c (Proc.devRef .tc main_v132) (ix3 0 l e) = (rIn m c).outR l.val e := v132_val m c l e

end Cert.ReferenceIdeal.Hand
-- ==== Proof.Finite.lean ====
/- The precondition: the arrays that reach the scans hold real numbers. -/
module

public import proofs.«01_k».proof.Defs
public import proofs.«01_k».proof.Proof.KernelIdealVal
public import Idealize.ShloMosaic.Lib.ReduceAll

@[expose] public section

noncomputable section

namespace Cert.Pre_finite_inputs.Hand

open Idealize.ShloMosaic
open Cert.Hand

/-- The precondition's shape relations. -/
theorem facts : Cert.Pre_finite_inputs.Facts where
  bcast_S_S1x2048x768 := by decide
  reducesTo_S1x2048x768_S_d0_1_2 := by decide
  h_S_ := by decide
  bcast_S_S768x3072 := by decide
  reducesTo_S768x3072_S_d0_1 := by decide
  bcast_S_S1536x4 := by decide
  reducesTo_S1536x4_S_d0_1 := by decide
  bcast_S_S1536 := by decide
  reducesTo_S1536_S_d0 := by decide
  bcast_S_S1536x80 := by decide
  reducesTo_S1536x80_S_d0_1 := by decide
  bcast_S_S48x1536 := by decide
  reducesTo_S48x1536_S_d0_1 := by decide

/-- An extended real of absolute value below infinity is a real number. -/
theorem re_of_abs {x : EReal} (h : max x (-x) < ⊤) : Re x := by
  induction x using EReal.rec with
  | bot => simp at h
  | coe r => exact ⟨r, rfl⟩
  | top => simp at h

theorem inf_word : (FloatOps.ofBits (F := Ideal) .f32 0x7F800000#32 : EReal) = ⊤ := by
  simp [Ideal.ofBits, Ideal.ieee]

/-- One array's part of the precondition, at an index. -/
theorem re_at {s : Shape} {ax : List (Fin s.rank)} (x : FVec Ideal s .f32) (hb : S_.BroadcastsInDim s (![] : Fin 0 → Fin s.rank)) (hr : s.ReducesTo ax S_) (hu : 0 < S_.numel)
    (e : Host.reduce IntOp.andi (cmpf .olt (Host.absf x) (broadcastInDim s ![] hb (constant S_ .f32 0x7F800000#32))) (constantI S_ 1 1#1) hr hu ix0 = 1#1) (i : s.Idx) : Re (x i) := by
  have : Subsingleton S_.Idx := ⟨fun a b => funext fun k => k.elim0⟩
  have h : Ideal.cmp .olt (max (x i) (-(x i))) (FloatOps.ofBits (F := Ideal) .f32 0x7F800000#32) = 1#1 := Host.reduce_andi_all _ _ hr hu _ e i
  rw [inf_word] at h
  refine re_of_abs ?_
  by_contra hn
  simp [Ideal.cmp, hn] at h

/-- The kernel's precondition makes the mathematics' inputs finite. -/
theorem ok (m : (ℓ : Loc Cert.KernelIdeal.nD Cert.KernelIdeal.τ Cert.KernelIdeal.sig) → Buf (Elt Ideal) ℓ)
    (h : Cert.Pre_KernelIdeal_finite_inputs (hPre_finite_inputs := facts) m) (c : Dev Cert.KernelIdeal.nD) : (Cert.KernelIdeal.Hand.kIn m c).Ok := by
  let _ := facts
  have e := congrFun (h c) ix0
  dsimp only [fn, fn_part1] at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  refine ⟨fun l k => ?_, fun k j => re_at _ _ _ _ h2 _, fun d k => re_at _ _ _ _ h3 _, fun d => re_at _ _ _ _ h4 _, fun d j => re_at _ _ _ _ h5 _,
    fun q d => re_at _ _ _ _ h6 _, fun d => re_at _ _ _ _ h7 _⟩
  show Re (if hl : l < 2048 then Cert.KernelIdeal.Hand.arg m c Cert.KernelIdeal.main_arg0 (ix3 0 ⟨l, hl⟩ k) else (0 : EReal))
  by_cases hl : l < 2048
  · rw [dif_pos hl]
    exact re_at _ _ _ _ h0 _
  · rw [dif_neg hl]
    exact Re.zero

end Cert.Pre_finite_inputs.Hand

end
-- ==== Proof.lean ====
/- The claims: the frames, the idealization, and the kernel's result against the reference's. -/
module

public import proofs.«01_k».proof.Defs
public import proofs.«01_k».proof.Proof.KernelRun
public import proofs.«01_k».proof.Proof.KernelIdealRun
public import proofs.«01_k».proof.Proof.RefRun
public import proofs.«01_k».proof.Proof.KernelIdealVal
public import proofs.«01_k».proof.Proof.RefVal
public import proofs.«01_k».proof.Proof.Finite
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel (hKernel := Cert.Kernel.Gen.facts) := fun m ρ _ =>
  (θ_run _ _ _).mono (fun _ h => ⟨fun c => (h.1 c).2, h.2⟩) (Cert.Kernel.Hand.run (F := Bits) m ρ)

/-- The ideal kernel's frame. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Hand.run (F := Ideal) m ρ)

/-- The reference's frame. -/
theorem frame_reference : Cert.quiescent_ReferenceIdeal (hReferenceIdeal := Cert.ReferenceIdeal.Gen.facts) := fun m ρ _ =>
  (θ_run _ _ _).mono (fun _ h => ⟨fun c => have k := (h.1 c).2
    ⟨k _ (by decide), k _ (by decide), k _ (by decide), k _ (by decide), k _ (by decide), k _ (by decide), k _ (by decide), k _ (by decide), k _ (by decide), k _ (by decide), k _ (by decide)⟩, h.2⟩)
    (Cert.ReferenceIdeal.Hand.run (F := Ideal) m ρ)

/-- The reference's inputs are the kernel's. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Hand.arg m' c Cert.ReferenceIdeal.main_arg0 = Cert.KernelIdeal.Hand.arg m c Cert.KernelIdeal.main_arg0)
    (h2 : Cert.ReferenceIdeal.Hand.arg m' c Cert.ReferenceIdeal.main_arg2 = Cert.KernelIdeal.Hand.arg m c Cert.KernelIdeal.main_arg2)
    (h3 : Cert.ReferenceIdeal.Hand.arg m' c Cert.ReferenceIdeal.main_arg3 = Cert.KernelIdeal.Hand.arg m c Cert.KernelIdeal.main_arg3)
    (h4 : Cert.ReferenceIdeal.Hand.arg m' c Cert.ReferenceIdeal.main_arg4 = Cert.KernelIdeal.Hand.arg m c Cert.KernelIdeal.main_arg4)
    (h5 : Cert.ReferenceIdeal.Hand.arg m' c Cert.ReferenceIdeal.main_arg5 = Cert.KernelIdeal.Hand.arg m c Cert.KernelIdeal.main_arg5)
    (h6 : Cert.ReferenceIdeal.Hand.arg m' c Cert.ReferenceIdeal.main_arg6 = Cert.KernelIdeal.Hand.arg m c Cert.KernelIdeal.main_arg6)
    (h7 : Cert.ReferenceIdeal.Hand.arg m' c Cert.ReferenceIdeal.main_arg7 = Cert.KernelIdeal.Hand.arg m c Cert.KernelIdeal.main_arg7)
    (h8 : Cert.ReferenceIdeal.Hand.arg m' c Cert.ReferenceIdeal.main_arg8 = Cert.KernelIdeal.Hand.arg m c Cert.KernelIdeal.main_arg8)
    (h9 : Cert.ReferenceIdeal.Hand.arg m' c Cert.ReferenceIdeal.main_arg9 = Cert.KernelIdeal.Hand.arg m c Cert.KernelIdeal.main_arg9)
    (h10 : Cert.ReferenceIdeal.Hand.arg m' c Cert.ReferenceIdeal.main_arg10 = Cert.KernelIdeal.Hand.arg m c Cert.KernelIdeal.main_arg10) :
    Cert.ReferenceIdeal.Hand.rIn m' c = Cert.KernelIdeal.Hand.kIn m c := by
  unfold Cert.ReferenceIdeal.Hand.rIn
  rw [h0, h2, h3, h4, h5, h6, h7, h8, h9, h10]
  rfl

/-- The ideal kernel and the reference end with the same array. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Hand.facts) := by
  intro m g m' g' hp ha
  refine ⟨fun c => Cert.KernelIdeal.Hand.W5 m g c (Proc.devRef .tc Cert.KernelIdeal.main_v10), ?_, ?_⟩
  · exact (θ_run _ _ _).mono (fun _ h c => h.1 c) (Cert.KernelIdeal.Hand.run (F := Ideal) m g)
  · refine (θ_run _ _ _).mono (fun r h c => ?_) (Cert.ReferenceIdeal.Hand.run (F := Ideal) m' g')
    have k := (h.1 c).2
    refine ⟨(h.1 c).1.trans (funext fun (j : Cert.KernelIdeal.S1x2048x768.Idx) => ?_),
      k _ (by decide), k _ (by decide), k _ (by decide), k _ (by decide), k _ (by decide), k _ (by decide), k _ (by decide), k _ (by decide), k _ (by decide), k _ (by decide), k _ (by decide)⟩
    obtain ⟨h0, -, h2, h3, h4, h5, h6, h7, h8, h9, h10⟩ := ha c
    obtain ⟨l, e, rfl⟩ : ∃ (l : Fin 2048) (e : Fin 768), j = ix3 0 l e := ⟨j 1, j 2, by
      rw [show (0 : Fin 1) = j 0 from Subsingleton.elim (α := Fin 1) _ _]
      exact ValueIdx.eq_ix3 j⟩
    refine (Cert.ReferenceIdeal.Hand.out_at m' c l e).trans (Eq.trans ?_ (Cert.KernelIdeal.Hand.v10_at m g c l e).symm)
    rw [inputs_eq m m' c h0 h2 h3 h4 h5 h6 h7 h8 h9 h10]
    exact (Cert.Hand.In.outK_eq (Cert.Pre_finite_inputs.Hand.ok m hp c) l.val l.isLt e).symm

theorem claim : Cert.Claim := ⟨Cert.Kernel.Gen.facts, Cert.KernelIdeal.Gen.facts, Cert.ReferenceIdeal.Gen.facts, Cert.Pre_finite_inputs.Hand.facts,
  frame_kernel, frame_ideal, fun m ρ _ => frame_ideal m ρ trivial, frame_reference, fun m ρ _ => frame_reference m ρ trivial,
  IdealRules.named_const.statement Cert.KernelIdeal.κ "tree_sum" .f32 0x3FA66666#32 ((21810381 / 16777216 : ℝ) : EReal) rfl, algebraic⟩

end Cert.Proof

end
